-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def preserves_Kernel_KernelIdeal : Prop :=
  IdealRules.named_const.Statement Cert.KernelIdeal.κ "gelu_kc" .f32 0xBDD2D3E8#32 (((((-2) * (6693141 / 8388608)) * (Real.log 2)⁻¹) * (12003091 / 268435456) : ℝ) : EReal)
  ∧ IdealRules.named_const.Statement Cert.KernelIdeal.κ "gelu_k" .f32 0xC0135761#32 ((((-2) * (6693141 / 8388608)) * (Real.log 2)⁻¹ : ℝ) : EReal)

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v112_1)) (v1 : (c : Dev Cert.Kernel3Ideal.nD) → Buf (Elt Ideal) ((c.tc : Thread Cert.Kernel3Ideal.nD Cert.Kernel3Ideal.τ).loc Cert.Kernel3Ideal.main_v112_2)) (v2 : (c : Dev Cert.Kernel3Ideal.nD) → Buf (Elt Ideal) ((c.tc : Thread Cert.Kernel3Ideal.nD Cert.Kernel3Ideal.τ).loc Cert.Kernel3Ideal.main_v112_3)) (v3 : (c : Dev Cert.Kernel3Ideal.nD) → Buf (Elt Ideal) ((c.tc : Thread Cert.Kernel3Ideal.nD Cert.Kernel3Ideal.τ).loc Cert.Kernel3Ideal.main_v112_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v112_1) = v0 c
          ∧ r.2.mem ((c.tc : Thread Cert.Kernel3Ideal.nD Cert.Kernel3Ideal.τ).loc Cert.Kernel3Ideal.main_v112_2) = v1 c
          ∧ r.2.mem ((c.tc : Thread Cert.Kernel3Ideal.nD Cert.Kernel3Ideal.τ).loc Cert.Kernel3Ideal.main_v112_3) = v2 c
          ∧ r.2.mem ((c.tc : Thread Cert.Kernel3Ideal.nD Cert.Kernel3Ideal.τ).loc Cert.Kernel3Ideal.main_v112_4) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v268) = v0 c
          ∧ r.2.mem ((c.tc : Thread Cert.Reference3Ideal.nD Cert.Reference3Ideal.τ).loc Cert.Reference3Ideal.main_v270) = v1 c
          ∧ r.2.mem ((c.tc : Thread Cert.Reference3Ideal.nD Cert.Reference3Ideal.τ).loc Cert.Reference3Ideal.main_v271) = v2 c
          ∧ r.2.mem ((c.tc : Thread Cert.Reference3Ideal.nD Cert.Reference3Ideal.τ).loc Cert.Reference3Ideal.main_v272) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Reference_ReferenceIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x1024 : Shape := ⟨3, ![2, 8192, 1024]⟩
abbrev S32x16x1024 : Shape := ⟨3, ![32, 16, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x128x128 : Shape := ⟨3, ![8, 128, 128]⟩
abbrev S8x16x16 : Shape := ⟨3, ![8, 16, 16]⟩
abbrev S1x8x1x16x1x16 : Shape := ⟨6, ![1, 8, 1, 16, 1, 16]⟩
abbrev S1x8x8x16x8x16 : Shape := ⟨6, ![1, 8, 8, 16, 8, 16]⟩
abbrev S8x16 : Shape := ⟨2, ![8, 16]⟩
abbrev S16x8 : Shape := ⟨2, ![16, 8]⟩
abbrev S16x8x128 : Shape := ⟨3, ![16, 8, 128]⟩
abbrev S16x1024 : Shape := ⟨2, ![16, 1024]⟩
abbrev S1x16x1x1024 : Shape := ⟨4, ![1, 16, 1, 1024]⟩
abbrev S8x16x1x1024 : Shape := ⟨4, ![8, 16, 1, 1024]⟩
abbrev S16384x1024 : Shape := ⟨2, ![16384, 1024]⟩
abbrev S512x1024 : Shape := ⟨2, ![512, 1024]⟩
abbrev S1024 : Shape := ⟨1, ![1024]⟩
abbrev S1024x2048 : Shape := ⟨2, ![1024, 2048]⟩
abbrev S1024x1024 : Shape := ⟨2, ![1024, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S512x128 : Shape := ⟨2, ![512, 128]⟩
abbrev S512x256 : Shape := ⟨2, ![512, 256]⟩
abbrev S256x1024 : Shape := ⟨2, ![256, 1024]⟩

abbrev nBuf : Space → Nat
  | .hbm => 37
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S32x16x1024, .f32⟩
  | .hbm, ⟨2, _⟩ => ⟨S1x1024, .f32⟩
  | .hbm, ⟨3, _⟩ => ⟨S1x1024x2048, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S8x128, .f32⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S8x128x128, .f32⟩
  | .hbm, ⟨13, _⟩ => ⟨S8x16x16, .f32⟩
  | .hbm, ⟨14, _⟩ => ⟨S1x8x1x16x1x16, .f32⟩
  | .hbm, ⟨15, _⟩ => ⟨S1x8x8x16x8x16, .f32⟩
  | .hbm, ⟨16, _⟩ => ⟨S8x128x128, .f32⟩
  | .hbm, ⟨17, _⟩ => ⟨S8x128, .f32⟩
  | .hbm, ⟨18, _⟩ => ⟨S8x16, .f32⟩
  | .hbm, ⟨19, _⟩ => ⟨S16x8, .f32⟩
  | .hbm, ⟨20, _⟩ => ⟨S16x8x128, .f32⟩
  | .hbm, ⟨21, _⟩ => ⟨S16x1024, .f32⟩
  | .hbm, ⟨22, _⟩ => ⟨S1x16x1x1024, .f32⟩
  | .hbm, ⟨23, _⟩ => ⟨S8x16x1x1024, .f32⟩
  | .hbm, ⟨24, _⟩ => ⟨S128x1024, .f32⟩
  | .hbm, ⟨25, _⟩ => ⟨S16384x1024, .f32⟩
  | .hbm, ⟨26, _⟩ => ⟨S512x1024, .f32⟩
  | .hbm, ⟨27, _⟩ => ⟨S1024, .f32⟩
  | .hbm, ⟨28, _⟩ => ⟨S1x1024, .f32⟩
  | .hbm, ⟨29, _⟩ => ⟨S1024x2048, .f32⟩
  | .hbm, ⟨30, _⟩ => ⟨S1024, .f32⟩
  | .hbm, ⟨31, _⟩ => ⟨S1x1024, .f32⟩
  | .hbm, ⟨32, _⟩ => ⟨S8x128x128, .f32⟩
  | .hbm, ⟨33, _⟩ => ⟨S1024x1024, .f32⟩
  | .hbm, ⟨34, _⟩ => ⟨S16384x1024, .f32⟩
  | .hbm, ⟨35, _⟩ => ⟨S512x1024, .f32⟩
  | .hbm, ⟨36, _⟩ => ⟨S512x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1x1024, .f32⟩
  | .local _ .vmem, ⟨4, _⟩ => ⟨S1024x2048, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S128x1024, .f32⟩
  | .local _ .vmem, ⟨9, _⟩ => ⟨S128x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v694 : BitVec 32 := Scalar.extui v0
  let c0_i32_289 : BitVec 32 := 0#32
  let v695 : BitVec 1 := Scalar.cmpi .ne v694 c0_i32_289
  v695

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "gelu_k" => some ((((-2) * (6693141 / 8388608)) * (Real.log 2)⁻¹ : ℝ) : EReal)
  | "gelu_kc" => some (((((-2) * (6693141 / 8388608)) * (Real.log 2)⁻¹) * (12003091 / 268435456) : ℝ) : EReal)
  | _ => none
-- ==== Reference.lean ====
abbrev S2x8192x1024 : Shape := ⟨3, ![2, 8192, 1024]⟩
abbrev S32x16x1024 : Shape := ⟨3, ![32, 16, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024x2048 : Shape := ⟨2, ![1024, 2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S128x128 : Shape := ⟨2, ![128, 128]⟩
abbrev S1x128x128 : Shape := ⟨3, ![1, 128, 128]⟩
abbrev S2x64x128x8x128 : Shape := ⟨5, ![2, 64, 128, 8, 128]⟩
abbrev S8x2x64x128x128 : Shape := ⟨5, ![8, 2, 64, 128, 128]⟩
abbrev S128x8 : Shape := ⟨2, ![128, 8]⟩
abbrev S1x1x128x8x1 : Shape := ⟨5, ![1, 1, 128, 8, 1]⟩
abbrev S32x16 : Shape := ⟨2, ![32, 16]⟩
abbrev S32x16x1 : Shape := ⟨3, ![32, 16, 1]⟩
abbrev S32x16x2048 : Shape := ⟨3, ![32, 16, 2048]⟩
abbrev S16x16 : Shape := ⟨2, ![16, 16]⟩
abbrev S1x16x16 : Shape := ⟨3, ![1, 16, 16]⟩
abbrev S8x16x16 : Shape := ⟨3, ![8, 16, 16]⟩
abbrev S32x1x16x8x128 : Shape := ⟨5, ![32, 1, 16, 8, 128]⟩
abbrev S8x32x1x128x16 : Shape := ⟨5, ![8, 32, 1, 128, 16]⟩
abbrev S8x16 : Shape := ⟨2, ![8, 16]⟩
abbrev S16x8 : Shape := ⟨2, ![16, 8]⟩
abbrev S1x1x16x8x1 : Shape := ⟨5, ![1, 1, 16, 8, 1]⟩
abbrev S16384x1024 : Shape := ⟨2, ![16384, 1024]⟩
abbrev S512x1024 : Shape := ⟨2, ![512, 1024]⟩

abbrev nBuf : Space → Nat
  | .hbm => 196
  | .vmem => 0
  | .smem => 0
  | _ => 0

abbrev hbmTy0_0 (i : Nat) : BufTy := match i % 128 with
  | 0 => ⟨S2x8192x1024, .f32⟩
  | 1 => ⟨S32x16x1024, .f32⟩
  | 2 => ⟨S1x1024, .f32⟩
  | 3 => ⟨S1x1024x2048, .f32⟩
  | 4 => ⟨S1x1024, .f32⟩
  | 5 => ⟨S1x8x128x128, .f32⟩
  | 6 => ⟨S1x8x128, .f32⟩
  | 7 => ⟨S1x1024x1024, .f32⟩
  | 8 => ⟨S1024x2048, .f32⟩
  | 9 => ⟨S1024, .f32⟩
  | 10 => ⟨S8x128x128, .f32⟩
  | 11 => ⟨S8x128, .f32⟩
  | 12 => ⟨S1024x1024, .f32⟩
  | 13 => ⟨S1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S2x8192x2048, .f32⟩
  | 31 => ⟨S2x8192x2048, .f32⟩
  | 32 => ⟨S2x8192x2048, .f32⟩
  | 33 => ⟨S_, .f32⟩
  | 34 => ⟨S2x8192x2048, .f32⟩
  | 35 => ⟨S2x8192x2048, .f32⟩
  | 36 => ⟨S2x8192x2048, .f32⟩
  | 37 => ⟨S_, .f32⟩
  | 38 => ⟨S2x8192x2048, .f32⟩
  | 39 => ⟨S2x8192x2048, .f32⟩
  | 40 => ⟨S2x8192x2048, .f32⟩
  | 41 => ⟨S_, .f32⟩
  | 42 => ⟨S2x8192x2048, .f32⟩
  | 43 => ⟨S2x8192x2048, .f32⟩
  | 44 => ⟨S_, .f32⟩
  | 45 => ⟨S2x8192x2048, .f32⟩
  | 46 => ⟨S2x8192x2048, .f32⟩
  | 47 => ⟨S2x8192x2048, .f32⟩
  | 48 => ⟨S2x8192x1024, .f32⟩
  | 49 => ⟨S2x8192x1024, .f32⟩
  | 50 => ⟨S_, .f32⟩
  | 51 => ⟨S2x8192, .f32⟩
  | 52 => ⟨S2x8192x1, .f32⟩
  | 53 => ⟨S_, .f32⟩
  | 54 => ⟨S2x8192x1, .f32⟩
  | 55 => ⟨S2x8192x1, .f32⟩
  | 56 => ⟨S2x8192x1024, .f32⟩
  | 57 => ⟨S2x8192x1024, .f32⟩
  | 58 => ⟨S2x8192x1024, .f32⟩
  | 59 => ⟨S_, .f32⟩
  | 60 => ⟨S2x8192, .f32⟩
  | 61 => ⟨S2x8192x1, .f32⟩
  | 62 => ⟨S_, .f32⟩
  | 63 => ⟨S2x8192x1, .f32⟩
  | 64 => ⟨S2x8192x1, .f32⟩
  | 65 => ⟨S_, .f32⟩
  | 66 => ⟨S2x8192x1, .f32⟩
  | 67 => ⟨S2x8192x1, .f32⟩
  | 68 => ⟨S2x8192x1, .f32⟩
  | 69 => ⟨S2x8192x1024, .f32⟩
  | 70 => ⟨S2x8192x1024, .f32⟩
  | 71 => ⟨S1x1x1024, .f32⟩
  | 72 => ⟨S2x8192x1024, .f32⟩
  | 73 => ⟨S2x8192x1024, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S1x128x128, .i1⟩
  | 86 => ⟨S_, .f32⟩
  | 87 => ⟨S_, .f32⟩
  | 88 => ⟨S8x128x128, .i1⟩
  | 89 => ⟨S8x128x128, .f32⟩
  | 90 => ⟨S8x128x128, .f32⟩
  | 91 => ⟨S2x64x128x8x128, .f32⟩
  | 92 => ⟨S8x2x64x128x128, .f32⟩
  | 93 => ⟨S2x64x128x8x128, .f32⟩
  | 94 => ⟨S128x8, .f32⟩
  | 95 => ⟨S1x1x128x8x1, .f32⟩
  | 96 => ⟨S2x64x128x8x128, .f32⟩
  | 97 => ⟨S2x64x128x8x128, .f32⟩
  | 98 => ⟨S2x8192x1024, .f32⟩
  | 99 => ⟨S2x8192x1024, .f32⟩
  | 100 => ⟨S2x8192x1024, .f32⟩
  | 101 => ⟨S1024, .f32⟩
  | 102 => ⟨S32x16x1024, .f32⟩
  | 103 => ⟨S_, .f32⟩
  | 104 => ⟨S32x16, .f32⟩
  | 105 => ⟨S32x16x1, .f32⟩
  | 106 => ⟨S_, .f32⟩
  | 107 => ⟨S32x16x1, .f32⟩
  | 108 => ⟨S32x16x1, .f32⟩
  | 109 => ⟨S_, .f32⟩
  | 110 => ⟨S32x16x1, .f32⟩
  | 111 => ⟨S32x16x1, .f32⟩
  | 112 => ⟨S32x16x1, .f32⟩
  | 113 => ⟨S32x16x1024, .f32⟩
  | 114 => ⟨S32x16x1024, .f32⟩
  | 115 => ⟨S1x1x1024, .f32⟩
  | 116 => ⟨S32x16x1024, .f32⟩
  | 117 => ⟨S32x16x1024, .f32⟩
  | 118 => ⟨S32x16x2048, .f32⟩
  | 119 => ⟨S32x16x2048, .f32⟩
  | 120 => ⟨S32x16x2048, .f32⟩
  | 121 => ⟨S_, .f32⟩
  | 122 => ⟨S32x16x2048, .f32⟩
  | 123 => ⟨S32x16x2048, .f32⟩
  | 124 => ⟨S32x16x2048, .f32⟩
  | 125 => ⟨S_, .f32⟩
  | 126 => ⟨S32x16x2048, .f32⟩
  | 127 => ⟨S32x16x2048, .f32⟩
  | _ => ⟨S2x8192x1024, .f32⟩

abbrev hbmTy0_1 (i : Nat) : BufTy := match i % 128 with
  | 0 => ⟨S32x16x2048, .f32⟩
  | 1 => ⟨S_, .f32⟩
  | 2 => ⟨S32x16x2048, .f32⟩
  | 3 => ⟨S32x16x2048, .f32⟩
  | 4 => ⟨S_, .f32⟩
  | 5 => ⟨S32x16x2048, .f32⟩
  | 6 => ⟨S32x16x2048, .f32⟩
  | 7 => ⟨S32x16x2048, .f32⟩
  | 8 => ⟨S32x16x1024, .f32⟩
  | 9 => ⟨S32x16x1024, .f32⟩
  | 10 => ⟨S_, .f32⟩
  | 11 => ⟨S32x16, .f32⟩
  | 12 => ⟨S32x16x1, .f32⟩
  | 13 => ⟨S_, .f32⟩
  | 14 => ⟨S32x16x1, .f32⟩
  | 15 => ⟨S32x16x1, .f32⟩
  | 16 => ⟨S32x16x1024, .f32⟩
  | 17 => ⟨S32x16x1024, .f32⟩
  | 18 => ⟨S32x16x1024, .f32⟩
  | 19 => ⟨S_, .f32⟩
  | 20 => ⟨S32x16, .f32⟩
  | 21 => ⟨S32x16x1, .f32⟩
  | 22 => ⟨S_, .f32⟩
  | 23 => ⟨S32x16x1, .f32⟩
  | 24 => ⟨S32x16x1, .f32⟩
  | 25 => ⟨S_, .f32⟩
  | 26 => ⟨S32x16x1, .f32⟩
  | 27 => ⟨S32x16x1, .f32⟩
  | 28 => ⟨S32x16x1, .f32⟩
  | 29 => ⟨S32x16x1024, .f32⟩
  | 30 => ⟨S32x16x1024, .f32⟩
  | 31 => ⟨S1x1x1024, .f32⟩
  | 32 => ⟨S32x16x1024, .f32⟩
  | 33 => ⟨S32x16x1024, .f32⟩
  | 34 => ⟨S_, .i1⟩
  | 35 => ⟨S16x16, .i1⟩
  | 36 => ⟨S16x16, .i32⟩
  | 37 => ⟨S_, .i32⟩
  | 38 => ⟨S16x16, .i32⟩
  | 39 => ⟨S16x16, .i32⟩
  | 40 => ⟨S16x16, .i32⟩
  | 41 => ⟨S16x16, .i1⟩
  | 42 => ⟨S_, .i1⟩
  | 43 => ⟨S16x16, .i1⟩
  | 44 => ⟨S16x16, .i1⟩
  | 45 => ⟨S1x16x16, .i1⟩
  | 46 => ⟨S8x16x16, .f32⟩
  | 47 => ⟨S_, .f32⟩
  | 48 => ⟨S_, .f32⟩
  | 49 => ⟨S8x16x16, .i1⟩
  | 50 => ⟨S8x16x16, .f32⟩
  | 51 => ⟨S8x16x16, .f32⟩
  | 52 => ⟨S32x1x16x8x128, .f32⟩
  | 53 => ⟨S8x32x1x128x16, .f32⟩
  | 54 => ⟨S32x1x16x8x128, .f32⟩
  | 55 => ⟨S8x16, .f32⟩
  | 56 => ⟨S16x8, .f32⟩
  | 57 => ⟨S1x1x16x8x1, .f32⟩
  | 58 => ⟨S32x1x16x8x128, .f32⟩
  | 59 => ⟨S32x1x16x8x128, .f32⟩
  | 60 => ⟨S32x16x1024, .f32⟩
  | 61 => ⟨S32x16x1024, .f32⟩
  | 62 => ⟨S32x16x1024, .f32⟩
  | 63 => ⟨S2x8192x1024, .f32⟩
  | 64 => ⟨S16384x1024, .f32⟩
  | 65 => ⟨S32x16x1024, .f32⟩
  | 66 => ⟨S512x1024, .f32⟩
  | 67 => ⟨S512x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_24 : Ref sig .tc := ⟨.hbm, 162, rfl⟩
abbrev main_v117 : Ref sig .tc := ⟨.hbm, 163, rfl⟩
abbrev main_call2_v0 : Ref sig .tc := ⟨.hbm, 164, rfl⟩
abbrev main_call2_c : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_c_0 : Ref sig .tc := ⟨.hbm, 170, rfl⟩
abbrev main_call2_v5 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_25 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩

abbrev nD : Nat := 1
abbrev τ : Topo := Topo.v7x

variable {F : FTy → Type} [FloatOps F]
-- ==== Kernel2.lean ====
abbrev S2x8192x1024 : Shape := ⟨3, ![2, 8192, 1024]⟩
abbrev S32x16x1024 : Shape := ⟨3, ![32, 16, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1x1024 : Shape := ⟨3, ![2, 1, 1024]⟩
abbrev S16384x1024 : Shape := ⟨2, ![16384, 1024]⟩
abbrev S512x1024 : Shape := ⟨2, ![512, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S32x16x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S2x1x1024, .f32⟩
  | .hbm, ⟨6, _⟩ => ⟨S16384x1024, .f32⟩
  | .hbm, ⟨7, _⟩ => ⟨S512x1024, .f32⟩
  | .hbm, ⟨8, _⟩ => ⟨S16384x1024, .f32⟩
  | .hbm, ⟨9, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1x1024, .f32⟩
  | .local _ .vmem, ⟨4, _⟩ => ⟨S1x1024x4096, .f32⟩
  | .local _ .vmem, ⟨5, _⟩ => ⟨S1x4096x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32_44 : BitVec 32 := 0#32
  let v75 : BitVec 1 := Scalar.cmpi .eq arg0 c0_i32_44
  let v76 : BitVec 32 := Scalar.extui v75
  let c0_i32_45 : BitVec 32 := 0#32
  let v77 : BitVec 1 := Scalar.cmpi .ne v76 c0_i32_45
  v77

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2x8192x1024 : Shape := ⟨3, ![2, 8192, 1024]⟩
abbrev S32x16x1024 : Shape := ⟨3, ![32, 16, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S2x8192x4096 : Shape := ⟨3, ![2, 8192, 4096]⟩
abbrev S32x16 : Shape := ⟨2, ![32, 16]⟩
abbrev S32x16x1 : Shape := ⟨3, ![32, 16, 1]⟩
abbrev S32x16x4096 : Shape := ⟨3, ![32, 16, 4096]⟩
abbrev S16384x1024 : Shape := ⟨2, ![16384, 1024]⟩
abbrev S512x1024 : Shape := ⟨2, ![512, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S32x16x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x4096, .f32⟩
  | .hbm, ⟨24, _⟩ => ⟨S1024x4096, .f32⟩
  | .hbm, ⟨25, _⟩ => ⟨S1x4096x1024, .f32⟩
  | .hbm, ⟨26, _⟩ => ⟨S4096x1024, .f32⟩
  | .hbm, ⟨27, _⟩ => ⟨S2x8192x4096, .f32⟩
  | .hbm, ⟨28, _⟩ => ⟨S_, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S2x8192x1024, .f32⟩
  | .hbm, ⟨33, _⟩ => ⟨S2x8192x1024, .f32⟩
  | .hbm, ⟨34, _⟩ => ⟨S1x1024, .f32⟩
  | .hbm, ⟨35, _⟩ => ⟨S1024, .f32⟩
  | .hbm, ⟨36, _⟩ => ⟨S32x16x1024, .f32⟩
  | .hbm, ⟨37, _⟩ => ⟨S_, .f32⟩
  | .hbm, ⟨38, _⟩ => ⟨S32x16, .f32⟩
  | .hbm, ⟨39, _⟩ => ⟨S32x16x1, .f32⟩
  | .hbm, ⟨40, _⟩ => ⟨S_, .f32⟩
  | .hbm, ⟨41, _⟩ => ⟨S32x16x1, .f32⟩
  | .hbm, ⟨42, _⟩ => ⟨S32x16x1, .f32⟩
  | .hbm, ⟨43, _⟩ => ⟨S_, .f32⟩
  | .hbm, ⟨44, _⟩ => ⟨S32x16x1, .f32⟩
  | .hbm, ⟨45, _⟩ => ⟨S32x16x1, .f32⟩
  | .hbm, ⟨46, _⟩ => ⟨S32x16x1, .f32⟩
  | .hbm, ⟨47, _⟩ => ⟨S32x16x1024, .f32⟩
  | .hbm, ⟨48, _⟩ => ⟨S32x16x1024, .f32⟩
  | .hbm, ⟨49, _⟩ => ⟨S1x1x1024, .f32⟩
  | .hbm, ⟨50, _⟩ => ⟨S32x16x1024, .f32⟩
  | .hbm, ⟨51, _⟩ => ⟨S32x16x1024, .f32⟩
  | .hbm, ⟨52, _⟩ => ⟨S1x1024x4096, .f32⟩
  | .hbm, ⟨53, _⟩ => ⟨S1024x4096, .f32⟩
  | .hbm, ⟨54, _⟩ => ⟨S1x4096x1024, .f32⟩
  | .hbm, ⟨55, _⟩ => ⟨S4096x1024, .f32⟩
  | .hbm, ⟨56, _⟩ => ⟨S32x16x4096, .f32⟩
  | .hbm, ⟨57, _⟩ => ⟨S_, .f32⟩
  | .hbm, ⟨58, _⟩ => ⟨S32x16x4096, .f32⟩
  | .hbm, ⟨59, _⟩ => ⟨S32x16x4096, .f32⟩
  | .hbm, ⟨60, _⟩ => ⟨S32x16x4096, .f32⟩
  | .hbm, ⟨61, _⟩ => ⟨S32x16x1024, .f32⟩
  | .hbm, ⟨62, _⟩ => ⟨S32x16x1024, .f32⟩
  | .hbm, ⟨63, _⟩ => ⟨S16384x1024, .f32⟩
  | .hbm, ⟨64, _⟩ => ⟨S512x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call1_cst : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel3.lean ====
abbrev S32x16x1024 : Shape := ⟨3, ![32, 16, 1024]⟩
abbrev S1x32x128x2x64 : Shape := ⟨5, ![1, 32, 128, 2, 64]⟩
abbrev S1x32x512 : Shape := ⟨3, ![1, 32, 512]⟩
abbrev S1x32x3x512 : Shape := ⟨4, ![1, 32, 3, 512]⟩
abbrev S1x1024 : Shape := ⟨2, ![1, 1024]⟩
abbrev S1x1024x1792 : Shape := ⟨3, ![1, 1024, 1792]⟩
abbrev S1x64 : Shape := ⟨2, ![1, 64]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S1x1024x1024 : Shape := ⟨3, ![1, 1024, 1024]⟩
abbrev S1024 : Shape := ⟨1, ![1024]⟩
abbrev S1024x1792 : Shape := ⟨2, ![1024, 1792]⟩
abbrev S1024x640 : Shape := ⟨2, ![1024, 640]⟩
abbrev S1024x10x2x32 : Shape := ⟨4, ![1024, 10, 2, 32]⟩
abbrev S1024x2432 : Shape := ⟨2, ![1024, 2432]⟩
abbrev S1x1x2x32 : Shape := ⟨4, ![1, 1, 2, 32]⟩
abbrev S2x64 : Shape := ⟨2, ![2, 64]⟩
abbrev S1x2x1x64 : Shape := ⟨4, ![1, 2, 1, 64]⟩
abbrev S1x2x2x64 : Shape := ⟨4, ![1, 2, 2, 64]⟩
abbrev S2x128 : Shape := ⟨2, ![2, 128]⟩
abbrev S1x8x64 : Shape := ⟨3, ![1, 8, 64]⟩
abbrev S4x128 : Shape := ⟨2, ![4, 128]⟩
abbrev S4x512 : Shape := ⟨2, ![4, 512]⟩
abbrev S512 : Shape := ⟨1, ![512]⟩
abbrev S8x64x64 : Shape := ⟨3, ![8, 64, 64]⟩
abbrev S4x4 : Shape := ⟨2, ![4, 4]⟩
abbrev S_ : Shape := ⟨0, ![]⟩
abbrev S4x64x64 : Shape := ⟨3, ![4, 64, 64]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S1x256x512 : Shape := ⟨3, ![1, 256, 512]⟩
abbrev S2x256x512 : Shape := ⟨3, ![2, 256, 512]⟩
abbrev S1024x1024 : Shape := ⟨2, ![1024, 1024]⟩
abbrev S16 : Shape := ⟨1, ![16]⟩
abbrev S32 : Shape := ⟨1, ![32]⟩
abbrev S128 : Shape := ⟨1, ![128]⟩
abbrev S1x128 : Shape := ⟨2, ![1, 128]⟩
abbrev S16x1 : Shape := ⟨2, ![16, 1]⟩
abbrev S16x128 : Shape := ⟨2, ![16, 128]⟩
abbrev S1x16x1x128 : Shape := ⟨4, ![1, 16, 1, 128]⟩
abbrev S32x16x1x128 : Shape := ⟨4, ![32, 16, 1, 128]⟩
abbrev S512x128 : Shape := ⟨2, ![512, 128]⟩
abbrev S32x128x2x64 : Shape := ⟨4, ![32, 128, 2, 64]⟩
abbrev S32x128x128 : Shape := ⟨3, ![32, 128, 128]⟩
abbrev S32x512 : Shape := ⟨2, ![32, 512]⟩
abbrev S32x16x512 : Shape := ⟨3, ![32, 16, 512]⟩
abbrev S512x512 : Shape := ⟨2, ![512, 512]⟩
abbrev S32x3x512 : Shape := ⟨3, ![32, 3, 512]⟩
abbrev S512x1024 : Shape := ⟨2, ![512, 1024]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S1024x128 : Shape := ⟨2, ![1024, 128]⟩
abbrev S128x128 : Shape := ⟨2, ![128, 128]⟩
abbrev S32x384 : Shape := ⟨2, ![32, 384]⟩
abbrev S384x128 : Shape := ⟨2, ![384, 128]⟩
abbrev S48x128 : Shape := ⟨2, ![48, 128]⟩
abbrev S32x128 : Shape := ⟨2, ![32, 128]⟩
abbrev S1x128x128 : Shape := ⟨3, ![1, 128, 128]⟩
abbrev S112x128 : Shape := ⟨2, ![112, 128]⟩
abbrev S1x112x128 : Shape := ⟨3, ![1, 112, 128]⟩
abbrev S1x16x128 : Shape := ⟨3, ![1, 16, 128]⟩
abbrev S192x128 : Shape := ⟨2, ![192, 128]⟩
abbrev S64x128 : Shape := ⟨2, ![64, 128]⟩
abbrev S384x256 : Shape := ⟨2, ![384, 256]⟩
abbrev S32x1 : Shape := ⟨2, ![32, 1]⟩
abbrev S32x256 : Shape := ⟨2, ![32, 256]⟩

abbrev nBuf : Space → Nat
  | .hbm => 162
  | .vmem => 28
  | .smem => 0
  | _ => 0

abbrev hbmTy0_0 (i : Nat) : BufTy := match i % 128 with
  | 0 => ⟨S32x16x1024, .f32⟩
  | 1 => ⟨S1x32x128x2x64, .f32⟩
  | 2 => ⟨S1x32x128x2x64, .f32⟩
  | 3 => ⟨S1x32x512, .f32⟩
  | 4 => ⟨S1x32x3x512, .f32⟩
  | 5 => ⟨S1x1024, .f32⟩
  | 6 => ⟨S1x1024x1792, .f32⟩
  | 7 => ⟨S1x64, .f32⟩
  | 8 => ⟨S1x64, .f32⟩
  | 9 => ⟨S1x8, .f32⟩
  | 10 => ⟨S1x4x512, .f32⟩
  | 11 => ⟨S1x512, .f32⟩
  | 12 => ⟨S1x8x64x64, .f32⟩
  | 13 => ⟨S1x512, .f32⟩
  | 14 => ⟨S1x8x64x64, .f32⟩
  | 15 => ⟨S1x512, .f32⟩
  | 16 => ⟨S1x512, .f32⟩
  | 17 => ⟨S1x1024x1024, .f32⟩
  | 18 => ⟨S1024, .f32⟩
  | 19 => ⟨S1x1024, .f32⟩
  | 20 => ⟨S1024x1792, .f32⟩
  | 21 => ⟨S1024x1792, .f32⟩
  | 22 => ⟨S1024x640, .f32⟩
  | 23 => ⟨S1024x10x2x32, .f32⟩
  | 24 => ⟨S1024x10x2x32, .f32⟩
  | 25 => ⟨S1024x640, .f32⟩
  | 26 => ⟨S1024x2432, .f32⟩
  | 27 => ⟨S1024x2432, .bf16⟩
  | 28 => ⟨S1x1x2x32, .f32⟩
  | 29 => ⟨S1x1x2x32, .f32⟩
  | 30 => ⟨S1x64, .f32⟩
  | 31 => ⟨S2x64, .f32⟩
  | 32 => ⟨S1x2x1x64, .f32⟩
  | 33 => ⟨S1x2x2x64, .f32⟩
  | 34 => ⟨S2x128, .f32⟩
  | 35 => ⟨S1x1x2x32, .f32⟩
  | 36 => ⟨S1x1x2x32, .f32⟩
  | 37 => ⟨S1x64, .f32⟩
  | 38 => ⟨S2x64, .f32⟩
  | 39 => ⟨S1x2x1x64, .f32⟩
  | 40 => ⟨S1x2x2x64, .f32⟩
  | 41 => ⟨S2x128, .f32⟩
  | 42 => ⟨S1x8x64, .f32⟩
  | 43 => ⟨S1x512, .f32⟩
  | 44 => ⟨S4x128, .f32⟩
  | 45 => ⟨S4x512, .f32⟩
  | 46 => ⟨S512, .f32⟩
  | 47 => ⟨S1x512, .f32⟩
  | 48 => ⟨S8x64x64, .f32⟩
  | 49 => ⟨S8x64x64, .f32⟩
  | 50 => ⟨S4x4, .i32⟩
  | 51 => ⟨S4x4, .i32⟩
  | 52 => ⟨S_, .i32⟩
  | 53 => ⟨S4x4, .i32⟩
  | 54 => ⟨S4x4, .i32⟩
  | 55 => ⟨S4x4, .i1⟩
  | 56 => ⟨S4x64x64, .f32⟩
  | 57 => ⟨S4x1x4x1, .i1⟩
  | 58 => ⟨S4x64x1x64, .f32⟩
  | 59 => ⟨S_, .f32⟩
  | 60 => ⟨S_, .f32⟩
  | 61 => ⟨S4x64x4x64, .i1⟩
  | 62 => ⟨S4x64x4x64, .f32⟩
  | 63 => ⟨S4x64x4x64, .f32⟩
  | 64 => ⟨S4x64x4x64, .f32⟩
  | 65 => ⟨S256x256, .f32⟩
  | 66 => ⟨S4x64x64, .f32⟩
  | 67 => ⟨S4x1x4x1, .i1⟩
  | 68 => ⟨S4x64x1x64, .f32⟩
  | 69 => ⟨S_, .f32⟩
  | 70 => ⟨S_, .f32⟩
  | 71 => ⟨S4x64x4x64, .i1⟩
  | 72 => ⟨S4x64x4x64, .f32⟩
  | 73 => ⟨S4x64x4x64, .f32⟩
  | 74 => ⟨S4x64x4x64, .f32⟩
  | 75 => ⟨S256x256, .f32⟩
  | 76 => ⟨S256x512, .f32⟩
  | 77 => ⟨S4x64x64, .f32⟩
  | 78 => ⟨S4x1x4x1, .i1⟩
  | 79 => ⟨S4x64x1x64, .f32⟩
  | 80 => ⟨S_, .f32⟩
  | 81 => ⟨S_, .f32⟩
  | 82 => ⟨S4x64x4x64, .i1⟩
  | 83 => ⟨S4x64x4x64, .f32⟩
  | 84 => ⟨S4x64x4x64, .f32⟩
  | 85 => ⟨S4x64x4x64, .f32⟩
  | 86 => ⟨S256x256, .f32⟩
  | 87 => ⟨S4x64x64, .f32⟩
  | 88 => ⟨S4x1x4x1, .i1⟩
  | 89 => ⟨S4x64x1x64, .f32⟩
  | 90 => ⟨S_, .f32⟩
  | 91 => ⟨S_, .f32⟩
  | 92 => ⟨S4x64x4x64, .i1⟩
  | 93 => ⟨S4x64x4x64, .f32⟩
  | 94 => ⟨S4x64x4x64, .f32⟩
  | 95 => ⟨S4x64x4x64, .f32⟩
  | 96 => ⟨S256x256, .f32⟩
  | 97 => ⟨S256x512, .f32⟩
  | 98 => ⟨S1x256x512, .f32⟩
  | 99 => ⟨S1x256x512, .f32⟩
  | 100 => ⟨S2x256x512, .f32⟩
  | 101 => ⟨S2x256x512, .bf16⟩
  | 102 => ⟨S512, .f32⟩
  | 103 => ⟨S1x512, .f32⟩
  | 104 => ⟨S512, .f32⟩
  | 105 => ⟨S1x512, .f32⟩
  | 106 => ⟨S512, .f32⟩
  | 107 => ⟨S1x512, .f32⟩
  | 108 => ⟨S1024x1024, .f32⟩
  | 109 => ⟨S16, .i32⟩
  | 110 => ⟨S_, .i32⟩
  | 111 => ⟨S16, .i32⟩
  | 112 => ⟨S16, .i32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S128, .f32⟩
  | 124 => ⟨S1x128, .f32⟩
  | 125 => ⟨S32, .f32⟩
  | 126 => ⟨S32, .f32⟩
  | 127 => ⟨S128, .f32⟩
  | _ => ⟨S32x16x1024, .f32⟩

abbrev hbmTy0_1 (i : Nat) : BufTy := match i % 128 with
  | 0 => ⟨S1x128, .f32⟩
  | 1 => ⟨S16, .f32⟩
  | 2 => ⟨S16x1, .f32⟩
  | 3 => ⟨S16x128, .f32⟩
  | 4 => ⟨S16x128, .f32⟩
  | 5 => ⟨S16x128, .f32⟩
  | 6 => ⟨S16x128, .f32⟩
  | 7 => ⟨S16x128, .f32⟩
  | 8 => ⟨S16x128, .f32⟩
  | 9 => ⟨S16x128, .f32⟩
  | 10 => ⟨S1x16x1x128, .f32⟩
  | 11 => ⟨S32x16x1x128, .f32⟩
  | 12 => ⟨S512x128, .f32⟩
  | 13 => ⟨S1x16x1x128, .f32⟩
  | 14 => ⟨S32x16x1x128, .f32⟩
  | 15 => ⟨S512x128, .f32⟩
  | 16 => ⟨S32x128x2x64, .f32⟩
  | 17 => ⟨S32x128x128, .f32⟩
  | 18 => ⟨S32x128x2x64, .f32⟩
  | 19 => ⟨S32x128x128, .f32⟩
  | 20 => ⟨S32x512, .f32⟩
  | 21 => ⟨S32x16x512, .f32⟩
  | 22 => ⟨S512x512, .f32⟩
  | 23 => ⟨S32x3x512, .f32⟩
  | 24 => ⟨S_, .i32⟩
  | 25 => ⟨S_, .f32⟩
  | 26 => ⟨S32x16x512, .f32⟩
  | 27 => ⟨S512x512, .f32⟩
  | 28 => ⟨S512x1024, .f32⟩
  | 29 => ⟨S512x1024, .f32⟩
  | 30 => ⟨S32x128x128, .f32⟩
  | 31 => ⟨S32x128x128, .f32⟩
  | 32 => ⟨S512x512, .f32⟩
  | 33 => ⟨S512x512, .f32⟩
  | _ => ⟨S32x16x1024, .f32⟩

abbrev hbmTy (i : Nat) : BufTy := match i / 128 with
  | 0 => hbmTy0_0 i
  | 1 => hbmTy0_1 i
  | _ => ⟨S32x16x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x128, .f32⟩
  | .local _ .vmem, ⟨2, _⟩ => ⟨S512x128, .f32⟩
  | .local _ .vmem, ⟨3, _⟩ => ⟨S32x128x128, .f32⟩
  | .local _ .vmem, ⟨4, _⟩ => ⟨S32x128x128, .f32⟩
  | .local _ .vmem, ⟨5, _⟩ => ⟨S512x512, .f32⟩
  | .local _ .vmem, ⟨6, _⟩ => ⟨S512x512, .f32⟩
  | .local _ .vmem, ⟨7, _⟩ => ⟨S1x1024, .f32⟩
  | .local _ .vmem, ⟨8, _⟩ => ⟨S1024x2432, .bf16⟩
  | .local _ .vmem, ⟨9, _⟩ => ⟨S2x128, .f32⟩
  | .local _ .vmem, ⟨10, _⟩ => ⟨S2x128, .f32⟩
  | .local _ .vmem, ⟨11, _⟩ => ⟨S4x128, .f32⟩
  | .local _ .vmem, ⟨12, _⟩ => ⟨S4x512, .f32⟩
  | .local _ .vmem, ⟨13, _⟩ => ⟨S1x512, .f32⟩
  | .local _ .vmem, ⟨14, _⟩ => ⟨S2x256x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x1024, .f32⟩
  | .local _ .vmem, ⟨19, _⟩ => ⟨S512x1024, .f32⟩
  | .local _ .vmem, ⟨20, _⟩ => ⟨S32x128x128, .f32⟩
  | .local _ .vmem, ⟨21, _⟩ => ⟨S32x128x128, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x128, .f32⟩
  | .local _ .vmem, ⟨26, _⟩ => ⟨S512x128, .f32⟩
  | .local _ .vmem, ⟨27, _⟩ => ⟨S512x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_0 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_1 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_2 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_3 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_4 : Ref sig .tc := ⟨.hbm, 115, rfl⟩
abbrev main_v75 : Ref sig .tc := ⟨.hbm, 116, rfl⟩
abbrev main_v76 : Ref sig .tc := ⟨.hbm, 117, rfl⟩
abbrev main_cst_5 : Ref sig .tc := ⟨.hbm, 118, rfl⟩
abbrev main_v77 : Ref sig .tc := ⟨.hbm, 119, rfl⟩
abbrev main_v78 : Ref sig .tc := ⟨.hbm, 120, rfl⟩
abbrev main_cst_6 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_7 : Ref sig .tc := ⟨.hbm, 152, rfl⟩
abbrev main_call4_v0 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112_0 : Ref sig .tc := ⟨.hbm, 157, rfl⟩
abbrev main_v112_1 : Ref sig .tc := ⟨.hbm, 158, rfl⟩
abbrev main_v112_2 : Ref sig .tc := ⟨.hbm, 159, rfl⟩
abbrev main_v112_3 : Ref sig .tc := ⟨.hbm, 160, rfl⟩
abbrev main_v112_4 : Ref sig .tc := ⟨.hbm, 161, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_99 : BitVec 32 := 0#32
  let c4_i32 : BitVec 32 := 4#32
  let v314 : BitVec 32 := Scalar.addi c0_i32_99 c4_i32
  let c1_i32_100 : BitVec 32 := 1#32
  ⟨c0_i32_99, v314, c1_i32_100⟩
def k0_mult1 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let c0_i32_289 : BitVec 32 := 0#32
  let v843 : BitVec 32 := Scalar.addi v842 c0_i32_289
  let c16_i32_290 : BitVec 32 := 16#32
  let v844 : BitVec 32 := Scalar.muli v843 c16_i32_290
  v844
def k0_off1 (k0_t1 : Fin k0_t1_loop.trips) (c0_i32_289 : BitVec 32) : Fin 3 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let v846 : Index := Scalar.indexCast v843
  let c0_291 : Index := 0#32
  let c0_292 : Index := 0#32
  ![v846.toNat, 0, 0]
def k0_off2 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v852 : Index := Scalar.indexCast v845
  let c0_295 : Index := 0#32
  ![v852.toNat, 0]
def k0_off3 (k0_t1 : Fin k0_t1_loop.trips) (c0_i32_289 : BitVec 32) : Fin 3 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let v857 : Index := Scalar.indexCast v843
  let c0_297 : Index := 0#32
  let c0_298 : Index := 0#32
  ![v857.toNat, 0, 0]
def k0_off4 (k0_t1 : Fin k0_t1_loop.trips) (c0_i32_289 : BitVec 32) : Fin 3 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let v861 : Index := Scalar.indexCast v843
  let c112 : Index := 112#32
  let c0_299 : Index := 0#32
  ![v861.toNat, 112, 0]
def k0_off5 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v917 : Index := Scalar.indexCast v845
  let c0_316 : Index := 0#32
  ![v917.toNat, 0]
def k0_off6 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v919 : Index := Scalar.indexCast v845
  let c128_317 : Index := 128#32
  ![v919.toNat, 128]
def k0_off7 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v943 : Index := Scalar.indexCast v845
  let c256_320 : Index := 256#32
  ![v943.toNat, 256]
def k0_off8 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v945 : Index := Scalar.indexCast v845
  let c384_321 : Index := 384#32
  ![v945.toNat, 384]
def k0_mult2 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_324 : BitVec 32 := 8#32
  let v952 : BitVec 32 := Scalar.muli arg29 c8_i32_324
  let c1_i32_325 : BitVec 32 := 1#32
  let v953 : BitVec 32 := Scalar.addi v952 c1_i32_325
  let c16_i32_326 : BitVec 32 := 16#32
  let v954 : BitVec 32 := Scalar.muli v953 c16_i32_326
  v954
def k0_mult3 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_361 : BitVec 32 := 8#32
  let v1062 : BitVec 32 := Scalar.muli arg29 c8_i32_361
  let c2_i32_362 : BitVec 32 := 2#32
  let v1063 : BitVec 32 := Scalar.addi v1062 c2_i32_362
  let c16_i32_363 : BitVec 32 := 16#32
  let v1064 : BitVec 32 := Scalar.muli v1063 c16_i32_363
  v1064
def k0_mult4 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_398 : BitVec 32 := 8#32
  let v1172 : BitVec 32 := Scalar.muli arg29 c8_i32_398
  let c3_i32_399 : BitVec 32 := 3#32
  let v1173 : BitVec 32 := Scalar.addi v1172 c3_i32_399
  let c16_i32_400 : BitVec 32 := 16#32
  let v1174 : BitVec 32 := Scalar.muli v1173 c16_i32_400
  v1174
def k0_mult5 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_435 : BitVec 32 := 8#32
  let v1282 : BitVec 32 := Scalar.muli arg29 c8_i32_435
  let c4_i32_436 : BitVec 32 := 4#32
  let v1283 : BitVec 32 := Scalar.addi v1282 c4_i32_436
  let c16_i32_437 : BitVec 32 := 16#32
  let v1284 : BitVec 32 := Scalar.muli v1283 c16_i32_437
  v1284
def k0_mult6 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_472 : BitVec 32 := 8#32
  let v1392 : BitVec 32 := Scalar.muli arg29 c8_i32_472
  let c5_i32 : BitVec 32 := 5#32
  let v1393 : BitVec 32 := Scalar.addi v1392 c5_i32
  let c16_i32_473 : BitVec 32 := 16#32
  let v1394 : BitVec 32 := Scalar.muli v1393 c16_i32_473
  v1394
def k0_mult7 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_508 : BitVec 32 := 8#32
  let v1502 : BitVec 32 := Scalar.muli arg29 c8_i32_508
  let c6_i32 : BitVec 32 := 6#32
  let v1503 : BitVec 32 := Scalar.addi v1502 c6_i32
  let c16_i32_509 : BitVec 32 := 16#32
  let v1504 : BitVec 32 := Scalar.muli v1503 c16_i32_509
  v1504
def k0_mult8 (k0_t1 : Fin k0_t1_loop.trips) : BitVec 32 :=
  let c0_i32_99 : BitVec 32 := 0#32
  let c1_i32_100 : BitVec 32 := 1#32
  let arg29 : BitVec 32 := Scf.iv c0_i32_99 c1_i32_100 k0_t1
  let c8_i32_544 : BitVec 32 := 8#32
  let v1612 : BitVec 32 := Scalar.muli arg29 c8_i32_544
  let c7_i32 : BitVec 32 := 7#32
  let v1613 : BitVec 32 := Scalar.addi v1612 c7_i32
  let c16_i32_545 : BitVec 32 := 16#32
  let v1614 : BitVec 32 := Scalar.muli v1613 c16_i32_545
  v1614
def k0_off9 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v2146 : Index := Scalar.indexCast v845
  let c0_661 : Index := 0#32
  ![v2146.toNat, 0]
def k0_off10 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v2151 : Index := Scalar.indexCast v845
  let c128_662 : Index := 128#32
  ![v2151.toNat, 128]
def k0_off11 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v2163 : Index := Scalar.indexCast v845
  let c256_664 : Index := 256#32
  ![v2163.toNat, 256]
def k0_off12 (k0_t1 : Fin k0_t1_loop.trips) (c0_i32_289 : BitVec 32) : Fin 2 → Nat :=
  let c0_i32_99 : BitVec 32 := 0#32
  let c1_i32_100 : BitVec 32 := 1#32
  let arg29 : BitVec 32 := Scf.iv c0_i32_99 c1_i32_100 k0_t1
  let c8_i32_288 : BitVec 32 := 8#32
  let v842 : BitVec 32 := Scalar.muli arg29 c8_i32_288
  let v843 : BitVec 32 := Scalar.addi v842 c0_i32_289
  let c16_i32_290 : BitVec 32 := 16#32
  let v844 : BitVec 32 := Scalar.muli v843 c16_i32_290
  let v845 : BitVec 32 := v844
  let v2168 : Index := Scalar.indexCast v845
  let c384_665 : Index := 384#32
  ![v2168.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference3Ideal.lean ====
abbrev S32x16x1024 : Shape := ⟨3, ![32, 16, 1024]⟩
abbrev S1x32x128x2x64 : Shape := ⟨5, ![1, 32, 128, 2, 64]⟩
abbrev S1x32x512 : Shape := ⟨3, ![1, 32, 512]⟩
abbrev S1x32x3x512 : Shape := ⟨4, ![1, 32, 3, 512]⟩
abbrev S1x1024 : Shape := ⟨2, ![1, 1024]⟩
abbrev S1x1024x1792 : Shape := ⟨3, ![1, 1024, 1792]⟩
abbrev S1x64 : Shape := ⟨2, ![1, 64]⟩
abbrev S1x8 : Shape := ⟨2, ![1, 8]⟩
abbrev S1x4x512 : Shape := ⟨3, ![1, 4, 512]⟩
abbrev S1x512 : Shape := ⟨2, ![1, 512]⟩
abbrev S1x8x64x64 : Shape := ⟨4, ![1, 8, 64, 64]⟩
abbrev S1x1024x1024 : Shape := ⟨3, ![1, 1024, 1024]⟩
abbrev S16 : Shape := ⟨1, ![16]⟩
abbrev S_ : Shape := ⟨0, ![]⟩
abbrev S1024 : Shape := ⟨1, ![1024]⟩
abbrev S32x16 : Shape := ⟨2, ![32, 16]⟩
abbrev S32x16x1 : Shape := ⟨3, ![32, 16, 1]⟩
abbrev S1x1x1024 : Shape := ⟨3, ![1, 1, 1024]⟩
abbrev S1024x1792 : Shape := ⟨2, ![1024, 1792]⟩
abbrev S32x16x1792 : Shape := ⟨3, ![32, 16, 1792]⟩
abbrev S32x16x128 : Shape := ⟨3, ![32, 16, 128]⟩
abbrev S32x16x2x64 : Shape := ⟨4, ![32, 16, 2, 64]⟩
abbrev S32x16x512 : Shape := ⟨3, ![32, 16, 512]⟩
abbrev S64 : Shape := ⟨1, ![64]⟩
abbrev S32x16x2 : Shape := ⟨3, ![32, 16, 2]⟩
abbrev S32x16x2x1 : Shape := ⟨4, ![32, 16, 2, 1]⟩
abbrev S1x1x1x64 : Shape := ⟨4, ![1, 1, 1, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S32x16x2x32 : Shape := ⟨4, ![32, 16, 2, 32]⟩
abbrev S32x128x2x64 : Shape := ⟨4, ![32, 128, 2, 64]⟩
abbrev S32x144x2x64 : Shape := ⟨4, ![32, 144, 2, 64]⟩
abbrev S32x3x512 : Shape := ⟨3, ![32, 3, 512]⟩
abbrev S32x19x512 : Shape := ⟨3, ![32, 19, 512]⟩
abbrev S4x512 : Shape := ⟨2, ![4, 512]⟩
abbrev S512 : Shape := ⟨1, ![512]⟩
abbrev S1x1x512 : Shape := ⟨3, ![1, 1, 512]⟩
abbrev S32x16x8x64 : Shape := ⟨4, ![32, 16, 8, 64]⟩
abbrev S8x64x64 : Shape := ⟨3, ![8, 64, 64]⟩
abbrev S8x64x32x16 : Shape := ⟨4, ![8, 64, 32, 16]⟩
abbrev S32x1x512 : Shape := ⟨3, ![32, 1, 512]⟩
abbrev S32x512 : Shape := ⟨2, ![32, 512]⟩
abbrev S32x128x128 : Shape := ⟨3, ![32, 128, 128]⟩
abbrev S512x512 : Shape := ⟨2, ![512, 512]⟩

abbrev nBuf : Space → Nat
  | .hbm => 319
  | .vmem => 0
  | .smem => 0
  | _ => 0

abbrev hbmTy0_0 (i : Nat) : BufTy := match i % 128 with
  | 0 => ⟨S32x16x1024, .f32⟩
  | 1 => ⟨S1x32x128x2x64, .f32⟩
  | 2 => ⟨S1x32x128x2x64, .f32⟩
  | 3 => ⟨S1x32x512, .f32⟩
  | 4 => ⟨S1x32x3x512, .f32⟩
  | 5 => ⟨S1x1024, .f32⟩
  | 6 => ⟨S1x1024x1792, .f32⟩
  | 7 => ⟨S1x64, .f32⟩
  | 8 => ⟨S1x64, .f32⟩
  | 9 => ⟨S1x8, .f32⟩
  | 10 => ⟨S1x4x512, .f32⟩
  | 11 => ⟨S1x512, .f32⟩
  | 12 => ⟨S1x8x64x64, .f32⟩
  | 13 => ⟨S1x512, .f32⟩
  | 14 => ⟨S1x8x64x64, .f32⟩
  | 15 => ⟨S1x512, .f32⟩
  | 16 => ⟨S1x512, .f32⟩
  | 17 => ⟨S1x1024x1024, .f32⟩
  | 18 => ⟨S16, .i32⟩
  | 19 => ⟨S_, .i32⟩
  | 20 => ⟨S16, .i32⟩
  | 21 => ⟨S16, .i32⟩
  | 22 => ⟨S1024, .f32⟩
  | 23 => ⟨S32x16x1024, .f32⟩
  | 24 => ⟨S_, .f32⟩
  | 25 => ⟨S32x16, .f32⟩
  | 26 => ⟨S32x16x1, .f32⟩
  | 27 => ⟨S_, .f32⟩
  | 28 => ⟨S32x16x1, .f32⟩
  | 29 => ⟨S32x16x1, .f32⟩
  | 30 => ⟨S_, .f32⟩
  | 31 => ⟨S32x16x1, .f32⟩
  | 32 => ⟨S32x16x1, .f32⟩
  | 33 => ⟨S32x16x1, .f32⟩
  | 34 => ⟨S32x16x1024, .f32⟩
  | 35 => ⟨S32x16x1024, .f32⟩
  | 36 => ⟨S1x1x1024, .f32⟩
  | 37 => ⟨S32x16x1024, .f32⟩
  | 38 => ⟨S32x16x1024, .f32⟩
  | 39 => ⟨S1024x1792, .f32⟩
  | 40 => ⟨S32x16x1792, .f32⟩
  | 41 => ⟨S32x16x128, .f32⟩
  | 42 => ⟨S32x16x2x64, .f32⟩
  | 43 => ⟨S32x16x128, .f32⟩
  | 44 => ⟨S32x16x2x64, .f32⟩
  | 45 => ⟨S32x16x512, .f32⟩
  | 46 => ⟨S64, .f32⟩
  | 47 => ⟨S32x16x2x64, .f32⟩
  | 48 => ⟨S_, .f32⟩
  | 49 => ⟨S32x16x2, .f32⟩
  | 50 => ⟨S32x16x2x1, .f32⟩
  | 51 => ⟨S_, .f32⟩
  | 52 => ⟨S32x16x2x1, .f32⟩
  | 53 => ⟨S32x16x2x1, .f32⟩
  | 54 => ⟨S_, .f32⟩
  | 55 => ⟨S32x16x2x1, .f32⟩
  | 56 => ⟨S32x16x2x1, .f32⟩
  | 57 => ⟨S32x16x2x1, .f32⟩
  | 58 => ⟨S32x16x2x64, .f32⟩
  | 59 => ⟨S32x16x2x64, .f32⟩
  | 60 => ⟨S1x1x1x64, .f32⟩
  | 61 => ⟨S32x16x2x64, .f32⟩
  | 62 => ⟨S32x16x2x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S16, .f32⟩
  | 72 => ⟨S16x1, .f32⟩
  | 73 => ⟨S1x32, .f32⟩
  | 74 => ⟨S16x32, .f32⟩
  | 75 => ⟨S16x32, .f32⟩
  | 76 => ⟨S16x32, .f32⟩
  | 77 => ⟨S16x32, .f32⟩
  | 78 => ⟨S1x16x1x32, .f32⟩
  | 79 => ⟨S16x32, .f32⟩
  | 80 => ⟨S1x16x1x32, .f32⟩
  | 81 => ⟨S32x16x2x32, .f32⟩
  | 82 => ⟨S32x16x2x32, .f32⟩
  | 83 => ⟨S32x16x2x32, .f32⟩
  | 84 => ⟨S32x16x2x32, .f32⟩
  | 85 => ⟨S32x16x2x32, .f32⟩
  | 86 => ⟨S32x16x2x32, .f32⟩
  | 87 => ⟨S32x16x2x32, .f32⟩
  | 88 => ⟨S32x16x2x32, .f32⟩
  | 89 => ⟨S32x16x2x32, .f32⟩
  | 90 => ⟨S32x16x2x32, .f32⟩
  | 91 => ⟨S32x16x2x32, .f32⟩
  | 92 => ⟨S32x16x2x32, .f32⟩
  | 93 => ⟨S32x16x2x64, .f32⟩
  | 94 => ⟨S32x128x2x64, .f32⟩
  | 95 => ⟨S32x144x2x64, .f32⟩
  | 96 => ⟨S32x128x2x64, .f32⟩
  | 97 => ⟨S32x144x2x64, .f32⟩
  | 98 => ⟨S32x3x512, .f32⟩
  | 99 => ⟨S32x19x512, .f32⟩
  | 100 => ⟨S32x16x512, .f32⟩
  | 101 => ⟨S4x512, .f32⟩
  | 102 => ⟨S1x512, .f32⟩
  | 103 => ⟨S512, .f32⟩
  | 104 => ⟨S1x1x512, .f32⟩
  | 105 => ⟨S32x16x512, .f32⟩
  | 106 => ⟨S32x16x512, .f32⟩
  | 107 => ⟨S512, .f32⟩
  | 108 => ⟨S1x1x512, .f32⟩
  | 109 => ⟨S32x16x512, .f32⟩
  | 110 => ⟨S32x16x512, .f32⟩
  | 111 => ⟨S32x16x512, .f32⟩
  | 112 => ⟨S4x512, .f32⟩
  | 113 => ⟨S1x512, .f32⟩
  | 114 => ⟨S512, .f32⟩
  | 115 => ⟨S1x1x512, .f32⟩
  | 116 => ⟨S32x16x512, .f32⟩
  | 117 => ⟨S32x16x512, .f32⟩
  | 118 => ⟨S32x16x512, .f32⟩
  | 119 => ⟨S32x16x512, .f32⟩
  | 120 => ⟨S4x512, .f32⟩
  | 121 => ⟨S1x512, .f32⟩
  | 122 => ⟨S512, .f32⟩
  | 123 => ⟨S1x1x512, .f32⟩
  | 124 => ⟨S32x16x512, .f32⟩
  | 125 => ⟨S32x16x512, .f32⟩
  | 126 => ⟨S32x16x512, .f32⟩
  | 127 => ⟨S32x16x512, .f32⟩
  | _ => ⟨S32x16x1024, .f32⟩

abbrev hbmTy0_1 (i : Nat) : BufTy := match i % 128 with
  | 0 => ⟨S4x512, .f32⟩
  | 1 => ⟨S1x512, .f32⟩
  | 2 => ⟨S512, .f32⟩
  | 3 => ⟨S1x1x512, .f32⟩
  | 4 => ⟨S32x16x512, .f32⟩
  | 5 => ⟨S32x16x512, .f32⟩
  | 6 => ⟨S32x16x512, .f32⟩
  | 7 => ⟨S32x16x8x64, .f32⟩
  | 8 => ⟨S8x64x64, .f32⟩
  | 9 => ⟨S8x64x32x16, .f32⟩
  | 10 => ⟨S32x16x8x64, .f32⟩
  | 11 => ⟨S32x16x512, .f32⟩
  | 12 => ⟨S512, .f32⟩
  | 13 => ⟨S1x1x512, .f32⟩
  | 14 => ⟨S32x16x512, .f32⟩
  | 15 => ⟨S32x16x512, .f32⟩
  | 16 => ⟨S32x16x512, .f32⟩
  | 17 => ⟨S32x16x512, .f32⟩
  | 18 => ⟨S_, .f32⟩
  | 19 => ⟨S32x16x512, .f32⟩
  | 20 => ⟨S32x16x512, .f32⟩
  | 21 => ⟨S_, .f32⟩
  | 22 => ⟨S32x16x512, .f32⟩
  | 23 => ⟨S32x16x512, .f32⟩
  | 24 => ⟨S8x64x64, .f32⟩
  | 25 => ⟨S8x64x32x16, .f32⟩
  | 26 => ⟨S32x16x8x64, .f32⟩
  | 27 => ⟨S32x16x512, .f32⟩
  | 28 => ⟨S512, .f32⟩
  | 29 => ⟨S1x1x512, .f32⟩
  | 30 => ⟨S32x16x512, .f32⟩
  | 31 => ⟨S32x16x512, .f32⟩
  | 32 => ⟨S32x16x512, .f32⟩
  | 33 => ⟨S32x16x512, .f32⟩
  | 34 => ⟨S_, .f32⟩
  | 35 => ⟨S32x16x512, .f32⟩
  | 36 => ⟨S32x16x512, .f32⟩
  | 37 => ⟨S_, .f32⟩
  | 38 => ⟨S32x16x512, .f32⟩
  | 39 => ⟨S32x16x512, .f32⟩
  | 40 => ⟨S_, .f32⟩
  | 41 => ⟨S32x16x512, .f32⟩
  | 42 => ⟨S32x16x512, .f32⟩
  | 43 => ⟨S512, .f32⟩
  | 44 => ⟨S512, .f32⟩
  | 45 => ⟨S_, .f32⟩
  | 46 => ⟨S512, .f32⟩
  | 47 => ⟨S512, .f32⟩
  | 48 => ⟨S512, .f32⟩
  | 49 => ⟨S512, .f32⟩
  | 50 => ⟨S512, .i1⟩
  | 51 => ⟨S512, .f32⟩
  | 52 => ⟨S512, .f32⟩
  | 53 => ⟨S512, .f32⟩
  | 54 => ⟨S512, .f32⟩
  | 55 => ⟨S512, .f32⟩
  | 56 => ⟨S512, .f32⟩
  | 57 => ⟨S512, .f32⟩
  | 58 => ⟨S512, .f32⟩
  | 59 => ⟨S1x1x512, .f32⟩
  | 60 => ⟨S32x16x512, .f32⟩
  | 61 => ⟨S32x16x512, .f32⟩
  | 62 => ⟨S32x16x512, .f32⟩
  | 63 => ⟨S_, .f32⟩
  | 64 => ⟨S32x16x512, .f32⟩
  | 65 => ⟨S32x16x512, .f32⟩
  | 66 => ⟨S32x16x512, .f32⟩
  | 67 => ⟨S32x16x512, .f32⟩
  | 68 => ⟨S32x16x512, .f32⟩
  | 69 => ⟨S32x16x512, .f32⟩
  | 70 => ⟨S32x16x512, .f32⟩
  | 71 => ⟨S32x1x512, .f32⟩
  | 72 => ⟨S32x512, .f32⟩
  | 73 => ⟨S32x512, .f32⟩
  | 74 => ⟨S32x512, .f32⟩
  | 75 => ⟨S32x1x512, .f32⟩
  | 76 => ⟨S32x512, .f32⟩
  | 77 => ⟨S32x512, .f32⟩
  | 78 => ⟨S32x1x512, .f32⟩
  | 79 => ⟨S32x512, .f32⟩
  | 80 => ⟨S32x512, .f32⟩
  | 81 => ⟨S32x1x512, .f32⟩
  | 82 => ⟨S32x512, .f32⟩
  | 83 => ⟨S32x512, .f32⟩
  | 84 => ⟨S32x1x512, .f32⟩
  | 85 => ⟨S32x512, .f32⟩
  | 86 => ⟨S32x512, .f32⟩
  | 87 => ⟨S32x1x512, .f32⟩
  | 88 => ⟨S32x512, .f32⟩
  | 89 => ⟨S32x512, .f32⟩
  | 90 => ⟨S32x1x512, .f32⟩
  | 91 => ⟨S32x512, .f32⟩
  | 92 => ⟨S32x512, .f32⟩
  | 93 => ⟨S32x1x512, .f32⟩
  | 94 => ⟨S32x512, .f32⟩
  | 95 => ⟨S32x512, .f32⟩
  | 96 => ⟨S32x1x512, .f32⟩
  | 97 => ⟨S32x512, .f32⟩
  | 98 => ⟨S32x512, .f32⟩
  | 99 => ⟨S32x1x512, .f32⟩
  | 100 => ⟨S32x512, .f32⟩
  | 101 => ⟨S32x512, .f32⟩
  | 102 => ⟨S32x1x512, .f32⟩
  | 103 => ⟨S32x512, .f32⟩
  | 104 => ⟨S32x512, .f32⟩
  | 105 => ⟨S32x1x512, .f32⟩
  | 106 => ⟨S32x512, .f32⟩
  | 107 => ⟨S32x512, .f32⟩
  | 108 => ⟨S32x1x512, .f32⟩
  | 109 => ⟨S32x512, .f32⟩
  | 110 => ⟨S32x512, .f32⟩
  | 111 => ⟨S32x1x512, .f32⟩
  | 112 => ⟨S32x512, .f32⟩
  | 113 => ⟨S32x512, .f32⟩
  | 114 => ⟨S32x1x512, .f32⟩
  | 115 => ⟨S32x512, .f32⟩
  | 116 => ⟨S32x512, .f32⟩
  | 117 => ⟨S32x1x512, .f32⟩
  | 118 => ⟨S32x512, .f32⟩
  | 119 => ⟨S32x512, .f32⟩
  | 120 => ⟨S32x1x512, .f32⟩
  | 121 => ⟨S32x512, .f32⟩
  | 122 => ⟨S32x512, .f32⟩
  | 123 => ⟨S32x1x512, .f32⟩
  | 124 => ⟨S32x512, .f32⟩
  | 125 => ⟨S32x512, .f32⟩
  | 126 => ⟨S32x1x512, .f32⟩
  | 127 => ⟨S32x512, .f32⟩
  | _ => ⟨S32x16x1024, .f32⟩

abbrev hbmTy0_2 (i : Nat) : BufTy := match i % 128 with
  | 0 => ⟨S32x512, .f32⟩
  | 1 => ⟨S32x1x512, .f32⟩
  | 2 => ⟨S32x512, .f32⟩
  | 3 => ⟨S32x512, .f32⟩
  | 4 => ⟨S32x1x512, .f32⟩
  | 5 => ⟨S32x512, .f32⟩
  | 6 => ⟨S32x512, .f32⟩
  | 7 => ⟨S32x1x512, .f32⟩
  | 8 => ⟨S32x512, .f32⟩
  | 9 => ⟨S32x512, .f32⟩
  | 10 => ⟨S32x1x512, .f32⟩
  | 11 => ⟨S32x512, .f32⟩
  | 12 => ⟨S32x512, .f32⟩
  | 13 => ⟨S32x1x512, .f32⟩
  | 14 => ⟨S32x512, .f32⟩
  | 15 => ⟨S32x512, .f32⟩
  | 16 => ⟨S32x1x512, .f32⟩
  | 17 => ⟨S32x512, .f32⟩
  | 18 => ⟨S32x512, .f32⟩
  | 19 => ⟨S32x1x512, .f32⟩
  | 20 => ⟨S32x512, .f32⟩
  | 21 => ⟨S32x512, .f32⟩
  | 22 => ⟨S32x1x512, .f32⟩
  | 23 => ⟨S32x512, .f32⟩
  | 24 => ⟨S32x512, .f32⟩
  | 25 => ⟨S32x1x512, .f32⟩
  | 26 => ⟨S32x512, .f32⟩
  | 27 => ⟨S32x512, .f32⟩
  | 28 => ⟨S32x1x512, .f32⟩
  | 29 => ⟨S32x512, .f32⟩
  | 30 => ⟨S32x512, .f32⟩
  | 31 => ⟨S32x1x512, .f32⟩
  | 32 => ⟨S32x512, .f32⟩
  | 33 => ⟨S32x512, .f32⟩
  | 34 => ⟨S32x1x512, .f32⟩
  | 35 => ⟨S32x512, .f32⟩
  | 36 => ⟨S32x512, .f32⟩
  | 37 => ⟨S32x1x512, .f32⟩
  | 38 => ⟨S32x512, .f32⟩
  | 39 => ⟨S32x512, .f32⟩
  | 40 => ⟨S32x1x512, .f32⟩
  | 41 => ⟨S32x1x512, .f32⟩
  | 42 => ⟨S32x1x512, .f32⟩
  | 43 => ⟨S32x1x512, .f32⟩
  | 44 => ⟨S32x1x512, .f32⟩
  | 45 => ⟨S32x1x512, .f32⟩
  | 46 => ⟨S32x1x512, .f32⟩
  | 47 => ⟨S32x1x512, .f32⟩
  | 48 => ⟨S32x1x512, .f32⟩
  | 49 => ⟨S32x1x512, .f32⟩
  | 50 => ⟨S32x1x512, .f32⟩
  | 51 => ⟨S32x1x512, .f32⟩
  | 52 => ⟨S32x1x512, .f32⟩
  | 53 => ⟨S32x1x512, .f32⟩
  | 54 => ⟨S32x1x512, .f32⟩
  | 55 => ⟨S32x1x512, .f32⟩
  | 56 => ⟨S32x16x512, .f32⟩
  | 57 => ⟨S32x128x2x64, .f32⟩
  | 58 => ⟨S32x128x128, .f32⟩
  | 59 => ⟨S32x128x2x64, .f32⟩
  | 60 => ⟨S32x128x128, .f32⟩
  | 61 => ⟨S512x512, .f32⟩
  | 62 => ⟨S512x512, .f32⟩
  | _ => ⟨S32x16x1024, .f32⟩

abbrev hbmTy (i : Nat) : BufTy := match i / 128 with
  | 0 => hbmTy0_0 i
  | 1 => hbmTy0_1 i
  | 2 => hbmTy0_2 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_7 : Ref sig .tc := ⟨.hbm, 146, rfl⟩
abbrev main_v119 : Ref sig .tc := ⟨.hbm, 147, rfl⟩
abbrev main_v120 : Ref sig .tc := ⟨.hbm, 148, rfl⟩
abbrev main_cst_8 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_9 : Ref sig .tc := ⟨.hbm, 162, rfl⟩
abbrev main_v133 : Ref sig .tc := ⟨.hbm, 163, rfl⟩
abbrev main_v134 : Ref sig .tc := ⟨.hbm, 164, rfl⟩
abbrev main_cst_10 : Ref sig .tc := ⟨.hbm, 165, rfl⟩
abbrev main_v135 : Ref sig .tc := ⟨.hbm, 166, rfl⟩
abbrev main_v136 : Ref sig .tc := ⟨.hbm, 167, rfl⟩
abbrev main_cst_11 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_call0_cst : Ref sig .tc := ⟨.hbm, 173, rfl⟩
abbrev main_call0_v0 : Ref sig .tc := ⟨.hbm, 174, rfl⟩
abbrev main_call0_v1 : Ref sig .tc := ⟨.hbm, 175, rfl⟩
abbrev main_call0_v2 : Ref sig .tc := ⟨.hbm, 176, rfl⟩
abbrev main_call0_v3 : Ref sig .tc := ⟨.hbm, 177, rfl⟩
abbrev main_call0_v4 : Ref sig .tc := ⟨.hbm, 178, rfl⟩
abbrev main_call0_v5 : Ref sig .tc := ⟨.hbm, 179, rfl⟩
abbrev main_call0_v6 : Ref sig .tc := ⟨.hbm, 180, rfl⟩
abbrev main_call0_v7 : Ref sig .tc := ⟨.hbm, 181, rfl⟩
abbrev main_call0_v8 : Ref sig .tc := ⟨.hbm, 182, rfl⟩
abbrev main_call0_v9 : Ref sig .tc := ⟨.hbm, 183, rfl⟩
abbrev main_call0_v10 : Ref sig .tc := ⟨.hbm, 184, rfl⟩
abbrev main_call0_v11 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_12 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩

abbrev nD : Nat := 1
abbrev τ : Topo := Topo.v7x

variable {F : FTy → Type} [FloatOps F]
-- ==== Proof.EvenLoop.lean ====
/- What the loop of the even-sample call leaves in the two caches: each row of the batch keeps the last 112 of
   its 128 old positions and gets its 16 new ones. -/
module

public import proofs.«01_k».proof.Proof.Gen.Kernel3Ideal.Loops
public import Idealize.ShloMosaic.Lib.Pipeline.FrameBody
public import Idealize.ShloMosaic.Lib.Pipeline.ValueKit
public import Idealize.ShloMosaic.Lib.Pointwise

@[expose] public section

set_option maxRecDepth 16384

noncomputable section

namespace Cert.Kernel3Ideal.Even

open Idealize.ShloMosaic Idealize.ShloMosaic.TcCoe Idealize.ShloMosaic.Tactic
open Cert.Kernel3Ideal.Gen

variable {F : FTy → Type} [FloatOps F]

/-- The cache moved on by sixteen positions: the last 112 old positions, then the sixteen new rows of the sequence. -/
def shifted (cache : Vec F S32x128x128 .f32) (rows : Vec F S512x128 .f32) : Vec F S32x128x128 .f32 := fun j =>
  if h : (j 1).val < 112 then
    cache (ix3 (n0 := 32) (n1 := 128) (n2 := 128) (j 0) ⟨16 + (j 1).val, by omega⟩ (j 2))
  else
    rows (ix2 (n0 := 512) (n1 := 128) ⟨16 * (j 0).val + ((j 1).val - 112), by
      have h0 : (j 0).val < 32 := (j 0).isLt
      have h1 : (j 1).val < 128 := (j 1).isLt
      omega⟩ (j 2))

/-- The 112 old positions a trip stores for one sequence. -/
def headPay (v : Vec F S1x128x128 .f32) : Vec F S1x112x128 .f32 :=
  shapeCast S1x112x128 (extractStridedSlice S112x128 ![16, 0] (shapeCast S128x128 v shapeCasts_S1x128x128_S128x128)
    slices_S128x128_o16_0_S112x128) shapeCasts_S112x128_S1x112x128

/-- The sixteen new positions a trip stores for one sequence. -/
def tailPay (v : Vec F S16x128 .f32) : Vec F S1x16x128 .f32 := shapeCast S1x16x128 v shapeCasts_S16x128_S1x16x128

theorem headPay_apply (v : Vec F S1x128x128 .f32) (a : Fin 112) (l : Fin 128) :
    headPay v (ix3 (n0 := 1) (n1 := 112) (n2 := 128) 0 a l)
      = v (ix3 (n0 := 1) (n1 := 128) (n2 := 128) 0 ⟨16 + a.val, by omega⟩ l) := by
  pointwise [headPay]

theorem tailPay_apply (v : Vec F S16x128 .f32) (a : Fin 16) (l : Fin 128) :
    tailPay v (ix3 (n0 := 1) (n1 := 16) (n2 := 128) 0 a l) = v (ix2 (n0 := 16) (n1 := 128) a l) := by
  pointwise [tailPay]

theorem off1_val : ∀ (k : Fin k0_t1_loop.trips) (r : Fin 8), k0_off1 k (BitVec.ofNat 32 r.val) = ![8 * k.val + r.val, 0, 0] := by
  decide +kernel
theorem off2_val : ∀ (k : Fin k0_t1_loop.trips) (r : Fin 8), k0_off2 k (BitVec.ofNat 32 r.val) = ![128 * k.val + 16 * r.val, 0] := by
  decide +kernel
theorem off3_val : ∀ (k : Fin k0_t1_loop.trips) (r : Fin 8), k0_off3 k (BitVec.ofNat 32 r.val) = ![8 * k.val + r.val, 0, 0] := by
  decide +kernel
theorem off4_val : ∀ (k : Fin k0_t1_loop.trips) (r : Fin 8), k0_off4 k (BitVec.ofNat 32 r.val) = ![8 * k.val + r.val, 112, 0] := by
  decide +kernel

/-- The stored old positions are those of the moved cache. -/
theorem head_good (arg : Memref sig .tc .vmem S32x128x128 .f32) (X : BufTy.Contents (Elt F) arg.view.ty)
    (cache : Vec F S32x128x128 .f32) (rows : Vec F S512x128 .f32) (hX : arg.view.read (Elt F) X = cache)
    (k : Fin k0_t1_loop.trips) (r : Fin 8) (inb) (inb')
    (x : (Rect.unit (s := S32x128x128) (k0_off3 k (BitVec.ofNat 32 r.val)) ![1, 112, 128] inb').shape.Idx) :
    headPay (View.readAt (Elt F) arg.view (Rect.unit (s := S32x128x128) (k0_off1 k (BitVec.ofNat 32 r.val)) S1x128x128.size inb).toLoadRect X) x
      = shifted cache rows ((Rect.unit (s := S32x128x128) (k0_off3 k (BitVec.ofNat 32 r.val)) ![1, 112, 128] inb').emb x) := by
  have e0 := ValueKit.rect_emb_unit_val (s := S32x128x128) (k0_off3 k (BitVec.ofNat 32 r.val)) ![1, 112, 128] inb' x 0
  have e1 := ValueKit.rect_emb_unit_val (s := S32x128x128) (k0_off3 k (BitVec.ofNat 32 r.val)) ![1, 112, 128] inb' x 1
  have e2 := ValueKit.rect_emb_unit_val (s := S32x128x128) (k0_off3 k (BitVec.ofNat 32 r.val)) ![1, 112, 128] inb' x 2
  have f0 : k0_off3 k (BitVec.ofNat 32 r.val) 0 = 8 * k.val + r.val := congrFun (off3_val k r) 0
  have f1 : k0_off3 k (BitVec.ofNat 32 r.val) 1 = 0 := congrFun (off3_val k r) 1
  have f2 : k0_off3 k (BitVec.ofNat 32 r.val) 2 = 0 := congrFun (off3_val k r) 2
  have g0 : k0_off1 k (BitVec.ofNat 32 r.val) 0 = 8 * k.val + r.val := congrFun (off1_val k r) 0
  have g1 : k0_off1 k (BitVec.ofNat 32 r.val) 1 = 0 := congrFun (off1_val k r) 1
  have g2 : k0_off1 k (BitVec.ofNat 32 r.val) 2 = 0 := congrFun (off1_val k r) 2
  have x0 : (x 0).val < 1 := (x 0).isLt
  have x1 : (x 1).val < 112 := (x 1).isLt
  have x2 : (x 2).val < 128 := (x 2).isLt
  have hx : x = ix3 (n0 := 1) (n1 := 112) (n2 := 128) 0 ⟨(x 1).val, x1⟩ ⟨(x 2).val, x2⟩ :=
    (eq_ix3 (n0 := 1) (n1 := 112) (n2 := 128) x).trans (by congr 1; exact Fin.ext (by show (x 0).val = 0; omega))
  refine (congrArg _ hx).trans ((headPay_apply _ _ _).trans ?_)
  rw [View.readAt_eq_ld, hX]
  unfold shifted
  rw [dif_pos (by omega)]
  refine View.ld_unit_apply_of cache _ _ inb _ _ fun a => ?_
  match a with
  | ⟨0, _⟩ => exact e0.trans ((congrArg₂ (· + ·) (f0.trans g0.symm) (by omega : (x 0).val = 0)))
  | ⟨1, _⟩ => exact (congrArg (16 + ·) e1).trans (by show 16 + (_ + _) = k0_off1 k (BitVec.ofNat 32 r.val) 1 + (16 + (x 1).val); omega)
  | ⟨2, _⟩ => exact e2.trans (congrArg (· + (x 2).val) (f2.trans g2.symm))

/-- The stored new positions are those of the moved cache. -/
theorem tail_good (arg : Memref sig .tc .vmem S512x128 .f32) (X : BufTy.Contents (Elt F) arg.view.ty)
    (cache : Vec F S32x128x128 .f32) (rows : Vec F S512x128 .f32) (hX : arg.view.read (Elt F) X = rows)
    (k : Fin k0_t1_loop.trips) (r : Fin 8) (inb) (inb')
    (x : (Rect.unit (s := S32x128x128) (k0_off4 k (BitVec.ofNat 32 r.val)) ![1, 16, 128] inb').shape.Idx) :
    tailPay (View.readAt (Elt F) arg.view (Rect.unit (s := S512x128) (k0_off2 k (BitVec.ofNat 32 r.val)) S16x128.size inb).toLoadRect X) x
      = shifted cache rows ((Rect.unit (s := S32x128x128) (k0_off4 k (BitVec.ofNat 32 r.val)) ![1, 16, 128] inb').emb x) := by
  have e0 := ValueKit.rect_emb_unit_val (s := S32x128x128) (k0_off4 k (BitVec.ofNat 32 r.val)) ![1, 16, 128] inb' x 0
  have e1 := ValueKit.rect_emb_unit_val (s := S32x128x128) (k0_off4 k (BitVec.ofNat 32 r.val)) ![1, 16, 128] inb' x 1
  have e2 := ValueKit.rect_emb_unit_val (s := S32x128x128) (k0_off4 k (BitVec.ofNat 32 r.val)) ![1, 16, 128] inb' x 2
  have f0 : k0_off4 k (BitVec.ofNat 32 r.val) 0 = 8 * k.val + r.val := congrFun (off4_val k r) 0
  have f1 : k0_off4 k (BitVec.ofNat 32 r.val) 1 = 112 := congrFun (off4_val k r) 1
  have f2 : k0_off4 k (BitVec.ofNat 32 r.val) 2 = 0 := congrFun (off4_val k r) 2
  have g0 : k0_off2 k (BitVec.ofNat 32 r.val) 0 = 128 * k.val + 16 * r.val := congrFun (off2_val k r) 0
  have g1 : k0_off2 k (BitVec.ofNat 32 r.val) 1 = 0 := congrFun (off2_val k r) 1
  have x0 : (x 0).val < 1 := (x 0).isLt
  have x1 : (x 1).val < 16 := (x 1).isLt
  have x2 : (x 2).val < 128 := (x 2).isLt
  have hx : x = ix3 (n0 := 1) (n1 := 16) (n2 := 128) 0 ⟨(x 1).val, x1⟩ ⟨(x 2).val, x2⟩ :=
    (eq_ix3 (n0 := 1) (n1 := 16) (n2 := 128) x).trans (by congr 1; exact Fin.ext (by show (x 0).val = 0; omega))
  refine (congrArg _ hx).trans ((tailPay_apply _ _ _).trans ?_)
  rw [View.readAt_eq_ld, hX]
  unfold shifted
  rw [dif_neg (by omega)]
  refine View.ld_unit_apply_of rows _ _ inb _ _ fun a => ?_
  match a with
  | ⟨0, _⟩ => show 16 * _ + (_ - 112) = k0_off2 k (BitVec.ofNat 32 r.val) 0 + (x 1).val; omega
  | ⟨1, _⟩ => exact e2.trans (congrArg (· + (x 2).val) (f2.trans g1.symm))

/-- The pieces one trip stores into a cache, last first. -/
def tripList (k : Fin k0_t1_loop.trips) (old : Fin 8 → Vec F S1x128x128 .f32) (new : Fin 8 → Vec F S16x128 .f32) :
    List (View.Piece (Elt F) S32x128x128 .f32) :=
  [⟨Rect.unit (s := S32x128x128) (k0_off4 k 7#32) ![1, 16, 128] (k0_off4_inb k 7), tailPay (new 7)⟩,
   ⟨Rect.unit (s := S32x128x128) (k0_off3 k 7#32) ![1, 112, 128] (k0_off3_inb k 7), headPay (old 7)⟩,
   ⟨Rect.unit (s := S32x128x128) (k0_off4 k 6#32) ![1, 16, 128] (k0_off4_inb k 6), tailPay (new 6)⟩,
   ⟨Rect.unit (s := S32x128x128) (k0_off3 k 6#32) ![1, 112, 128] (k0_off3_inb k 6), headPay (old 6)⟩,
   ⟨Rect.unit (s := S32x128x128) (k0_off4 k 5#32) ![1, 16, 128] (k0_off4_inb k 5), tailPay (new 5)⟩,
   ⟨Rect.unit (s := S32x128x128) (k0_off3 k 5#32) ![1, 112, 128] (k0_off3_inb k 5), headPay (old 5)⟩,
   ⟨Rect.unit (s := S32x128x128) (k0_off4 k 4#32) ![1, 16, 128] (k0_off4_inb k 4), tailPay (new 4)⟩,
   ⟨Rect.unit (s := S32x128x128) (k0_off3 k 4#32) ![1, 112, 128] (k0_off3_inb k 4), headPay (old 4)⟩,
   ⟨Rect.unit (s := S32x128x128) (k0_off4 k 3#32) ![1, 16, 128] (k0_off4_inb k 3), tailPay (new 3)⟩,
   ⟨Rect.unit (s := S32x128x128) (k0_off3 k 3#32) ![1, 112, 128] (k0_off3_inb k 3), headPay (old 3)⟩,
   ⟨Rect.unit (s := S32x128x128) (k0_off4 k 2#32) ![1, 16, 128] (k0_off4_inb k 2), tailPay (new 2)⟩,
   ⟨Rect.unit (s := S32x128x128) (k0_off3 k 2#32) ![1, 112, 128] (k0_off3_inb k 2), headPay (old 2)⟩,
   ⟨Rect.unit (s := S32x128x128) (k0_off4 k 1#32) ![1, 16, 128] (k0_off4_inb k 1), tailPay (new 1)⟩,
   ⟨Rect.unit (s := S32x128x128) (k0_off3 k 1#32) ![1, 112, 128] (k0_off3_inb k 1), headPay (old 1)⟩,
   ⟨Rect.unit (s := S32x128x128) (k0_off4 k 0#32) ![1, 16, 128] (k0_off4_inb k 0), tailPay (new 0)⟩,
   ⟨Rect.unit (s := S32x128x128) (k0_off3 k 0#32) ![1, 112, 128] (k0_off3_inb k 0), headPay (old 0)⟩]

theorem head_mem (k : Fin k0_t1_loop.trips) (r : Fin 8) (inb) (y : S32x128x128.Idx) (h0 : (y 0).val = 8 * k.val + r.val)
    (h1 : (y 1).val < 112) :
    y ∈ (Rect.unit (s := S32x128x128) (k0_off3 k (BitVec.ofNat 32 r.val)) ![1, 112, 128] inb).set := by
  have f0 : k0_off3 k (BitVec.ofNat 32 r.val) 0 = 8 * k.val + r.val := congrFun (off3_val k r) 0
  have f1 : k0_off3 k (BitVec.ofNat 32 r.val) 1 = 0 := congrFun (off3_val k r) 1
  have f2 : k0_off3 k (BitVec.ofNat 32 r.val) 2 = 0 := congrFun (off3_val k r) 2
  have h2 : (y 2).val < 128 := (y 2).isLt
  refine Rect.mem_set_unit.2 fun a => ?_
  match a with
  | ⟨0, _⟩ => show k0_off3 k (BitVec.ofNat 32 r.val) 0 ≤ (y 0).val ∧ (y 0).val < k0_off3 k (BitVec.ofNat 32 r.val) 0 + 1; omega
  | ⟨1, _⟩ => show k0_off3 k (BitVec.ofNat 32 r.val) 1 ≤ (y 1).val ∧ (y 1).val < k0_off3 k (BitVec.ofNat 32 r.val) 1 + 112; omega
  | ⟨2, _⟩ => show k0_off3 k (BitVec.ofNat 32 r.val) 2 ≤ (y 2).val ∧ (y 2).val < k0_off3 k (BitVec.ofNat 32 r.val) 2 + 128; omega

theorem tail_mem (k : Fin k0_t1_loop.trips) (r : Fin 8) (inb) (y : S32x128x128.Idx) (h0 : (y 0).val = 8 * k.val + r.val)
    (h1 : ¬ (y 1).val < 112) :
    y ∈ (Rect.unit (s := S32x128x128) (k0_off4 k (BitVec.ofNat 32 r.val)) ![1, 16, 128] inb).set := by
  have f0 : k0_off4 k (BitVec.ofNat 32 r.val) 0 = 8 * k.val + r.val := congrFun (off4_val k r) 0
  have f1 : k0_off4 k (BitVec.ofNat 32 r.val) 1 = 112 := congrFun (off4_val k r) 1
  have f2 : k0_off4 k (BitVec.ofNat 32 r.val) 2 = 0 := congrFun (off4_val k r) 2
  have h3 : (y 1).val < 128 := (y 1).isLt
  have h2 : (y 2).val < 128 := (y 2).isLt
  refine Rect.mem_set_unit.2 fun a => ?_
  match a with
  | ⟨0, _⟩ => show k0_off4 k (BitVec.ofNat 32 r.val) 0 ≤ (y 0).val ∧ (y 0).val < k0_off4 k (BitVec.ofNat 32 r.val) 0 + 1; omega
  | ⟨1, _⟩ => show k0_off4 k (BitVec.ofNat 32 r.val) 1 ≤ (y 1).val ∧ (y 1).val < k0_off4 k (BitVec.ofNat 32 r.val) 1 + 16; omega
  | ⟨2, _⟩ => show k0_off4 k (BitVec.ofNat 32 r.val) 2 ≤ (y 2).val ∧ (y 2).val < k0_off4 k (BitVec.ofNat 32 r.val) 2 + 128; omega

/-- A trip's pieces hold the moved cache, if what the trip read is the cache and the new rows. -/
theorem tripList_good (k : Fin k0_t1_loop.trips) (old : Fin 8 → Vec F S1x128x128 .f32) (new : Fin 8 → Vec F S16x128 .f32)
    (G : Vec F S32x128x128 .f32)
    (ho : ∀ (r : Fin 8) (x), headPay (old r) x = G ((Rect.unit (s := S32x128x128) (k0_off3 k (BitVec.ofNat 32 r.val)) ![1, 112, 128] (k0_off3_inb k r)).emb x))
    (hn : ∀ (r : Fin 8) (x), tailPay (new r) x = G ((Rect.unit (s := S32x128x128) (k0_off4 k (BitVec.ofNat 32 r.val)) ![1, 16, 128] (k0_off4_inb k r)).emb x)) :
    ∀ p ∈ tripList k old new, ∀ x, p.2 x = G (p.1.emb x) :=
  List.forall_mem_cons.2 ⟨hn 7, List.forall_mem_cons.2 ⟨ho 7, List.forall_mem_cons.2 ⟨hn 6, List.forall_mem_cons.2 ⟨ho 6, List.forall_mem_cons.2 ⟨hn 5, List.forall_mem_cons.2 ⟨ho 5, List.forall_mem_cons.2 ⟨hn 4, List.forall_mem_cons.2 ⟨ho 4, List.forall_mem_cons.2 ⟨hn 3, List.forall_mem_cons.2 ⟨ho 3, List.forall_mem_cons.2 ⟨hn 2, List.forall_mem_cons.2 ⟨ho 2, List.forall_mem_cons.2 ⟨hn 1, List.forall_mem_cons.2 ⟨ho 1, List.forall_mem_cons.2 ⟨hn 0, List.forall_mem_cons.2 ⟨ho 0, fun _ h => absurd h List.not_mem_nil⟩⟩⟩⟩⟩⟩⟩⟩⟩⟩⟩⟩⟩⟩⟩⟩

/-- A trip's pieces fill its eight sequences. -/
theorem tripList_cover (k : Fin k0_t1_loop.trips) (old : Fin 8 → Vec F S1x128x128 .f32) (new : Fin 8 → Vec F S16x128 .f32)
    (y : S32x128x128.Idx) : ∀ r : Fin 8, (y 0).val = 8 * k.val + r.val → ∃ p ∈ tripList k old new, y ∈ p.1.set
  | ⟨0, _⟩, h0 =>
    if h1 : (y 1).val < 112 then ⟨_, .tail _ (.tail _ (.tail _ (.tail _ (.tail _ (.tail _ (.tail _ (.tail _ (.tail _ (.tail _ (.tail _ (.tail _ (.tail _ (.tail _ (.tail _ (List.Mem.head _))))))))))))))), head_mem k 0 (k0_off3_inb k 0) y h0 h1⟩
    else ⟨_, .tail _ (.tail _ (.tail _ (.tail _ (.tail _ (.tail _ (.tail _ (.tail _ (.tail _ (.tail _ (.tail _ (.tail _ (.tail _ (.tail _ (List.Mem.head _)))))))))))))), tail_mem k 0 (k0_off4_inb k 0) y h0 h1⟩
  | ⟨1, _⟩, h0 =>
    if h1 : (y 1).val < 112 then ⟨_, .tail _ (.tail _ (.tail _ (.tail _ (.tail _ (.tail _ (.tail _ (.tail _ (.tail _ (.tail _ (.tail _ (.tail _ (.tail _ (List.Mem.head _))))))))))))), head_mem k 1 (k0_off3_inb k 1) y h0 h1⟩
    else ⟨_, .tail _ (.tail _ (.tail _ (.tail _ (.tail _ (.tail _ (.tail _ (.tail _ (.tail _ (.tail _ (.tail _ (.tail _ (List.Mem.head _)))))))))))), tail_mem k 1 (k0_off4_inb k 1) y h0 h1⟩
  | ⟨2, _⟩, h0 =>
    if h1 : (y 1).val < 112 then ⟨_, .tail _ (.tail _ (.tail _ (.tail _ (.tail _ (.tail _ (.tail _ (.tail _ (.tail _ (.tail _ (.tail _ (List.Mem.head _))))))))))), head_mem k 2 (k0_off3_inb k 2) y h0 h1⟩
    else ⟨_, .tail _ (.tail _ (.tail _ (.tail _ (.tail _ (.tail _ (.tail _ (.tail _ (.tail _ (.tail _ (List.Mem.head _)))))))))), tail_mem k 2 (k0_off4_inb k 2) y h0 h1⟩
  | ⟨3, _⟩, h0 =>
    if h1 : (y 1).val < 112 then ⟨_, .tail _ (.tail _ (.tail _ (.tail _ (.tail _ (.tail _ (.tail _ (.tail _ (.tail _ (List.Mem.head _))))))))), head_mem k 3 (k0_off3_inb k 3) y h0 h1⟩
    else ⟨_, .tail _ (.tail _ (.tail _ (.tail _ (.tail _ (.tail _ (.tail _ (.tail _ (List.Mem.head _)))))))), tail_mem k 3 (k0_off4_inb k 3) y h0 h1⟩
  | ⟨4, _⟩, h0 =>
    if h1 : (y 1).val < 112 then ⟨_, .tail _ (.tail _ (.tail _ (.tail _ (.tail _ (.tail _ (.tail _ (List.Mem.head _))))))), head_mem k 4 (k0_off3_inb k 4) y h0 h1⟩
    else ⟨_, .tail _ (.tail _ (.tail _ (.tail _ (.tail _ (.tail _ (List.Mem.head _)))))), tail_mem k 4 (k0_off4_inb k 4) y h0 h1⟩
  | ⟨5, _⟩, h0 =>
    if h1 : (y 1).val < 112 then ⟨_, .tail _ (.tail _ (.tail _ (.tail _ (.tail _ (List.Mem.head _))))), head_mem k 5 (k0_off3_inb k 5) y h0 h1⟩
    else ⟨_, .tail _ (.tail _ (.tail _ (.tail _ (List.Mem.head _)))), tail_mem k 5 (k0_off4_inb k 5) y h0 h1⟩
  | ⟨6, _⟩, h0 =>
    if h1 : (y 1).val < 112 then ⟨_, .tail _ (.tail _ (.tail _ (List.Mem.head _))), head_mem k 6 (k0_off3_inb k 6) y h0 h1⟩
    else ⟨_, .tail _ (.tail _ (List.Mem.head _)), tail_mem k 6 (k0_off4_inb k 6) y h0 h1⟩
  | ⟨7, _⟩, h0 =>
    if h1 : (y 1).val < 112 then ⟨_, .tail _ (List.Mem.head _), head_mem k 7 (k0_off3_inb k 7) y h0 h1⟩
    else ⟨_, List.Mem.head _, tail_mem k 7 (k0_off4_inb k 7) y h0 h1⟩

/-- Pieces that hold `G` wherever they lie and fill the first `8 n` sequences. -/
structure Fits (L : List (View.Piece (Elt F) S32x128x128 .f32)) (G : Vec F S32x128x128 .f32) (n : ℕ) : Prop where
  good : ∀ p ∈ L, ∀ x, p.2 x = G (p.1.emb x)
  cover : ∀ y : S32x128x128.Idx, (y 0).val < 8 * n → ∃ p ∈ L, y ∈ p.1.set

theorem Fits.step {L : List (View.Piece (Elt F) S32x128x128 .f32)} {G : Vec F S32x128x128 .f32} (k : Fin k0_t1_loop.trips)
    (hL : Fits L G k.val) (old : Fin 8 → Vec F S1x128x128 .f32) (new : Fin 8 → Vec F S16x128 .f32)
    (ho : ∀ (r : Fin 8) (x), headPay (old r) x = G ((Rect.unit (s := S32x128x128) (k0_off3 k (BitVec.ofNat 32 r.val)) ![1, 112, 128] (k0_off3_inb k r)).emb x))
    (hn : ∀ (r : Fin 8) (x), tailPay (new r) x = G ((Rect.unit (s := S32x128x128) (k0_off4 k (BitVec.ofNat 32 r.val)) ![1, 16, 128] (k0_off4_inb k r)).emb x)) :
    Fits (tripList k old new ++ L) G (k.val + 1) where
  good := List.forall_mem_append.2 ⟨tripList_good k old new G ho hn, hL.good⟩
  cover := fun y hy => by
    by_cases h : (y 0).val < 8 * k.val
    · obtain ⟨p, hp, hm⟩ := hL.cover y h
      exact ⟨p, List.mem_append_right _ hp, hm⟩
    · obtain ⟨p, hp, hm⟩ := tripList_cover k old new y ⟨(y 0).val - 8 * k.val, by omega⟩ (by simp only []; omega)
      exact ⟨p, List.mem_append_left _ hp, hm⟩

/-- Pieces that fit and fill everything leave `G`, whatever the buffer held. -/
theorem Fits.read {L : List (View.Piece (Elt F) S32x128x128 .f32)} {G : Vec F S32x128x128 .f32} {n : ℕ} (hL : Fits L G n) (hn : 4 ≤ n)
    (arg : Memref sig .tc .vmem S32x128x128 .f32) (f : BufTy.Contents (Elt F) arg.view.ty) :
    arg.view.read (Elt F) (arg.view.writes (Elt F) f L) = G := funext fun y => by
  have hc := hL.cover y (by have h : (y 0).val < 32 := (y 0).isLt; omega)
  exact (View.read_writes_apply_eq_canon arg.view f y L hc).trans (View.canon_apply_of_pieces G L hL.good y hc)

theorem trips_eq : k0_t1_loop.trips = 4 := by decide +kernel

set_option maxHeartbeats 1000000 in
/-- A trip's pieces in the keys' cache. -/
theorem trip_nk (𝒱 : Variants) (c : Dev nD) (bd : Option 𝒱.V) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole) (v216 : IVec S32x384 1) (v286 : FVec F S384x128 .bf16) (v287 : FVec F S48x128 .f32) (v300 : FVec F S32x128 .f32) (v301 : Vec F S1x128 .f32) (v307 : Vec F S1x128 .f32) (X_arg4 : BufTy.Contents (Elt F) arg4.view.ty) (X_arg5 : BufTy.Contents (Elt F) arg5.view.ty) (X_arg25 : BufTy.Contents (Elt F) arg25.view.ty) (X_arg26 : BufTy.Contents (Elt F) arg26.view.ty) (X_arg27 : BufTy.Contents (Elt F) arg27.view.ty) (k : Fin k0_t1_loop.trips) :
    (tripL_k0_t1 (F := F)  𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 k).1 = tripList k
      (fun r => View.readAt (Elt F) arg4.view (Rect.unit (s := S32x128x128) (k0_off1 k (BitVec.ofNat 32 r.val)) S1x128x128.size (k0_off1_inb k r)).toLoadRect X_arg4)
      (fun r => View.readAt (Elt F) arg26.view (Rect.unit (s := S512x128) (k0_off2 k (BitVec.ofNat 32 r.val)) S16x128.size (k0_off2_inb k r)).toLoadRect X_arg26) := by
  unfold tripL_k0_t1 trip_k0_t1
  dsimp only
  sl_unfold_run_names
  rfl

set_option maxHeartbeats 1000000 in
/-- A trip's pieces in the values' cache. -/
theorem trip_nv (𝒱 : Variants) (c : Dev nD) (bd : Option 𝒱.V) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole) (v216 : IVec S32x384 1) (v286 : FVec F S384x128 .bf16) (v287 : FVec F S48x128 .f32) (v300 : FVec F S32x128 .f32) (v301 : Vec F S1x128 .f32) (v307 : Vec F S1x128 .f32) (X_arg4 : BufTy.Contents (Elt F) arg4.view.ty) (X_arg5 : BufTy.Contents (Elt F) arg5.view.ty) (X_arg25 : BufTy.Contents (Elt F) arg25.view.ty) (X_arg26 : BufTy.Contents (Elt F) arg26.view.ty) (X_arg27 : BufTy.Contents (Elt F) arg27.view.ty) (k : Fin k0_t1_loop.trips) :
    (tripL_k0_t1 (F := F)  𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 k).2.1 = tripList k
      (fun r => View.readAt (Elt F) arg5.view (Rect.unit (s := S32x128x128) (k0_off1 k (BitVec.ofNat 32 r.val)) S1x128x128.size (k0_off1_inb k r)).toLoadRect X_arg5)
      (fun r => View.readAt (Elt F) arg27.view (Rect.unit (s := S512x128) (k0_off2 k (BitVec.ofNat 32 r.val)) S16x128.size (k0_off2_inb k r)).toLoadRect X_arg27) := by
  unfold tripL_k0_t1 trip_k0_t1
  dsimp only
  sl_unfold_run_names
  rfl

set_option maxHeartbeats 1000000 in
/-- All trips' pieces in the two caches. -/
theorem loop_fits (𝒱 : Variants) (c : Dev nD) (bd : Option 𝒱.V) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole) (v216 : IVec S32x384 1) (v286 : FVec F S384x128 .bf16) (v287 : FVec F S48x128 .f32) (v300 : FVec F S32x128 .f32) (v301 : Vec F S1x128 .f32) (v307 : Vec F S1x128 .f32) (X_arg4 : BufTy.Contents (Elt F) arg4.view.ty) (X_arg5 : BufTy.Contents (Elt F) arg5.view.ty) (X_arg25 : BufTy.Contents (Elt F) arg25.view.ty) (X_arg26 : BufTy.Contents (Elt F) arg26.view.ty) (X_arg27 : BufTy.Contents (Elt F) arg27.view.ty) (kc vc : Vec F S32x128x128 .f32) (krow vrow : Vec F S512x128 .f32)
    (h4 : arg4.view.read (Elt F) X_arg4 = kc) (h5 : arg5.view.read (Elt F) X_arg5 = vc)
    (h26 : arg26.view.read (Elt F) X_arg26 = krow) (h27 : arg27.view.read (Elt F) X_arg27 = vrow) : ∀ n : ℕ, n ≤ k0_t1_loop.trips →
    Fits (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 n).1 (shifted kc krow) n
      ∧ Fits (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 n).2.1 (shifted vc vrow) n := by
  intro n
  induction n with
  | zero => exact fun _ => ⟨⟨fun _ h => absurd h List.not_mem_nil, fun _ h => absurd h (Nat.not_lt_zero _)⟩,
      ⟨fun _ h => absurd h List.not_mem_nil, fun _ h => absurd h (Nat.not_lt_zero _)⟩⟩
  | succ n ih =>
    intro hn
    obtain ⟨ihk, ihv⟩ := ih (Nat.le_of_succ_le hn)
    have es := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 ⟨n, hn⟩
    have es1 := congrArg Prod.fst es
    have es2 := congrArg (fun z => z.2.1) es
    have ek := trip_nk (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 ⟨n, hn⟩
    have ev := trip_nv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 ⟨n, hn⟩
    refine ⟨?_, ?_⟩
    · exact (es1.trans (congrArg (· ++ _) ek)) ▸ Fits.step ⟨n, hn⟩ ihk _ _ (fun r x => head_good arg4 X_arg4 kc krow h4 ⟨n, hn⟩ r _ _ x) (fun r x => tail_good arg26 X_arg26 kc krow h26 ⟨n, hn⟩ r _ _ x)
    · exact (es2.trans (congrArg (· ++ _) ev)) ▸ Fits.step ⟨n, hn⟩ ihv _ _ (fun r x => head_good arg5 X_arg5 vc vrow h5 ⟨n, hn⟩ r _ _ x) (fun r x => tail_good arg27 X_arg27 vc vrow h27 ⟨n, hn⟩ r _ _ x)

/-- The keys' cache after the loop. -/
theorem loop_nk (𝒱 : Variants) (c : Dev nD) (bd : Option 𝒱.V) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole) (v216 : IVec S32x384 1) (v286 : FVec F S384x128 .bf16) (v287 : FVec F S48x128 .f32) (v300 : FVec F S32x128 .f32) (v301 : Vec F S1x128 .f32) (v307 : Vec F S1x128 .f32) (X_arg4 : BufTy.Contents (Elt F) arg4.view.ty) (X_arg5 : BufTy.Contents (Elt F) arg5.view.ty) (X_arg25 : BufTy.Contents (Elt F) arg25.view.ty) (X_arg26 : BufTy.Contents (Elt F) arg26.view.ty) (X_arg27 : BufTy.Contents (Elt F) arg27.view.ty) (kc : Vec F S32x128x128 .f32) (krow : Vec F S512x128 .f32) (f : BufTy.Contents (Elt F) arg21.view.ty)
    (h4 : arg4.view.read (Elt F) X_arg4 = kc) (h26 : arg26.view.read (Elt F) X_arg26 = krow) :
    arg21.view.read (Elt F) (arg21.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 (Scf.trips k0_t1_loop.lb k0_t1_loop.ub k0_t1_loop.st)).1) = shifted kc krow :=
  Fits.read (loop_fits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 kc _ krow _ h4 rfl h26 rfl k0_t1_loop.trips le_rfl).1 (Nat.le_of_eq trips_eq.symm) arg21 f

/-- The values' cache after the loop. -/
theorem loop_nv (𝒱 : Variants) (c : Dev nD) (bd : Option 𝒱.V) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole) (v216 : IVec S32x384 1) (v286 : FVec F S384x128 .bf16) (v287 : FVec F S48x128 .f32) (v300 : FVec F S32x128 .f32) (v301 : Vec F S1x128 .f32) (v307 : Vec F S1x128 .f32) (X_arg4 : BufTy.Contents (Elt F) arg4.view.ty) (X_arg5 : BufTy.Contents (Elt F) arg5.view.ty) (X_arg25 : BufTy.Contents (Elt F) arg25.view.ty) (X_arg26 : BufTy.Contents (Elt F) arg26.view.ty) (X_arg27 : BufTy.Contents (Elt F) arg27.view.ty) (vc : Vec F S32x128x128 .f32) (vrow : Vec F S512x128 .f32) (f : BufTy.Contents (Elt F) arg22.view.ty)
    (h5 : arg5.view.read (Elt F) X_arg5 = vc) (h27 : arg27.view.read (Elt F) X_arg27 = vrow) :
    arg22.view.read (Elt F) (arg22.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 (Scf.trips k0_t1_loop.lb k0_t1_loop.ub k0_t1_loop.st)).2.1) = shifted vc vrow :=
  Fits.read (loop_fits 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v216 v286 v287 v300 v301 v307 X_arg4 X_arg5 X_arg25 X_arg26 X_arg27 _ vc _ vrow rfl h5 rfl h27 k0_t1_loop.trips le_rfl).2 (Nat.le_of_eq trips_eq.symm) arg22 f

end Cert.Kernel3Ideal.Even

end
-- ==== Proof.EvenPay.lean ====
/-
  What the even-sample call's body stores, as functions of the blocks it reads.
-/
module

public import proofs.«01_k».proof.Proof.Gen.Kernel3Ideal.Skeleton
public import Idealize.ShloMosaic.Lib.Pipeline.Value

@[expose] public section

set_option maxRecDepth 16384

noncomputable section

namespace Cert.Kernel3Ideal.Even

open Idealize.ShloMosaic Idealize.ShloMosaic.TcCoe
open Cert.Kernel3Ideal.Gen

variable {F : FTy → Type} [FloatOps F]

/-- The recurrent branch's input: the normed rows times its columns of the input weight. -/
def xrOut (x0 : Vec F S512x1024 .f32) (x7 : Vec F S1x1024 .f32) (x8 : Vec F S1024x2432 .bf16) : Vec F S512x512 .f32 :=
  k0_pay299 x0 x7 (View.ld x8 (Rect.unit ![0, 768] S1024x512.size inb_S1024x2432_S1024x512_0_768))

/-- Key and value columns of the input product. -/
def kvCols (x0 : Vec F S512x1024 .f32) (x7 : Vec F S1x1024 .f32) (x8 : Vec F S1024x2432 .bf16) : FVec F S512x256 .f32 :=
  k0_pay298 x0 x7 (View.ld x8 (Rect.unit ![0, 512] S1024x256.size inb_S1024x2432_S1024x256_0_512))

/-- The new values. -/
def vRows (x0 : Vec F S512x1024 .f32) (x7 : Vec F S1x1024 .f32) (x8 : Vec F S1024x2432 .bf16) : Vec F S512x128 .f32 :=
  k0_pay319 (kvCols x0 x7 x8)

/-- The matrix of the heads' blocks, whose product sums a row over each head's 64 columns. -/
def headBlocks : FVec F S128x128 .bf16 :=
  k0_pay306 k0_pay303 (iota .tc S128x128 32 [1] iota_S128x128_d1_w32) 64#32 k0_pay304 k0_pay305 (Scalar.extui (Scalar.cmpi .sgt 64#32 0#32)) (Scalar.extui (Scalar.cmpi .slt 64#32 0#32))

/-- The new keys: normed by head, then turned by their position's angle. -/
def kRows (x0 : Vec F S512x1024 .f32) (x1 x2 : Vec F S512x128 .f32) (x7 : Vec F S1x1024 .f32) (x8 : Vec F S1024x2432 .bf16)
    (x10 : Vec F S2x128 .f32) : Vec F S512x128 .f32 :=
  k0_pay318 (k0_pay295 x1) (k0_pay296 x2)
    (k0_pay302 (k0_pay294 x0 x7) (View.ld x8 (Rect.unit ![0, 2304] S1024x128.size inb_S1024x2432_S1024x128_0_2304)))
    headBlocks (k0_pay316 (kvCols x0 x7 x8)) (k0_pay317 (View.ld x10 (Rect.unit ![0, 0] S1x128.size inb_S2x128_S1x128_0_0)))
    (View.ld x10 (Rect.unit ![1, 0] S1x128.size inb_S2x128_S1x128_1_0))

end Cert.Kernel3Ideal.Even

end
-- ==== Proof.EvenLru.lean ====
/- The recurrence the even-sample call runs over each sequence, as functions of the arrays it reads. -/
module

public import proofs.«01_k».proof.Proof.EvenPay

@[expose] public section

set_option maxRecDepth 16384

noncomputable section

namespace Cert.Kernel3Ideal.Even

open Idealize.ShloMosaic Idealize.ShloMosaic.TcCoe
open Cert.Kernel3Ideal.Gen

variable {F : FTy → Type} [FloatOps F]

/-- The length of a sequence, as the text picks it for a remainder. -/
def seqLen : BitVec 32 := Scalar.select (Scalar.cmpi .eq 16#32 0#32) 1#32 16#32

/-- The recurrent input after its four taps: own rows inside the sequence, cached rows before it. -/
def xcOut (xr xp : Vec F S512x512 .f32) (w : Vec F S4x512 .f32) (b : Vec F S1x512 .f32) : FVec F S512x512 .f32 :=
  k0_pay344 xr (k0_pay341 xr seqLen k0_pay337 k0_pay338 0#32 xp)
    (k0_pay343 xr seqLen k0_pay337 k0_pay338 0#32 xp
      (View.ld w (Rect.unit ![0, 0] S1x512.size inb_S4x512_S1x512_0_0)) b (View.ld w (Rect.unit ![1, 0] S1x512.size inb_S4x512_S1x512_1_0)))
    (View.ld w (Rect.unit ![2, 0] S1x512.size inb_S4x512_S1x512_2_0)) (View.ld w (Rect.unit ![3, 0] S1x512.size inb_S4x512_S1x512_3_0))

/-- The gate products of the first half of the columns. -/
def gates0 (xc : FVec F S512x512 .f32) (wg : Vec F S2x256x512 .bf16) : FVec F S512x512 .f32 :=
  matmul dot_S512x256_S256x512_S512x512_1_0_0_1_n_n none
    (extractStridedSlice S512x256 ![0, 0] (truncf .bf16 xc bitsLt_bf16_f32) slices_S512x512_o0_0_S512x256)
    (shapeCast S256x512 (View.ld wg (Rect.unit ![0, 0, 0] S1x256x512.size inb_S2x256x512_S1x256x512_0_0_0)) shapeCasts_S1x256x512_S256x512)
    (constant S512x512 .f32 0x00000000#32)

/-- The gate products of the second half of the columns. -/
def gates1 (xc : FVec F S512x512 .f32) (wg : Vec F S2x256x512 .bf16) : FVec F S512x512 .f32 :=
  matmul dot_S512x256_S256x512_S512x512_1_0_0_1_n_n none
    (extractStridedSlice S512x256 ![0, 256] (truncf .bf16 xc bitsLt_bf16_f32) slices_S512x512_o0_256_S512x256)
    (shapeCast S256x512 (View.ld wg (Rect.unit ![1, 0, 0] S1x256x512.size inb_S2x256x512_S1x256x512_1_0_0)) shapeCasts_S1x256x512_S256x512)
    (constant S512x512 .f32 0x00000000#32)

/-- A gate: the logistic of its product and bias. -/
def gate (g : FVec F S512x128 .f32) (b : Vec F S1x128 .f32) : FVec F S512x128 .f32 :=
  logistic (addf g (broadcastTo S512x128 (shapeCast S1x128 b shapeCasts_S1x128_S1x128) broadcasts_S1x128_S512x128))

/-- `log (1 + e^(-l))` of a row, in the form that does not overflow. -/
def softRow (l : Vec F S1x128 .f32) : FVec F S1x128 .f32 :=
  have z : FVec F S1x128 .f32 := subf (broadcast S1x128 (Scalar.ofBits .f32 0x00000000#32)) (shapeCast S1x128 l shapeCasts_S1x128_S1x128)
  have o : FVec F S1x128 .f32 := broadcast S1x128 (Scalar.ofBits .f32 0x00000000#32)
  have u : FVec F S1x128 .f32 := subf z o
  select (cmpf .one u u) (addf z o) (addf (maximumf z o) (log1p (exp (subf (broadcast S1x128 (Scalar.ofBits .f32 0x00000000#32)) (absf u)))))

/-- The logarithm of the decay. -/
def logDecay (r : FVec F S512x128 .f32) (l : Vec F S1x128 .f32) : FVec F S512x128 .f32 :=
  mulf r (broadcastTo S512x128 (mulf (broadcast S1x128 (Scalar.ofBits .f32 0xC1000000#32)) (softRow l)) broadcasts_S1x128_S512x128)

/-- The input's gain: the square root of `-tanh(x) (e^(2x) + 1)`. -/
def gain (la : FVec F S512x128 .f32) : FVec F S512x128 .f32 :=
  have a : FVec F S512x128 .f32 := exp la
  have y : FVec F S512x128 .f32 := mulf (subf (broadcast S512x128 (Scalar.ofBits .f32 0x00000000#32)) (tanh la)) (addf (mulf a a) (broadcast S512x128 (Scalar.ofBits .f32 0x3F800000#32)))
  select (cmpf .ogt y (broadcast S512x128 (Scalar.ofBits .f32 0x00000000#32))) (mulf y (rsqrt y)) (broadcast S512x128 (Scalar.ofBits .f32 0x00000000#32))

/-- What a step adds: the gated input, and at a sequence's first row the decayed state before it. -/
def driven (tm : IVec S512x128 32) (la gi xc h0 : FVec F S512x128 .f32) : FVec F S512x128 .f32 :=
  addf (mulf (gain la) (mulf gi xc))
    (select (cmpi .eq tm (broadcast S512x128 0#32)) (mulf (exp la) h0) (broadcast S512x128 (Scalar.ofBits .f32 0x00000000#32)))

/-- One doubling of the sums. -/
def stepB (tm : IVec S512x128 32) (d : BitVec 32) (a b : FVec F S512x128 .f32) : FVec F S512x128 .f32 :=
  addf (select (cmpi .sge tm (broadcast S512x128 d)) (mulf a (dynamicRotate 0 d none b rotates_S512x128_d0))
    (broadcast S512x128 (Scalar.ofBits .f32 0x00000000#32))) b

/-- One doubling of the products of decays. -/
def stepA (tm : IVec S512x128 32) (d : BitVec 32) (a : FVec F S512x128 .f32) : FVec F S512x128 .f32 :=
  select (cmpi .sge tm (broadcast S512x128 d)) (mulf a (dynamicRotate 0 d none a rotates_S512x128_d0)) a

/-- The scan over the sixteen rows of each sequence. -/
def scanned (tm : IVec S512x128 32) (a b : FVec F S512x128 .f32) : FVec F S512x128 .f32 :=
  stepB tm 8#32 (stepA tm 4#32 (stepA tm 2#32 (stepA tm 1#32 a)))
    (stepB tm 4#32 (stepA tm 2#32 (stepA tm 1#32 a)) (stepB tm 2#32 (stepA tm 1#32 a) (stepB tm 1#32 a b)))

/-- The states of 128 columns. -/
def tileOf (g gx : FVec F S512x128 .f32) (ba bx l : Vec F S1x128 .f32) (xc h0 : FVec F S512x128 .f32) : FVec F S512x128 .f32 :=
  scanned k0_pay336 (exp (logDecay (gate g ba) l)) (driven k0_pay336 (logDecay (gate g ba) l) (gate gx bx) xc h0)

/-- The states from the taps and the gate products. -/
def states (xc g0 g1 h0 : FVec F S512x512 .f32) (ba bx l : Vec F S1x512 .f32) : Vec F S512x512 .f32 :=
  concatenate S512x512 1
    [⟨S512x128, tileOf (extractStridedSlice S512x128 ![0, 0] g0 slices_S512x512_o0_0_S512x128) (extractStridedSlice S512x128 ![0, 256] g0 slices_S512x512_o0_256_S512x128)
        (View.ld ba (Rect.unit ![0, 0] S1x128.size inb_S1x512_S1x128_0_0)) (View.ld bx (Rect.unit ![0, 0] S1x128.size inb_S1x512_S1x128_0_0)) (View.ld l (Rect.unit ![0, 0] S1x128.size inb_S1x512_S1x128_0_0))
        (extractStridedSlice S512x128 ![0, 0] xc slices_S512x512_o0_0_S512x128) (extractStridedSlice S512x128 ![0, 0] h0 slices_S512x512_o0_0_S512x128)⟩,
     ⟨S512x128, tileOf (extractStridedSlice S512x128 ![0, 128] g0 slices_S512x512_o0_128_S512x128) (extractStridedSlice S512x128 ![0, 384] g0 slices_S512x512_o0_384_S512x128)
        (View.ld ba (Rect.unit ![0, 128] S1x128.size inb_S1x512_S1x128_0_128)) (View.ld bx (Rect.unit ![0, 128] S1x128.size inb_S1x512_S1x128_0_128)) (View.ld l (Rect.unit ![0, 128] S1x128.size inb_S1x512_S1x128_0_128))
        (extractStridedSlice S512x128 ![0, 128] xc slices_S512x512_o0_128_S512x128) (extractStridedSlice S512x128 ![0, 128] h0 slices_S512x512_o0_128_S512x128)⟩,
     ⟨S512x128, tileOf (extractStridedSlice S512x128 ![0, 0] g1 slices_S512x512_o0_0_S512x128) (extractStridedSlice S512x128 ![0, 256] g1 slices_S512x512_o0_256_S512x128)
        (View.ld ba (Rect.unit ![0, 256] S1x128.size inb_S1x512_S1x128_0_256)) (View.ld bx (Rect.unit ![0, 256] S1x128.size inb_S1x512_S1x128_0_256)) (View.ld l (Rect.unit ![0, 256] S1x128.size inb_S1x512_S1x128_0_256))
        (extractStridedSlice S512x128 ![0, 256] xc slices_S512x512_o0_256_S512x128) (extractStridedSlice S512x128 ![0, 256] h0 slices_S512x512_o0_256_S512x128)⟩,
     ⟨S512x128, tileOf (extractStridedSlice S512x128 ![0, 128] g1 slices_S512x512_o0_128_S512x128) (extractStridedSlice S512x128 ![0, 384] g1 slices_S512x512_o0_384_S512x128)
        (View.ld ba (Rect.unit ![0, 384] S1x128.size inb_S1x512_S1x128_0_384)) (View.ld bx (Rect.unit ![0, 384] S1x128.size inb_S1x512_S1x128_0_384)) (View.ld l (Rect.unit ![0, 384] S1x128.size inb_S1x512_S1x128_0_384))
        (extractStridedSlice S512x128 ![0, 384] xc slices_S512x512_o0_384_S512x128) (extractStridedSlice S512x128 ![0, 384] h0 slices_S512x512_o0_384_S512x128)⟩]
    concatenates_S512x128_S512x128_S512x128_S512x128_S512x512_d1

/-- The stored states. -/
def hOut (x0 : Vec F S512x1024 .f32) (x5 x6 : Vec F S512x512 .f32) (x7 : Vec F S1x1024 .f32) (x8 : Vec F S1024x2432 .bf16) (x12 : Vec F S4x512 .f32)
    (x13 : Vec F S1x512 .f32) (x14 : Vec F S2x256x512 .bf16) (x15 x16 x17 : Vec F S1x512 .f32) : Vec F S512x512 .f32 :=
  states (xcOut (xrOut x0 x7 x8) x6 x12 x13) (gates0 (xcOut (xrOut x0 x7 x8) x6 x12 x13) x14) (gates1 (xcOut (xrOut x0 x7 x8) x6 x12 x13) x14)
    (k0_pay342 x5) x15 x16 x17

end Cert.Kernel3Ideal.Even

end
-- ==== Proof.EvenBody.lean ====
/- The body of the even-sample call, run once: what it leaves in the two moved caches and in the recurrent input. -/
module

public import proofs.«01_k».proof.Proof.EvenLoop
public import proofs.«01_k».proof.Proof.EvenPay
public import proofs.«01_k».proof.Proof.EvenLru
public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.Value
public import Idealize.ShloMosaic.Lib.Tactic

@[expose] public section

set_option maxRecDepth 16384

noncomputable section

namespace Cert.Kernel3Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

theorem zero2 : (![0, 0] : Fin 2 → ℕ) = fun _ => 0 := by decide

/-- What a buffer reads after a store of the whole of it. -/
theorem read_stored {κ : Kind} {sp : Space} {S : Shape} {e : EltTy} (v : View sig κ sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨(⟨Rect.unit off S.size inb, w⟩ : View.Piece (Elt F) S e), List.mem_cons_self,
    View.mem_set_unit_zero h inb y⟩).trans (View.canon_cons_unit_zero h inb w L)

set_option maxHeartbeats 4000000 in
/-- The body's run over whole blocks: the inputs stay, the two caches are moved on by the new rows, and the recurrent
    input is stored; the other two outputs and the scratch end at some contents. -/
theorem body_run (c : Dev nD) (i : grid0.Coords) (arg1 : Memref sig .tc .vmem S512x1024 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x1024 .f32) (harg8 : arg8.IsWhole) (arg9 : Memref sig .tc .vmem S1024x2432 .bf16) (harg9 : arg9.IsWhole) (arg10 : Memref sig .tc .vmem S2x128 .f32) (harg10 : arg10.IsWhole) (arg11 : Memref sig .tc .vmem S2x128 .f32) (harg11 : arg11.IsWhole) (arg12 : Memref sig .tc .vmem S4x128 .f32) (harg12 : arg12.IsWhole) (arg13 : Memref sig .tc .vmem S4x512 .f32) (harg13 : arg13.IsWhole) (arg14 : Memref sig .tc .vmem S1x512 .f32) (harg14 : arg14.IsWhole) (arg15 : Memref sig .tc .vmem S2x256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S32x128x128 .f32) (harg21 : arg21.IsWhole) (arg22 : Memref sig .tc .vmem S32x128x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x128 .f32) (harg26 : arg26.IsWhole) (arg27 : Memref sig .tc .vmem S512x128 .f32) (harg27 : arg27.IsWhole) (arg28 : Memref sig .tc .vmem S512x1024 .f32) (harg28 : arg28.IsWhole)
    (x0 : Vec F S512x1024 .f32) (x1 : Vec F S512x128 .f32) (x2 : Vec F S512x128 .f32) (x3 : Vec F S32x128x128 .f32) (x4 : Vec F S32x128x128 .f32) (x5 : Vec F S512x512 .f32) (x6 : Vec F S512x512 .f32) (x7 : Vec F S1x1024 .f32) (x8 : Vec F S1024x2432 .bf16) (x9 : Vec F S2x128 .f32) (x10 : Vec F S2x128 .f32) (x11 : Vec F S4x128 .f32) (x12 : Vec F S4x512 .f32) (x13 : Vec F S1x512 .f32) (x14 : Vec F S2x256x512 .bf16) (x15 : Vec F S1x512 .f32) (x16 : Vec F S1x512 .f32) (x17 : Vec F S1x512 .f32) (x18 : Vec F S1024x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare (shifted x3 (kRows x0 x1 x2 x7 x8 x10)) ∗ owns (c : Thread nD τ) arg22 fullShare (shifted x4 (vRows x0 x7 x8)) ∗ owns (c : Thread nD τ) arg23 fullShare (hOut x0 x5 x6 x7 x8 x12 x13 x14 x15 x16 x17) ∗ owns (c : Thread nD τ) arg24 fullShare (xrOut x0 x7 x8) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0_even_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
    intro E K
    simp only [cc0_even_mixer_sample_eq_skeleton]; unfold cc0_even_mixer_sample_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _; isplitr; swap; · iexact H20
      ipureintro
      refine loop_nk Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ _ _ x3 (kRows x0 x1 x2 x7 x8 x10) f20 (harg4.read_unread _) ?_
      sl_unfold_run_names
      refine (read_stored arg26.view zero2 _ _ _ _).trans ?_
      simp only [View.readAt_eq_ld, harg1.read_unread, harg2.read_unread, harg3.read_unread, harg8.read_unread, harg9.read_unread, harg11.read_unread, View.ld_unit_zero (S := S512x1024) zero2, View.ld_unit_zero (S := S1x1024) zero2, View.ld_unit_zero (S := S512x128) zero2]
      rfl
    isplitl [H21]
    · iexists _; isplitr; swap; · iexact H21
      ipureintro
      refine loop_nv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ _ _ _ _ _ _ _ _ _ x4 (vRows x0 x7 x8) f21 (harg5.read_unread _) ?_
      sl_unfold_run_names
      refine (read_stored arg27.view zero2 _ _ _ _).trans ?_
      simp only [View.readAt_eq_ld, harg1.read_unread, harg8.read_unread, harg9.read_unread, View.ld_unit_zero (S := S512x1024) zero2, View.ld_unit_zero (S := S1x1024) zero2, View.ld_unit_zero (S := S512x128) zero2]
      rfl
    isplitl [H22]
    · iexists _; isplitr; swap; · iexact H22
      ipureintro
      refine (read_stored arg23.view zero2 _ _ _ _).trans ?_
      sl_unfold_run_names
      simp only [View.readAt_eq_ld, harg1.read_unread, harg6.read_unread, harg7.read_unread, harg8.read_unread, harg9.read_unread, harg13.read_unread, harg14.read_unread, harg15.read_unread, harg16.read_unread, harg17.read_unread, harg18.read_unread, View.ld_unit_zero (S := S512x1024) zero2, View.ld_unit_zero (S := S1x1024) zero2, View.ld_unit_zero (S := S512x512) zero2, View.ld_unit_zero (S := S1x512) zero2]
      rfl
    isplitl [H23]
    · iexists _; isplitr; swap; · iexact H23
      ipureintro
      refine (read_stored arg24.view zero2 _ _ _ _).trans ?_
      sl_unfold_run_names
      simp only [View.readAt_eq_ld, harg1.read_unread, harg8.read_unread, harg9.read_unread, View.ld_unit_zero (S := S512x1024) zero2, View.ld_unit_zero (S := S1x1024) zero2, View.ld_unit_zero (S := S512x128) zero2]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel3Ideal.Even

end
-- ==== Proof.EvenRun.lean ====
/-
  The launch of the even-sample call: what the body leaves in each window at its one point, the body's obligation, the
  run and the frame. The two outputs of which nothing is claimed are handed back at some contents.
-/
module

public import proofs.«01_k».proof.Proof.EvenBody
public import proofs.«01_k».proof.Proof.Gen.Kernel3Ideal.Launch
public import Idealize.ShloMosaic.Lib.Claim
public import Idealize.ShloMosaic.Lib.WordCmp
public import Idealize.ShloMosaic.Lib.Pipeline.TableIdle

@[expose] public section

set_option maxRecDepth 16384

noncomputable section

namespace Cert.Kernel3Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output of which nothing is claimed: the mixed rows. -/
def forgets : Fin 24 → Bool := fun w => w.val == 19

/-- What the body leaves in the key cache, -/
def nkAt (c : Dev nD) (t : Fin cfg0.N) : Vec F S32x128x128 .f32 :=
  shifted (iblk m c 3 t) (kRows (iblk m c 0 t) (iblk m c 1 t) (iblk m c 2 t) (iblk m c 7 t) (iblk m c 8 t) (iblk m c 10 t))

/-- in the value cache, -/
def nvAt (c : Dev nD) (t : Fin cfg0.N) : Vec F S32x128x128 .f32 :=
  shifted (iblk m c 4 t) (vRows (iblk m c 0 t) (iblk m c 7 t) (iblk m c 8 t))

/-- in the recurrent states, -/
def hAt (c : Dev nD) (t : Fin cfg0.N) : Vec F S512x512 .f32 :=
  hOut (iblk m c 0 t) (iblk m c 5 t) (iblk m c 6 t) (iblk m c 7 t) (iblk m c 8 t) (iblk m c 12 t) (iblk m c 13 t) (iblk m c 14 t)
    (iblk m c 15 t) (iblk m c 16 t) (iblk m c 17 t)

/-- and in the recurrent input. -/
def xrAt (c : Dev nD) (t : Fin cfg0.N) : Vec F S512x512 .f32 :=
  xrOut (iblk m c 0 t) (iblk m c 7 t) (iblk m c 8 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, _⟩ => nkAt m c t
    | ⟨21, _⟩ => nvAt m c t
    | ⟨22, _⟩ => hAt m c t
    | ⟨23, _⟩ => xrAt m c t
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_20 (c : Dev nD) (t : Fin cfg0.N) : (dats m 0 c).after 20 t = nkAt m c t := by dsimp only [dats]
theorem after_21 (c : Dev nD) (t : Fin cfg0.N) : (dats m 0 c).after 21 t = nvAt m c t := by dsimp only [dats]
theorem after_22 (c : Dev nD) (t : Fin cfg0.N) : (dats m 0 c).after 22 t = hAt m c t := by dsimp only [dats]
theorem after_23 (c : Dev nD) (t : Fin cfg0.N) : (dats m 0 c).after 23 t = xrAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

/-- Each window's current staging buffer at point `t`. -/
abbrev ms_0 (t : Fin cfg0.N) : Memref sig .tc .vmem S512x1024 .f32 := win0_0.stage (cfg0.slots t 0)
abbrev ms_1 (t : Fin cfg0.N) : Memref sig .tc .vmem S512x128 .f32 := win0_1.stage (cfg0.slots t 1)
abbrev ms_2 (t : Fin cfg0.N) : Memref sig .tc .vmem S512x128 .f32 := win0_2.stage (cfg0.slots t 2)
abbrev ms_3 (t : Fin cfg0.N) : Memref sig .tc .vmem S32x128x128 .f32 := win0_3.stage (cfg0.slots t 3)
abbrev ms_4 (t : Fin cfg0.N) : Memref sig .tc .vmem S32x128x128 .f32 := win0_4.stage (cfg0.slots t 4)
abbrev ms_5 (t : Fin cfg0.N) : Memref sig .tc .vmem S512x512 .f32 := win0_5.stage (cfg0.slots t 5)
abbrev ms_6 (t : Fin cfg0.N) : Memref sig .tc .vmem S512x512 .f32 := win0_6.stage (cfg0.slots t 6)
abbrev ms_7 (t : Fin cfg0.N) : Memref sig .tc .vmem S1x1024 .f32 := win0_7.stage (cfg0.slots t 7)
abbrev ms_8 (t : Fin cfg0.N) : Memref sig .tc .vmem S1024x2432 .bf16 := win0_8.stage (cfg0.slots t 8)
abbrev ms_9 (t : Fin cfg0.N) : Memref sig .tc .vmem S2x128 .f32 := win0_9.stage (cfg0.slots t 9)
abbrev ms_10 (t : Fin cfg0.N) : Memref sig .tc .vmem S2x128 .f32 := win0_10.stage (cfg0.slots t 10)
abbrev ms_11 (t : Fin cfg0.N) : Memref sig .tc .vmem S4x128 .f32 := win0_11.stage (cfg0.slots t 11)
abbrev ms_12 (t : Fin cfg0.N) : Memref sig .tc .vmem S4x512 .f32 := win0_12.stage (cfg0.slots t 12)
abbrev ms_13 (t : Fin cfg0.N) : Memref sig .tc .vmem S1x512 .f32 := win0_13.stage (cfg0.slots t 13)
abbrev ms_14 (t : Fin cfg0.N) : Memref sig .tc .vmem S2x256x512 .bf16 := win0_14.stage (cfg0.slots t 14)
abbrev ms_15 (t : Fin cfg0.N) : Memref sig .tc .vmem S1x512 .f32 := win0_15.stage (cfg0.slots t 15)
abbrev ms_16 (t : Fin cfg0.N) : Memref sig .tc .vmem S1x512 .f32 := win0_16.stage (cfg0.slots t 16)
abbrev ms_17 (t : Fin cfg0.N) : Memref sig .tc .vmem S1x512 .f32 := win0_17.stage (cfg0.slots t 17)
abbrev ms_18 (t : Fin cfg0.N) : Memref sig .tc .vmem S1024x1024 .f32 := win0_18.stage (cfg0.slots t 18)
abbrev ms_19 (t : Fin cfg0.N) : Memref sig .tc .vmem S512x1024 .f32 := win0_19.stage (cfg0.slots t 19)
abbrev ms_20 (t : Fin cfg0.N) : Memref sig .tc .vmem S32x128x128 .f32 := win0_20.stage (cfg0.slots t 20)
abbrev ms_21 (t : Fin cfg0.N) : Memref sig .tc .vmem S32x128x128 .f32 := win0_21.stage (cfg0.slots t 21)
abbrev ms_22 (t : Fin cfg0.N) : Memref sig .tc .vmem S512x512 .f32 := win0_22.stage (cfg0.slots t 22)
abbrev ms_23 (t : Fin cfg0.N) : Memref sig .tc .vmem S512x512 .f32 := win0_23.stage (cfg0.slots t 23)

/-- The scratch buffers. -/
abbrev sc_0 : Memref sig .tc .vmem S512x512 .f32 := Memref.whole cc0_scratch0
abbrev sc_1 : Memref sig .tc .vmem S512x128 .f32 := Memref.whole cc0_scratch1
abbrev sc_2 : Memref sig .tc .vmem S512x128 .f32 := Memref.whole cc0_scratch2
abbrev sc_3 : Memref sig .tc .vmem S512x1024 .f32 := Memref.whole cc0_scratch3

/-- What is carried between points is the scratch buffers at some contents and the generator's register. -/
theorem carried_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d))
    ∗ (∃ d, owns (c : Thread nD τ) (ms_18 t) fullShare ((dats m 0 c).before 18 t d))
    ∗ (∃ d, owns (c : Thread nD τ) (ms_19 t) fullShare d)
    ∗ (∃ d, owns (c : Thread nD τ) (ms_20 t) fullShare ((dats m 0 c).before 20 t d))
    ∗ (∃ d, owns (c : Thread nD τ) (ms_21 t) fullShare ((dats m 0 c).before 21 t d))
    ∗ (∃ d, owns (c : Thread nD τ) (ms_22 t) fullShare ((dats m 0 c).before 22 t d))
    ∗ (∃ d, owns (c : Thread nD τ) (ms_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t)
    ∗ owns (c : Thread nD τ) (ms_13 t) fullShare ((dats m 0 c).after 13 t)
    ∗ owns (c : Thread nD τ) (ms_14 t) fullShare ((dats m 0 c).after 14 t)
    ∗ owns (c : Thread nD τ) (ms_15 t) fullShare ((dats m 0 c).after 15 t)
    ∗ owns (c : Thread nD τ) (ms_16 t) fullShare ((dats m 0 c).after 16 t)
    ∗ owns (c : Thread nD τ) (ms_17 t) fullShare ((dats m 0 c).after 17 t)
    ∗ owns (c : Thread nD τ) (ms_18 t) fullShare ((dats m 0 c).after 18 t)
    ∗ (∃ d, owns (c : Thread nD τ) (ms_19 t) fullShare d)
    ∗ owns (c : Thread nD τ) (ms_20 t) fullShare ((dats m 0 c).after 20 t)
    ∗ owns (c : Thread nD τ) (ms_21 t) fullShare ((dats m 0 c).after 21 t)
    ∗ owns (c : Thread nD τ) (ms_22 t) fullShare ((dats m 0 c).after 22 t)
    ∗ owns (c : Thread nD τ) (ms_23 t) fullShare ((dats m 0 c).after 23 t))

set_option maxHeartbeats 2800000 in
/-- The body at its point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_20, after_21, after_22, after_23]
  rw [show (dats m 0 c).Φ t.castSucc = Pipeline.ΦA spec0 c from rfl, carried_eq]
  unfold nkAt nvAt hAt xrAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, H23, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- The launch: every array at what the proof data says where it says anything, and every semaphore counter at zero. -/
theorem run_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1440000 in
/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ hq => ⟨fun c => have h := hq.1; ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩, hq.2⟩) (run_quiescent m ρ)

end Cert.Kernel3Ideal.Even

end
-- ==== Proof.Rows.lean ====
/-
  Facts about the extended reals that both calls use: the reciprocal of a mean of squares and the square of its inverse
  root, non-negative real factors moved out of sums and out of `max · 0`, and the constants of the texts.
-/
module

public import Idealize.ShloMosaic.Lib.Pipeline.ValueKit

@[expose] public section

set_option maxRecDepth 16384

noncomputable section

namespace Cert.Rows

open Idealize.ShloMosaic
open scoped BigOperators

/-- The constants of the two texts: 1024, the norm's small number (a positive real), and one. -/
theorem c1024 : Ideal.ofBits .f32 0x44800000#32 = ((1024 : ℝ) : EReal) := by
  simp [Ideal.ofBits, Ideal.ieee]; rw [← EReal.coe_mul]; norm_num
theorem ceps : ∃ e : ℝ, 0 < e ∧ Ideal.ofBits .f32 0x358637BD#32 = (e : EReal) := by
  refine ⟨_, ?_, by simp [Ideal.ofBits, Ideal.ieee]; norm_cast⟩
  norm_num
theorem c1 : Ideal.ofBits .f32 0x3F800000#32 = ((1 : ℝ) : EReal) := by
  simp [Ideal.ofBits, Ideal.ieee]; rw [← EReal.coe_mul]; norm_num

/-- A square is not negative. -/
theorem sq_nonneg (x : EReal) : 0 ≤ x * x := by
  rcases le_total 0 x with h | h
  · exact mul_nonneg h h
  · have : 0 ≤ (-x) * (-x) := mul_nonneg (by simpa using h) (by simpa using h)
    simpa using this

/-- A mean of squares over 1024 lanes. -/
def mean (x : Fin 1024 → EReal) : EReal := Ideal.div (∑ k, x k * x k) ((1024 : ℝ) : EReal)

theorem div_nonneg (a : EReal) (h : 0 ≤ a) (n : ℝ) (hn : 0 < n) : 0 ≤ Ideal.div a (n : EReal) := by
  unfold Ideal.div
  rw [if_neg (by exact_mod_cast hn.ne')]
  refine mul_nonneg h ?_
  rw [← EReal.coe_inv]
  exact_mod_cast (inv_pos.mpr hn).le

theorem mean_nonneg (x : Fin 1024 → EReal) : 0 ≤ mean x :=
  div_nonneg _ (Finset.sum_nonneg fun k _ => sq_nonneg _) _ (by norm_num)

/-- The inverse root of a non-negative number plus a positive real is a non-negative real, and its square is the
    reciprocal. Where the number is `⊤` both are zero. -/
theorem rsqrt_real (a : EReal) (ha : 0 ≤ a) (e : ℝ) (he : 0 < e) :
    ∃ r : ℝ, 0 ≤ r ∧ Ideal.rsqrt (a + (e : EReal)) = (r : EReal)
      ∧ Ideal.div ((1 : ℝ) : EReal) (a + (e : EReal)) = ((r * r : ℝ) : EReal) := by
  induction a with
  | bot => simp at ha
  | top =>
    refine ⟨0, le_refl _, ?_, ?_⟩
    · rw [EReal.top_add_coe]; rfl
    · simp [Ideal.div]
  | coe s =>
    have hs : 0 ≤ s := by exact_mod_cast ha
    have hp : 0 < s + e := by positivity
    refine ⟨(Real.sqrt (s + e))⁻¹, by positivity, ?_, ?_⟩
    · rw [← EReal.coe_add]
      show (if s + e < 0 then ⊥ else if s + e = 0 then ⊤ else (((Real.sqrt (s + e))⁻¹ : ℝ) : EReal)) = _
      rw [if_neg (by linarith), if_neg hp.ne']
    · rw [← EReal.coe_add]
      unfold Ideal.div
      rw [if_neg (by exact_mod_cast hp.ne'), ← EReal.coe_inv, ← EReal.coe_mul]
      congr 1
      rw [← mul_inv, Real.mul_self_sqrt hp.le, one_mul]

/-- A non-negative real factor moves into a sum. -/
theorem mul_sum (r : ℝ) (hr : 0 ≤ r) {ι : Type} (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A non-negative real factor leaves `max · 0`. -/
theorem mul_max (r : ℝ) (hr : 0 ≤ r) (a : EReal) : max ((r : EReal) * a) 0 = (r : EReal) * max a 0 := by
  have hr' : (0 : EReal) ≤ (r : EReal) := by exact_mod_cast hr
  rcases le_total a 0 with h | h
  · rw [max_eq_right h, mul_zero, max_eq_right]
    have : 0 ≤ (r : EReal) * (-a) := mul_nonneg hr' (by simpa using h)
    rw [mul_neg] at this
    simpa using this
  · rw [max_eq_left h, max_eq_left (mul_nonneg hr' h)]

/-- A sum over 4096 lanes is the sum over its four quarters. -/
theorem sum_quarters (f : Fin 4096 → EReal) :
    ∑ k, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [show (∑ k, f k) = ∑ k : Fin (1024 + 1024 + 1024 + 1024), f ⟨k.val, by omega⟩ from rfl]
  rw [Fin.sum_univ_add, Fin.sum_univ_add, Fin.sum_univ_add]
  rfl

end Cert.Rows

end
-- ==== Proof.EvenRows.lean ====
/-
  A row of the even-sample call's input product and of its new keys, as the kernel computes them and as the reference
  does, and that the two agree.
-/
module

public import proofs.«01_k».proof.Proof.Rows

@[expose] public section

set_option maxRecDepth 16384

noncomputable section

namespace Cert.Even

open Idealize.ShloMosaic
open scoped BigOperators

/-- A row normed by its root mean square and weighted by `g`. -/
def nrm (x g : Fin 1024 → EReal) (k : Fin 1024) : EReal :=
  x k * Ideal.rsqrt (Ideal.div (∑ k, x k * x k) (Ideal.ofBits .f32 0x44800000#32) + Ideal.ofBits .f32 0x358637BD#32) * g k

/-- One column of the input product. -/
def col (x g w : Fin 1024 → EReal) : EReal := ∑ k, nrm x g k * w k

/-- The other half's lane of a head. -/
def swap (d : Fin 64) : Fin 64 := ⟨(d.val + 32) % 64, by omega⟩

/-- A head's key lane as the kernel computes it: `s` sums the squares, the norm's factor comes last. -/
def kkey (y g : Fin 64 → EReal) (c s : EReal) (d : Fin 64) : EReal :=
  (y d * (c * (g d * Ideal.ofBits .f32 0x41000000#32)) + y (swap d) * (s * (g (swap d) * Ideal.ofBits .f32 0x41000000#32)))
    * Ideal.rsqrt (∑ d, y d * y d + Ideal.ofBits .f32 0x388637BD#32)

/-- A head's key lane, normed and weighted, as the reference computes it. -/
def rnrm (y g : Fin 64 → EReal) (d : Fin 64) : EReal :=
  y d * Ideal.rsqrt (Ideal.div (∑ d, y d * y d) (Ideal.ofBits .f32 0x42800000#32) + Ideal.ofBits .f32 0x358637BD#32) * g d

/-- The angle of a position of the sample and a lane of the half head. -/
def angle (t : Fin 16) (d : Fin 32) : EReal :=
  FloatOps.sitofp (F := Ideal) .f32 (IntOp.addi 4096#32 (BitVec.ofNat 32 t.val))
    * Ideal.pow (Ideal.ofBits .f32 0x461C4000#32)
        (Ideal.div (-FloatOps.sitofp (F := Ideal) .f32 (BitVec.ofNat 32 d.val)) (Ideal.ofBits .f32 0x42000000#32))

theorem c8 : Ideal.ofBits .f32 0x41000000#32 = ((8 : ℝ) : EReal) := by
  simp [Ideal.ofBits, Ideal.ieee]; rw [← EReal.coe_mul]; norm_num
theorem c64 : Ideal.ofBits .f32 0x42800000#32 = ((64 : ℝ) : EReal) := by
  simp [Ideal.ofBits, Ideal.ieee]; rw [← EReal.coe_mul]; norm_num

/-- The kernel's small number is 64 times the reference's. -/
theorem ceps64 : ∃ e : ℝ, 0 < e ∧ Ideal.ofBits .f32 0x358637BD#32 = (e : EReal)
    ∧ Ideal.ofBits .f32 0x388637BD#32 = ((64 * e : ℝ) : EReal) := by
  refine ⟨8796093 * (2:ℝ) ^ (-43 : ℤ), by positivity, ?_, ?_⟩
  · simp [Ideal.ofBits, Ideal.ieee]
  · simp [Ideal.ofBits, Ideal.ieee]; rw [← EReal.coe_mul, ← EReal.coe_mul, ← EReal.coe_mul]; norm_num

/-- The norm's factor over a sum is eight times less than over its mean. -/
theorem rsqrt_64 (a : EReal) (ha : 0 ≤ a) (e : ℝ) (he : 0 < e) :
    ∃ r : ℝ, 0 ≤ r ∧ Ideal.rsqrt (a + ((64 * e : ℝ) : EReal)) = (r : EReal)
      ∧ Ideal.rsqrt (Ideal.div a ((64 : ℝ) : EReal) + (e : EReal)) = ((8 * r : ℝ) : EReal) := by
  induction a with
  | bot => simp at ha
  | top =>
    refine ⟨0, le_refl _, ?_, ?_⟩
    · rw [EReal.top_add_coe]; rfl
    · have h : Ideal.div ⊤ ((64 : ℝ) : EReal) = ⊤ := by
        unfold Ideal.div
        rw [if_neg (by exact_mod_cast (by norm_num : (64 : ℝ) ≠ 0)), ← EReal.coe_inv]
        exact EReal.top_mul_coe_of_pos (by norm_num)
      rw [h, EReal.top_add_coe, mul_zero]; rfl
  | coe s =>
    have hs : 0 ≤ s := by exact_mod_cast ha
    have hp : 0 < s + 64 * e := by positivity
    have hq : 0 < s * 64⁻¹ + e := by positivity
    refine ⟨(Real.sqrt (s + 64 * e))⁻¹, by positivity, ?_, ?_⟩
    · rw [← EReal.coe_add]
      show (if s + 64 * e < 0 then ⊥ else if s + 64 * e = 0 then ⊤ else (((Real.sqrt (s + 64 * e))⁻¹ : ℝ) : EReal)) = _
      rw [if_neg (by linarith), if_neg hp.ne']
    · have h : Ideal.div (s : EReal) ((64 : ℝ) : EReal) = ((s * 64⁻¹ : ℝ) : EReal) := by
        unfold Ideal.div
        rw [if_neg (by exact_mod_cast (by norm_num : (64 : ℝ) ≠ 0)), ← EReal.coe_inv, ← EReal.coe_mul]
      rw [h, ← EReal.coe_add]
      show (if s * 64⁻¹ + e < 0 then ⊥ else if s * 64⁻¹ + e = 0 then ⊤ else (((Real.sqrt (s * 64⁻¹ + e))⁻¹ : ℝ) : EReal)) = _
      rw [if_neg (by linarith), if_neg hq.ne']
      congr 1
      have h1 : s + 64 * e = 8 ^ 2 * (s * 64⁻¹ + e) := by ring
      rw [h1, Real.sqrt_mul (by norm_num), Real.sqrt_sq (by norm_num), mul_inv]
      ring

/-- The kernel's key lane over the reference's normed lanes. -/
theorem kkey_eq (y g : Fin 64 → EReal) (c s : EReal) (d : Fin 64) :
    kkey y g c s d = rnrm y g d * c + rnrm y g (swap d) * s := by
  unfold kkey rnrm
  obtain ⟨e, he, h1, h2⟩ := ceps64
  rw [h1, h2, c8, c64]
  obtain ⟨r, hr, hk, hq⟩ := rsqrt_64 (∑ d, y d * y d) (Finset.sum_nonneg fun _ _ => Rows.sq_nonneg _) e he
  rw [hk, hq, EReal.right_distrib_of_nonneg_of_ne_top (by exact_mod_cast hr) (EReal.coe_ne_top r), EReal.coe_mul]
  congr 1 <;> ac_rfl

/-- A sum over the lanes of two heads that keeps one head's lanes is the sum over that head. -/
theorem sum_head (f : Fin 128 → EReal) (j : Fin 128) :
    ∑ x, f x * (if x.val / 64 = j.val / 64 then ((1 : ℝ) : EReal) else ((0 : ℝ) : EReal))
      = ∑ d : Fin 64, f ⟨j.val / 64 * 64 + d.val, by omega⟩ := by
  rw [show (∑ x, f x * (if x.val / 64 = j.val / 64 then ((1 : ℝ) : EReal) else ((0 : ℝ) : EReal)))
    = ∑ x : Fin (64 + 64), f x * (if x.val / 64 = j.val / 64 then ((1 : ℝ) : EReal) else ((0 : ℝ) : EReal)) from rfl, Fin.sum_univ_add]
  have hz : ((0 : ℝ) : EReal) = 0 := rfl
  have ho : ((1 : ℝ) : EReal) = 1 := rfl
  rcases (by omega : j.val / 64 = 0 ∨ j.val / 64 = 1) with h | h
  · have h1 : ∀ x : Fin 64, (Fin.castAdd 64 x).val / 64 = j.val / 64 := fun x => by simp only [Fin.val_castAdd]; omega
    have h2 : ∀ x : Fin 64, ¬(Fin.natAdd 64 x).val / 64 = j.val / 64 := fun x => by simp only [Fin.val_natAdd]; omega
    simp only [h1, h2, if_true, if_false, hz, ho, mul_one, mul_zero, Finset.sum_const_zero, add_zero]
    exact Finset.sum_congr rfl fun x _ => congrArg f (Fin.ext (by simp only [Fin.val_castAdd]; omega))
  · have h1 : ∀ x : Fin 64, ¬(Fin.castAdd 64 x).val / 64 = j.val / 64 := fun x => by simp only [Fin.val_castAdd]; omega
    have h2 : ∀ x : Fin 64, (Fin.natAdd 64 x).val / 64 = j.val / 64 := fun x => by simp only [Fin.val_natAdd]; omega
    simp only [h1, h2, if_true, if_false, hz, ho, mul_one, mul_zero, Finset.sum_const_zero, zero_add]
    exact Finset.sum_congr rfl fun x _ => congrArg f (Fin.ext (by simp only [Fin.val_natAdd]; omega))

end Cert.Even

end
-- ==== Proof.EvenVals.lean ====
/-
  What the even-sample call's body stores, read at an element.
-/
module

public import proofs.«01_k».proof.Proof.EvenPay
public import proofs.«01_k».proof.Proof.EvenRows
public import Idealize.ShloMosaic.Lib.Pipeline.ValueKit

@[expose] public section

set_option maxRecDepth 16384

noncomputable section

namespace Cert.Kernel3Ideal.Even

open Idealize.ShloMosaic Idealize.ShloMosaic.TcCoe Idealize.SL.Sem
open Cert.Kernel3Ideal.Gen
open Cert.Even (nrm col swap kkey sum_head)
open scoped BigOperators

/-- A normed row. -/
theorem normed_apply (x0 : Vec Ideal S512x1024 .f32) (x7 : Vec Ideal S1x1024 .f32) (R : Fin 512) (k : Fin 1024) :
    k0_pay294 (F := Ideal) x0 x7 (ix2 R k) = nrm (fun k => x0 (ix2 R k)) (fun k => x7 (ix2 0 k)) k := by
  unfold nrm
  pointwise [k0_pay294, k0_pay293]

/-- The recurrent input. -/
theorem xrOut_apply (x0 : Vec Ideal S512x1024 .f32) (x7 : Vec Ideal S1x1024 .f32) (x8 : Vec Ideal S1024x2432 .bf16) (R : Fin 512) (j : Fin 512) :
    xrOut x0 x7 x8 (ix2 R j)
      = col (fun k => x0 (ix2 R k)) (fun k => x7 (ix2 0 k)) (fun k => x8 (ix2 k ⟨768 + j.val, by omega⟩)) := by
  unfold xrOut k0_pay299 col
  simp only [← normed_apply]
  generalize k0_pay294 x0 x7 = y
  pointwise

/-- Key and value columns. -/
theorem kvCols_apply (x0 : Vec Ideal S512x1024 .f32) (x7 : Vec Ideal S1x1024 .f32) (x8 : Vec Ideal S1024x2432 .bf16) (R : Fin 512) (j : Fin 256) :
    kvCols x0 x7 x8 (ix2 R j)
      = col (fun k => x0 (ix2 R k)) (fun k => x7 (ix2 0 k)) (fun k => x8 (ix2 k ⟨512 + j.val, by omega⟩)) := by
  unfold kvCols k0_pay298 col
  simp only [← normed_apply]
  generalize k0_pay294 x0 x7 = y
  pointwise

/-- The swapped key columns. -/
theorem swapped_apply (x0 : Vec Ideal S512x1024 .f32) (x7 : Vec Ideal S1x1024 .f32) (x8 : Vec Ideal S1024x2432 .bf16) (R : Fin 512) (j : Fin 128) :
    k0_pay302 (F := Ideal) (k0_pay294 x0 x7) (View.ld x8 (Rect.unit ![0, 2304] S1024x128.size inb_S1024x2432_S1024x128_0_2304)) (ix2 R j)
      = col (fun k => x0 (ix2 R k)) (fun k => x7 (ix2 0 k)) (fun k => x8 (ix2 k ⟨2304 + j.val, by omega⟩)) := by
  unfold k0_pay302 col
  simp only [← normed_apply]
  generalize k0_pay294 x0 x7 = y
  pointwise

/-- The new values. -/
theorem vRows_apply (x0 : Vec Ideal S512x1024 .f32) (x7 : Vec Ideal S1x1024 .f32) (x8 : Vec Ideal S1024x2432 .bf16) (R : Fin 512) (j : Fin 128) :
    vRows x0 x7 x8 (ix2 R j)
      = col (fun k => x0 (ix2 R k)) (fun k => x7 (ix2 0 k)) (fun k => x8 (ix2 k ⟨512 + (128 + j.val), by omega⟩)) := by
  rw [← kvCols_apply x0 x7 x8 R ⟨128 + j.val, by omega⟩]
  unfold vRows k0_pay319
  generalize kvCols x0 x7 x8 = y
  pointwise

/-- The division of a lane by 64, rounded down, as the text spells it. -/
def headOf (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem headOf_eq : ∀ n : Fin 128, headOf n.val = BitVec.ofNat 32 (n.val / 64) := by decide +kernel

theorem same_head : ∀ p q : Fin 2, BitVec.setWidth 32 (IntOp.cmpi CmpIPredicate.eq (BitVec.ofNat 32 p.val) (BitVec.ofNat 32 q.val))
    = if p.val = q.val then 1#32 else 0#32 := by decide +kernel

/-- One exactly where two lanes belong to one head. -/
theorem headBlocks_apply (i j : Fin 128) :
    headBlocks (F := Ideal) (ix2 i j) = if i.val / 64 = j.val / 64 then ((1 : ℝ) : EReal) else ((0 : ℝ) : EReal) := by
  have e : headBlocks (F := Ideal) (ix2 i j)
      = FloatOps.sitofp (F := Ideal) .f32 (BitVec.setWidth 32 (IntOp.cmpi .eq (headOf i.val) (headOf j.val))) := by
    unfold headBlocks headOf
    pointwise [k0_pay306, k0_pay303, k0_pay304, k0_pay305]
  rw [e, headOf_eq i, headOf_eq j]
  have h := same_head ⟨i.val / 64, by omega⟩ ⟨j.val / 64, by omega⟩
  simp only at h
  rw [h]
  split
  · show (((1#32 : BitVec 32).toInt : ℝ) : EReal) = _
    norm_num
  · show (((0#32 : BitVec 32).toInt : ℝ) : EReal) = _
    norm_num

/-- The new keys. -/
theorem kRows_apply (x0 : Vec Ideal S512x1024 .f32) (x1 x2 : Vec Ideal S512x128 .f32) (x7 : Vec Ideal S1x1024 .f32) (x8 : Vec Ideal S1024x2432 .bf16)
    (x10 : Vec Ideal S2x128 .f32) (R : Fin 512) (j : Fin 128) :
    kRows x0 x1 x2 x7 x8 x10 (ix2 R j)
      = (col (fun k => x0 (ix2 R k)) (fun k => x7 (ix2 0 k)) (fun k => x8 (ix2 k ⟨512 + j.val, by omega⟩))
            * (x1 (ix2 R j) * (x10 (ix2 0 j) * Ideal.ofBits .f32 0x41000000#32))
          + col (fun k => x0 (ix2 R k)) (fun k => x7 (ix2 0 k)) (fun k => x8 (ix2 k ⟨2304 + j.val, by omega⟩))
            * (x2 (ix2 R j) * (x10 (ix2 1 j) * Ideal.ofBits .f32 0x41000000#32)))
        * Ideal.rsqrt (∑ d : Fin 64, col (fun k => x0 (ix2 R k)) (fun k => x7 (ix2 0 k)) (fun k => x8 (ix2 k ⟨512 + (j.val / 64 * 64 + d.val), by omega⟩))
            * col (fun k => x0 (ix2 R k)) (fun k => x7 (ix2 0 k)) (fun k => x8 (ix2 k ⟨512 + (j.val / 64 * 64 + d.val), by omega⟩))
          + Ideal.ofBits .f32 0x388637BD#32) := by
  rw [← swapped_apply x0 x7 x8 R j, ← kvCols_apply x0 x7 x8 R ⟨j.val, by omega⟩]
  have e : ∀ d : Fin 64, col (fun k => x0 (ix2 R k)) (fun k => x7 (ix2 0 k)) (fun k => x8 (ix2 k ⟨512 + (j.val / 64 * 64 + d.val), by omega⟩))
      = kvCols x0 x7 x8 (ix2 R ⟨j.val / 64 * 64 + d.val, by omega⟩) :=
    fun d => (kvCols_apply x0 x7 x8 R ⟨j.val / 64 * 64 + d.val, by omega⟩).symm
  simp only [e]
  unfold kRows
  generalize kvCols x0 x7 x8 = y
  generalize k0_pay302 (F := Ideal) (k0_pay294 x0 x7) (View.ld x8 (Rect.unit ![0, 2304] S1024x128.size inb_S1024x2432_S1024x128_0_2304)) = z
  have hb := headBlocks_apply
  generalize headBlocks (F := Ideal) = B at hb
  rw [← sum_head (fun x : Fin 128 => y (ix2 R ⟨x.val, by omega⟩) * y (ix2 R ⟨x.val, by omega⟩)) j]
  simp only [← hb]
  pointwise [k0_pay318, k0_pay316, k0_pay317, k0_pay295, k0_pay296]

end Cert.Kernel3Ideal.Even

end
-- ==== Proof.EvenWin.lean ====
/-
  The even-sample call's blocks at an element: what the host code prepares from the arguments.
-/
module

public import proofs.«01_k».proof.Proof.EvenRows
public import proofs.«01_k».proof.Proof.Gen.Kernel3Ideal.Frame
public import Idealize.ShloMosaic.Lib.Pipeline.ValueKit
public import Idealize.ShloMosaic.Lib.StableHlo.RunRead

@[expose] public section

set_option maxRecDepth 16384

noncomputable section

namespace Cert.Kernel3Ideal.Even

open Idealize.ShloMosaic Idealize.ShloMosaic.TcCoe Idealize.SL.Sem
open Cert.Kernel3Ideal.Gen
open Cert.Even (swap angle)
open scoped BigOperators

variable (m : (ℓ : Loc nD τ sig) → Buf (Elt Ideal) ℓ)

/-- The windows' block indices. -/
theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_7.index t = ![0, 0] ∧ win0_8.index t = ![0, 0]
    ∧ win0_10.index t = ![0, 0] ∧ win0_20.index t = ![0, 0, 0] ∧ win0_21.index t = ![0, 0, 0] ∧ win0_23.index t = ![0, 0] :=
  (by decide +kernel : ∀ t : Fin grid0.N, _)

theorem host_0 (c : Dev nD) (R : Fin 512) (k : Fin 1024) :
    V m c main_v111 (ix2 R k) = m ((c : Thread nD τ).loc main_arg0) (ix3 ⟨R.val / 16, by omega⟩ ⟨R.val % 16, by omega⟩ k) := by
  after_reads_simp
  pointwise

theorem host_7 (c : Dev nD) (k : Fin 1024) :
    V m c main_v1 (ix2 0 k) = m ((c : Thread nD τ).loc main_arg5) (ix2 0 k) := by
  after_reads_simp
  pointwise

theorem host_3 (c : Dev nD) (b : Fin 32) (p : Fin 128) (j : Fin 128) :
    V m c main_v102 (ix3 b p j) = m ((c : Thread nD τ).loc main_arg1) (ix5 0 b p ⟨j.val / 64, by omega⟩ ⟨j.val % 64, by omega⟩) := by
  after_reads_simp
  pointwise

theorem host_4 (c : Dev nD) (b : Fin 32) (p : Fin 128) (j : Fin 128) :
    V m c main_v104 (ix3 b p j) = m ((c : Thread nD τ).loc main_arg2) (ix5 0 b p ⟨j.val / 64, by omega⟩ ⟨j.val % 64, by omega⟩) := by
  after_reads_simp
  pointwise

/-- The input weight's own columns. -/
theorem host_8 (c : Dev nD) (k : Fin 1024) (j : Fin 1792) :
    V m c main_v9 (ix2 k ⟨j.val, by omega⟩) = m ((c : Thread nD τ).loc main_arg6) (ix3 0 k j) := by
  after_reads_simp
  pointwise
  after_reads_simp
  pointwise

/-- The columns of queries and keys a second time, each head's halves swapped. -/
theorem host_8s (c : Dev nD) (k : Fin 1024) (j : Fin 128) :
    V m c main_v9 (ix2 k ⟨2304 + j.val, by omega⟩)
      = m ((c : Thread nD τ).loc main_arg6) (ix3 0 k ⟨512 + (j.val / 64 * 64 + (j.val % 64 + 32) % 64), by omega⟩) := by
  after_reads_simp
  pointwise
  after_reads_simp
  pointwise
  rw [dif_neg (by omega)]
  refine congrArg _ ?_
  simp [Fin.val_rev]
  refine congrArg _ (Fin.ext ?_)
  show _ = _
  dsimp only
  omega

theorem host_10 (c : Dev nD) (j : Fin 128) :
    V m c main_v23 (ix2 0 j) = m ((c : Thread nD τ).loc main_arg8) (ix2 0 ⟨j.val % 64, by omega⟩) := by
  after_reads_simp
  pointwise
  after_reads_simp

theorem host_10s (c : Dev nD) (j : Fin 128) :
    V m c main_v23 (ix2 1 j) = m ((c : Thread nD τ).loc main_arg8) (ix2 0 ⟨(j.val % 64 + 32) % 64, by omega⟩) := by
  after_reads_simp
  pointwise
  after_reads_simp
  pointwise
  refine congrArg _ ?_
  simp [Fin.val_rev]
  refine congrArg _ (Fin.ext ?_)
  show _ = _
  dsimp only
  omega

theorem host_1 (c : Dev nD) (R : Fin 512) (j : Fin 128) :
    V m c main_v97 (ix2 R j) = Ideal.cos (angle ⟨R.val % 16, by omega⟩ ⟨j.val % 32, by omega⟩) := by
  after_reads_simp
  pointwise
  after_reads_simp [Matrix.cons_val_zero, Matrix.cons_val_one]
  pointwise
  split_ifs <;> exact congrArg (fun n : ℕ => Ideal.cos (FloatOps.sitofp (F := Ideal) FTy.f32 (IntOp.addi (4096#32) (BitVec.ofNat 32 (R.val % 16))) * Ideal.pow (Ideal.ofBits FTy.f32 1176256512#32)
            (Ideal.div (-FloatOps.sitofp (F := Ideal) FTy.f32 (BitVec.ofNat 32 n)) (Ideal.ofBits FTy.f32 1107296256#32)))) (by dsimp only; omega)

theorem host_2 (c : Dev nD) (R : Fin 512) (j : Fin 128) :
    V m c main_v100 (ix2 R j) = (if j.val % 64 < 32 then -1 else 1) * Ideal.sin (angle ⟨R.val % 16, by omega⟩ ⟨j.val % 32, by omega⟩) := by
  after_reads_simp
  pointwise
  after_reads_simp [Matrix.cons_val_zero, Matrix.cons_val_one]
  pointwise
  rw [mul_comm]
  refine congr (congrArg _ ?_) ?_
  · split_ifs <;> first | rfl | omega
  · split_ifs <;> exact congrArg (fun n : ℕ => Ideal.sin (FloatOps.sitofp (F := Ideal) FTy.f32 (IntOp.addi (4096#32) (BitVec.ofNat 32 (R.val % 16))) * Ideal.pow (Ideal.ofBits FTy.f32 1176256512#32)
            (Ideal.div (-FloatOps.sitofp (F := Ideal) FTy.f32 (BitVec.ofNat 32 n)) (Ideal.ofBits FTy.f32 1107296256#32)))) (by dsimp only; omega)

theorem blk_0 (c : Dev nD) (t : Fin cfg0.N) (R : Fin 512) (k : Fin 1024) :
    iblk m c 0 t (ix2 R k) = m ((c : Thread nD τ).loc main_arg0) (ix3 ⟨R.val / 16, by omega⟩ ⟨R.val % 16, by omega⟩ k) := by
  refine (congrArg (V m c main_v111) (?_ : _ = (ix2 R k : S512x1024.Idx))).trans (host_0 m c R k)
  blk_ext [idx t]

theorem blk_7 (c : Dev nD) (t : Fin cfg0.N) (k : Fin 1024) :
    iblk m c 7 t (ix2 0 k) = m ((c : Thread nD τ).loc main_arg5) (ix2 0 k) := by
  refine (congrArg (V m c main_v1) (?_ : _ = (ix2 0 k : S1x1024.Idx))).trans (host_7 m c k)
  blk_ext [idx t]

theorem blk_3 (c : Dev nD) (t : Fin cfg0.N) (b : Fin 32) (p : Fin 128) (j : Fin 128) :
    iblk m c 3 t (ix3 b p j) = m ((c : Thread nD τ).loc main_arg1) (ix5 0 b p ⟨j.val / 64, by omega⟩ ⟨j.val % 64, by omega⟩) := by
  refine (congrArg (V m c main_v102) (?_ : _ = (ix3 b p j : S32x128x128.Idx))).trans (host_3 m c b p j)
  blk_ext [idx t]

theorem blk_4 (c : Dev nD) (t : Fin cfg0.N) (b : Fin 32) (p : Fin 128) (j : Fin 128) :
    iblk m c 4 t (ix3 b p j) = m ((c : Thread nD τ).loc main_arg2) (ix5 0 b p ⟨j.val / 64, by omega⟩ ⟨j.val % 64, by omega⟩) := by
  refine (congrArg (V m c main_v104) (?_ : _ = (ix3 b p j : S32x128x128.Idx))).trans (host_4 m c b p j)
  blk_ext [idx t]

theorem blk_8 (c : Dev nD) (t : Fin cfg0.N) (k : Fin 1024) (j : Fin 1792) :
    iblk m c 8 t (ix2 k ⟨j.val, by omega⟩) = m ((c : Thread nD τ).loc main_arg6) (ix3 0 k j) := by
  refine (congrArg (V m c main_v9) (?_ : _ = (ix2 k ⟨j.val, by omega⟩ : S1024x2432.Idx))).trans (host_8 m c k j)
  blk_ext [idx t]

theorem blk_8s (c : Dev nD) (t : Fin cfg0.N) (k : Fin 1024) (j : Fin 128) :
    iblk m c 8 t (ix2 k ⟨2304 + j.val, by omega⟩) = m ((c : Thread nD τ).loc main_arg6) (ix3 0 k ⟨512 + (j.val / 64 * 64 + (j.val % 64 + 32) % 64), by omega⟩) := by
  refine (congrArg (V m c main_v9) (?_ : _ = (ix2 k ⟨2304 + j.val, by omega⟩ : S1024x2432.Idx))).trans (host_8s m c k j)
  blk_ext [idx t]

theorem blk_10 (c : Dev nD) (t : Fin cfg0.N) (j : Fin 128) :
    iblk m c 10 t (ix2 0 j) = m ((c : Thread nD τ).loc main_arg8) (ix2 0 ⟨j.val % 64, by omega⟩) := by
  refine (congrArg (V m c main_v23) (?_ : _ = (ix2 0 j : S2x128.Idx))).trans (host_10 m c j)
  blk_ext [idx t]

theorem blk_10s (c : Dev nD) (t : Fin cfg0.N) (j : Fin 128) :
    iblk m c 10 t (ix2 1 j) = m ((c : Thread nD τ).loc main_arg8) (ix2 0 ⟨(j.val % 64 + 32) % 64, by omega⟩) := by
  refine (congrArg (V m c main_v23) (?_ : _ = (ix2 1 j : S2x128.Idx))).trans (host_10s m c j)
  blk_ext [idx t]

theorem blk_1 (c : Dev nD) (t : Fin cfg0.N) (R : Fin 512) (j : Fin 128) :
    iblk m c 1 t (ix2 R j) = Ideal.cos (angle ⟨R.val % 16, by omega⟩ ⟨j.val % 32, by omega⟩) := by
  refine (congrArg (V m c main_v97) (?_ : _ = (ix2 R j : S512x128.Idx))).trans (host_1 m c R j)
  blk_ext [idx t]

theorem blk_2 (c : Dev nD) (t : Fin cfg0.N) (R : Fin 512) (j : Fin 128) :
    iblk m c 2 t (ix2 R j) = (if j.val % 64 < 32 then -1 else 1) * Ideal.sin (angle ⟨R.val % 16, by omega⟩ ⟨j.val % 32, by omega⟩) := by
  refine (congrArg (V m c main_v100) (?_ : _ = (ix2 R j : S512x128.Idx))).trans (host_2 m c R j)
  blk_ext [idx t]

end Cert.Kernel3Ideal.Even

end
-- ==== Proof.EvenRef.lean ====
/-
  The reference's even-sample layer, read at an element of its input product and of the results that move the caches on.
-/
module

public import proofs.«01_k».proof.Proof.EvenRows
public import proofs.«01_k».proof.Proof.Gen.Reference3Ideal.Read

@[expose] public section

set_option maxRecDepth 16384

noncomputable section

namespace Cert.Reference3Ideal.Even

open Idealize.ShloMosaic Idealize.ShloMosaic.TcCoe Idealize.SL.Sem
open Cert.Reference3Ideal.Gen Cert.Reference3Ideal.Read
open Cert.Even (nrm col swap rnrm angle)
open scoped BigOperators

/-- A column of the input product at a row. -/
theorem prod_apply (x0 : FVec Ideal S32x16x1024 .f32) (x5 : FVec Ideal S1x1024 .f32) (x6 : FVec Ideal S1x1024x1792 .f32)
    (b : Fin 32) (t : Fin 16) (j : Fin 1792) :
    val_main_v18 (F := Ideal) x0 x5 x6 (ix3 b t j)
      = col (fun k => x0 (ix3 b t k)) (fun k => x5 (ix2 0 k)) (fun k => x6 (ix3 0 k j)) := by
  unfold col nrm
  pointwise [val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v18]

/-- The recurrent input. -/
theorem xr_apply (x0 : FVec Ideal S32x16x1024 .f32) (x5 : FVec Ideal S1x1024 .f32) (x6 : FVec Ideal S1x1024x1792 .f32)
    (R : Fin 512) (j : Fin 512) :
    val_main_v272 (F := Ideal) x0 x5 x6 (ix2 R j)
      = col (fun k => x0 (ix3 ⟨R.val / 16, by omega⟩ ⟨R.val % 16, by omega⟩ k)) (fun k => x5 (ix2 0 k))
          (fun k => x6 (ix3 0 k ⟨768 + j.val, by omega⟩)) := by
  rw [← prod_apply]
  unfold val_main_v272 val_main_v23
  generalize val_main_v18 (F := Ideal) x0 x5 x6 = y
  pointwise

/-- The moved value cache: its old rows from the sixteenth on, -/
theorem nv_old (x0 : FVec Ideal S32x16x1024 .f32) (x2 : FVec Ideal S1x32x128x2x64 .f32) (x5 : FVec Ideal S1x1024 .f32) (x6 : FVec Ideal S1x1024x1792 .f32)
    (b : Fin 32) (p : Fin 128) (j : Fin 128) (hp : p.val < 112) :
    val_main_v270 (F := Ideal) x0 x2 x5 x6 (ix3 b p j)
      = x2 (ix5 0 b ⟨16 + p.val, by omega⟩ ⟨j.val / 64, by omega⟩ ⟨j.val % 64, by omega⟩) := by
  unfold val_main_v270 val_main_v269 val_main_v70 val_main_v69
  generalize val_main_v22 (F := Ideal) x0 x5 x6 = y
  pointwise
  rw [dif_pos (by omega)]

/-- then the new ones. -/
theorem nv_new (x0 : FVec Ideal S32x16x1024 .f32) (x2 : FVec Ideal S1x32x128x2x64 .f32) (x5 : FVec Ideal S1x1024 .f32) (x6 : FVec Ideal S1x1024x1792 .f32)
    (b : Fin 32) (p : Fin 128) (j : Fin 128) (hp : ¬p.val < 112) :
    val_main_v270 (F := Ideal) x0 x2 x5 x6 (ix3 b p j)
      = col (fun k => x0 (ix3 b ⟨p.val - 112, by omega⟩ k)) (fun k => x5 (ix2 0 k))
          (fun k => x6 (ix3 0 k ⟨640 + j.val, by omega⟩)) := by
  rw [← prod_apply]
  unfold val_main_v270 val_main_v269 val_main_v70 val_main_v69 val_main_v22 val_main_v21
  generalize val_main_v18 (F := Ideal) x0 x5 x6 = y
  pointwise
  rw [dif_neg (by omega)]
  exact congrArg y (congrArg (fun q => ix3 b q _) (Fin.ext (by show 16 + p.val - 128 = p.val - 112; omega)))

/-- A head's key, normed and weighted. -/
theorem key_apply (x0 : FVec Ideal S32x16x1024 .f32) (x5 : FVec Ideal S1x1024 .f32) (x6 : FVec Ideal S1x1024x1792 .f32) (x8 : FVec Ideal S1x64 .f32)
    (b : Fin 32) (t : Fin 16) (h : Fin 2) (d : Fin 64) :
    val_main_v37 (F := Ideal) x0 x5 x6 x8 (ix4 b t h d)
      = rnrm (fun e => col (fun k => x0 (ix3 b t k)) (fun k => x5 (ix2 0 k)) (fun k => x6 (ix3 0 k ⟨512 + (h.val * 64 + e.val), by omega⟩)))
          (fun e => x8 (ix2 0 e)) d := by
  simp only [← prod_apply]
  unfold rnrm val_main_v37 val_main_v36 val_main_v35 val_main_v34 val_main_v33 val_main_v32 val_main_v31 val_main_v30 val_main_v29 val_main_v28 val_main_v27 val_main_v26 val_main_v25 val_main_v24 val_main_v20 val_main_v19
  generalize val_main_v18 (F := Ideal) x0 x5 x6 = y
  pointwise [val_main_cst_2, val_main_cst_3, val_main_cst_4]

/-- The turned key. -/
theorem rope_lo (x0 : FVec Ideal S32x16x1024 .f32) (x5 : FVec Ideal S1x1024 .f32) (x6 : FVec Ideal S1x1024x1792 .f32) (x8 : FVec Ideal S1x64 .f32)
    (b : Fin 32) (t : Fin 16) (h : Fin 2) (d : Fin 64) (hd : d.val < 32) :
    val_main_v66 (F := Ideal) x0 x5 x6 x8 (ix4 b t h d)
      = val_main_v37 (F := Ideal) x0 x5 x6 x8 (ix4 b t h d) * val_main_v50 (F := Ideal) (ix2 t ⟨d.val, by omega⟩)
        - val_main_v37 (F := Ideal) x0 x5 x6 x8 (ix4 b t h (swap d)) * val_main_v52 (F := Ideal) (ix2 t ⟨d.val, by omega⟩) := by
  unfold val_main_v66 val_main_v65 val_main_v64 val_main_v63 val_main_v62 val_main_v61 val_main_v60 val_main_v59 val_main_v58 val_main_v57 val_main_v56 val_main_v55 val_main_v54 val_main_v53 val_main_v51
  generalize val_main_v37 (F := Ideal) x0 x5 x6 x8 = y
  generalize val_main_v50 (F := Ideal) = c
  generalize val_main_v52 (F := Ideal) = s
  pointwise
  rw [dif_pos hd]
  exact congrArg (fun q => _ - y (ix4 b t h q) * _) (Fin.ext (by show 32 + d.val = (d.val + 32) % 64; omega))

theorem rope_hi (x0 : FVec Ideal S32x16x1024 .f32) (x5 : FVec Ideal S1x1024 .f32) (x6 : FVec Ideal S1x1024x1792 .f32) (x8 : FVec Ideal S1x64 .f32)
    (b : Fin 32) (t : Fin 16) (h : Fin 2) (d : Fin 64) (hd : ¬d.val < 32) :
    val_main_v66 (F := Ideal) x0 x5 x6 x8 (ix4 b t h d)
      = val_main_v37 (F := Ideal) x0 x5 x6 x8 (ix4 b t h d) * val_main_v50 (F := Ideal) (ix2 t ⟨d.val - 32, by omega⟩)
        + val_main_v37 (F := Ideal) x0 x5 x6 x8 (ix4 b t h (swap d)) * val_main_v52 (F := Ideal) (ix2 t ⟨d.val - 32, by omega⟩) := by
  unfold val_main_v66 val_main_v65 val_main_v64 val_main_v63 val_main_v62 val_main_v61 val_main_v60 val_main_v59 val_main_v58 val_main_v57 val_main_v56 val_main_v55 val_main_v54 val_main_v53 val_main_v51
  generalize val_main_v37 (F := Ideal) x0 x5 x6 x8 = y
  generalize val_main_v50 (F := Ideal) = c
  generalize val_main_v52 (F := Ideal) = s
  pointwise
  rw [dif_neg hd]
  exact congrArg₂ (fun p q => y (ix4 b t h p) * _ + y (ix4 b t h q) * _) (Fin.ext (by show 32 + (d.val - 32) = d.val; omega))
    (Fin.ext (by show d.val - 32 = (d.val + 32) % 64; omega))

/-- The moved key cache: its old rows from the sixteenth on, -/
theorem nk_old (x0 : FVec Ideal S32x16x1024 .f32) (x1 : FVec Ideal S1x32x128x2x64 .f32) (x5 : FVec Ideal S1x1024 .f32) (x6 : FVec Ideal S1x1024x1792 .f32)
    (x8 : FVec Ideal S1x64 .f32) (b : Fin 32) (p : Fin 128) (j : Fin 128) (hp : p.val < 112) :
    val_main_v268 (F := Ideal) x0 x1 x5 x6 x8 (ix3 b p j)
      = x1 (ix5 0 b ⟨16 + p.val, by omega⟩ ⟨j.val / 64, by omega⟩ ⟨j.val % 64, by omega⟩) := by
  unfold val_main_v268 val_main_v267 val_main_v68 val_main_v67
  generalize val_main_v66 (F := Ideal) x0 x5 x6 x8 = y
  pointwise
  rw [dif_pos (by omega)]

/-- then the new ones. -/
theorem nk_new (x0 : FVec Ideal S32x16x1024 .f32) (x1 : FVec Ideal S1x32x128x2x64 .f32) (x5 : FVec Ideal S1x1024 .f32) (x6 : FVec Ideal S1x1024x1792 .f32)
    (x8 : FVec Ideal S1x64 .f32) (b : Fin 32) (p : Fin 128) (j : Fin 128) (hp : ¬p.val < 112) :
    val_main_v268 (F := Ideal) x0 x1 x5 x6 x8 (ix3 b p j)
      = val_main_v66 (F := Ideal) x0 x5 x6 x8 (ix4 b ⟨p.val - 112, by omega⟩ ⟨j.val / 64, by omega⟩ ⟨j.val % 64, by omega⟩) := by
  unfold val_main_v268 val_main_v267 val_main_v68 val_main_v67
  generalize val_main_v66 (F := Ideal) x0 x5 x6 x8 = y
  pointwise
  rw [dif_neg (by omega)]
  exact congrArg y (congrArg (fun q => ix4 b q _ _) (Fin.ext (by show 16 + p.val - 128 = p.val - 112; omega)))

/-- The angle's cosine and sine. -/
theorem cos_apply (t : Fin 16) (d : Fin 32) : val_main_v50 (F := Ideal) (ix2 t d) = Ideal.cos (angle t d) := by
  unfold angle
  pointwise [val_main_v50, val_main_v49, val_main_v48, val_main_v47, val_main_v46, val_main_v45, val_main_v44, val_main_v43, val_main_v42, val_main_v41, val_main_v40, val_main_v39, val_main_v38, val_main_cst_5, val_main_cst_6, val_main_v2, val_main_v1, val_main_v0, val_main_c]

theorem sin_apply (t : Fin 16) (d : Fin 32) : val_main_v52 (F := Ideal) (ix2 t d) = Ideal.sin (angle t d) := by
  unfold angle
  pointwise [val_main_v52, val_main_v49, val_main_v48, val_main_v47, val_main_v46, val_main_v45, val_main_v44, val_main_v43, val_main_v42, val_main_v41, val_main_v40, val_main_v39, val_main_v38, val_main_cst_5, val_main_cst_6, val_main_v2, val_main_v1, val_main_v0, val_main_c]

end Cert.Reference3Ideal.Even

end
-- ==== Proof.EvenValue.lean ====
/-
  The even-sample call's results after the run, as the reference's values of the arguments: the key cache, the value
  cache and the recurrent input.
-/
module

public import proofs.«01_k».proof.Proof.EvenRun
public import proofs.«01_k».proof.Proof.EvenVals
public import proofs.«01_k».proof.Proof.EvenWin
public import proofs.«01_k».proof.Proof.EvenRef
public import Idealize.ShloMosaic.Lib.Pipeline.ValueKit

@[expose] public section

set_option maxRecDepth 16384

noncomputable section

namespace Cert.Kernel3Ideal.Even

open Idealize.ShloMosaic Idealize.ShloMosaic.TcCoe Idealize.SL.Sem
open Cert.Kernel3Ideal.Gen
open Cert.Even (swap angle col kkey kkey_eq rnrm)
open scoped BigOperators

variable (m : (ℓ : Loc nD τ sig) → Buf (Elt Ideal) ℓ)

/-- A block of the recurrent input. -/
theorem point_23 (c : Dev nD) (t : Fin cfg0.N) (R : Fin 512) (j : Fin 512) :
    xrAt m c t (ix2 R j) = Cert.Reference3Ideal.Read.val_main_v272 (F := Ideal) (m ((c : Thread nD τ).loc main_arg0))
      (m ((c : Thread nD τ).loc main_arg5)) (m ((c : Thread nD τ).loc main_arg6)) (ix2 R j) := by
  unfold xrAt
  rw [xrOut_apply, Cert.Reference3Ideal.Even.xr_apply]
  simp only [blk_0, blk_7]
  exact congrArg (col _ _) (funext fun k => blk_8 m c t k ⟨768 + j.val, by omega⟩)

/-- The new values. -/
theorem value_apply (c : Dev nD) (t : Fin cfg0.N) (R : Fin 512) (j : Fin 128) :
    vRows (iblk m c 0 t) (iblk m c 7 t) (iblk m c 8 t) (ix2 R j)
      = col (fun k => m ((c : Thread nD τ).loc main_arg0) (ix3 ⟨R.val / 16, by omega⟩ ⟨R.val % 16, by omega⟩ k))
          (fun k => m ((c : Thread nD τ).loc main_arg5) (ix2 0 k))
          (fun k => m ((c : Thread nD τ).loc main_arg6) (ix3 0 k ⟨640 + j.val, by omega⟩)) := by
  rw [vRows_apply]
  simp only [blk_0, blk_7]
  refine congrArg (col _ _) (funext fun k => (blk_8 m c t k ⟨512 + (128 + j.val), by omega⟩).trans ?_)
  exact congrArg (fun q => m ((c : Thread nD τ).loc main_arg6) (ix3 0 k q)) (Fin.ext (by show 512 + (128 + j.val) = 640 + j.val; omega))

/-- The value cache. -/
theorem point_21 (c : Dev nD) (t : Fin cfg0.N) (b : Fin 32) (p : Fin 128) (j : Fin 128) :
    nvAt m c t (ix3 b p j) = Cert.Reference3Ideal.Read.val_main_v270 (F := Ideal) (m ((c : Thread nD τ).loc main_arg0))
      (m ((c : Thread nD τ).loc main_arg2)) (m ((c : Thread nD τ).loc main_arg5)) (m ((c : Thread nD τ).loc main_arg6)) (ix3 b p j) := by
  have hp' := p.isLt
  by_cases hp : p.val < 112
  · rw [Cert.Reference3Ideal.Even.nv_old _ _ _ _ _ _ _ hp, ← blk_4 m c t]
    exact dif_pos hp
  · rw [Cert.Reference3Ideal.Even.nv_new _ _ _ _ _ _ _ hp]
    refine (dif_neg hp).trans ((value_apply m c t _ j).trans ?_)
    refine congrArg (fun x => col x _ _) (funext fun k => ?_)
    refine congrArg₂ (fun a q => m ((c : Thread nD τ).loc main_arg0) (ix3 a q k)) (Fin.ext ?_) (Fin.ext ?_)
    · show (16 * b.val + (p.val - 112)) / 16 = b.val; omega
    · show (16 * b.val + (p.val - 112)) % 16 = p.val - 112; omega

/-- The new keys. -/
theorem key_apply (c : Dev nD) (t : Fin cfg0.N) (R : Fin 512) (j : Fin 128) :
    kRows (iblk m c 0 t) (iblk m c 1 t) (iblk m c 2 t) (iblk m c 7 t) (iblk m c 8 t) (iblk m c 10 t) (ix2 R j)
      = Cert.Reference3Ideal.Read.val_main_v66 (F := Ideal) (m ((c : Thread nD τ).loc main_arg0)) (m ((c : Thread nD τ).loc main_arg5))
          (m ((c : Thread nD τ).loc main_arg6)) (m ((c : Thread nD τ).loc main_arg8))
          (ix4 ⟨R.val / 16, by omega⟩ ⟨R.val % 16, by omega⟩ ⟨j.val / 64, by omega⟩ ⟨j.val % 64, by omega⟩) := by
  have hw : ∀ e : Fin 64, (fun k : Fin 1024 => iblk m c 8 t (ix2 k ⟨512 + (j.val / 64 * 64 + e.val), by omega⟩))
      = fun k => m ((c : Thread nD τ).loc main_arg6) (ix3 0 k ⟨512 + (j.val / 64 * 64 + e.val), by omega⟩) :=
    fun e => funext fun k => blk_8 m c t k ⟨512 + (j.val / 64 * 64 + e.val), by omega⟩
  have hj : (fun k : Fin 1024 => iblk m c 8 t (ix2 k ⟨512 + j.val, by omega⟩))
      = fun k => m ((c : Thread nD τ).loc main_arg6) (ix3 0 k ⟨512 + (j.val / 64 * 64 + j.val % 64), by omega⟩) :=
    funext fun k => (blk_8 m c t k ⟨512 + j.val, by omega⟩).trans
      (congrArg (fun q => m ((c : Thread nD τ).loc main_arg6) (ix3 0 k q)) (Fin.ext (by show 512 + j.val = 512 + (j.val / 64 * 64 + j.val % 64); omega)))
  have e : kRows (iblk m c 0 t) (iblk m c 1 t) (iblk m c 2 t) (iblk m c 7 t) (iblk m c 8 t) (iblk m c 10 t) (ix2 R j)
      = kkey (fun e => col (fun k => m ((c : Thread nD τ).loc main_arg0) (ix3 ⟨R.val / 16, by omega⟩ ⟨R.val % 16, by omega⟩ k))
            (fun k => m ((c : Thread nD τ).loc main_arg5) (ix2 0 k))
            (fun k => m ((c : Thread nD τ).loc main_arg6) (ix3 0 k ⟨512 + (j.val / 64 * 64 + e.val), by omega⟩)))
          (fun e => m ((c : Thread nD τ).loc main_arg8) (ix2 0 e))
          (Ideal.cos (angle ⟨R.val % 16, by omega⟩ ⟨j.val % 32, by omega⟩))
          ((if j.val % 64 < 32 then -1 else 1) * Ideal.sin (angle ⟨R.val % 16, by omega⟩ ⟨j.val % 32, by omega⟩))
          ⟨j.val % 64, by omega⟩ := by
    rw [kRows_apply]
    simp only [hw, hj, blk_0, blk_7, blk_1, blk_2, blk_10, blk_10s, blk_8s]
    rfl
  rw [e, kkey_eq]
  by_cases hd : j.val % 64 < 32
  · rw [Cert.Reference3Ideal.Even.rope_lo _ _ _ _ _ _ _ _ hd, Cert.Reference3Ideal.Even.key_apply, Cert.Reference3Ideal.Even.key_apply,
      Cert.Reference3Ideal.Even.cos_apply, Cert.Reference3Ideal.Even.sin_apply, if_pos hd, sub_eq_add_neg, neg_one_mul, mul_neg,
      show (⟨j.val % 32, by omega⟩ : Fin 32) = ⟨j.val % 64, hd⟩ from Fin.ext (by show j.val % 32 = j.val % 64; omega)]
  · rw [Cert.Reference3Ideal.Even.rope_hi _ _ _ _ _ _ _ _ hd, Cert.Reference3Ideal.Even.key_apply, Cert.Reference3Ideal.Even.key_apply,
      Cert.Reference3Ideal.Even.cos_apply, Cert.Reference3Ideal.Even.sin_apply, if_neg hd, one_mul,
      show (⟨j.val % 32, by omega⟩ : Fin 32) = ⟨j.val % 64 - 32, by omega⟩ from Fin.ext (by show j.val % 32 = j.val % 64 - 32; omega)]

/-- The key cache. -/
theorem point_20 (c : Dev nD) (t : Fin cfg0.N) (b : Fin 32) (p : Fin 128) (j : Fin 128) :
    nkAt m c t (ix3 b p j) = Cert.Reference3Ideal.Read.val_main_v268 (F := Ideal) (m ((c : Thread nD τ).loc main_arg0))
      (m ((c : Thread nD τ).loc main_arg1)) (m ((c : Thread nD τ).loc main_arg5)) (m ((c : Thread nD τ).loc main_arg6))
      (m ((c : Thread nD τ).loc main_arg8)) (ix3 b p j) := by
  have hp' := p.isLt
  by_cases hp : p.val < 112
  · rw [Cert.Reference3Ideal.Even.nk_old _ _ _ _ _ _ _ _ hp, ← blk_3 m c t]
    exact dif_pos hp
  · rw [Cert.Reference3Ideal.Even.nk_new _ _ _ _ _ _ _ _ hp]
    refine (dif_neg hp).trans ((key_apply m c t _ j).trans ?_)
    refine congrArg₂ (fun a q => Cert.Reference3Ideal.Read.val_main_v66 (F := Ideal) (m ((c : Thread nD τ).loc main_arg0)) (m ((c : Thread nD τ).loc main_arg5))
          (m ((c : Thread nD τ).loc main_arg6)) (m ((c : Thread nD τ).loc main_arg8)) (ix4 a q _ _)) (Fin.ext ?_) (Fin.ext ?_)
    · show (16 * b.val + (p.val - 112)) / 16 = b.val; omega
    · show (16 * b.val + (p.val - 112)) % 16 = p.val - 112; omega

/-- The recurrent input after the run, -/
theorem final_23 (c : Dev nD) : (dats m 0 c).arrAt 23 (cfgs 0).N
    = Cert.Reference3Ideal.Read.val_main_v272 (F := Ideal) (m ((c : Thread nD τ).loc main_arg0))
        (m ((c : Thread nD τ).loc main_arg5)) (m ((c : Thread nD τ).loc main_arg6)) := by
  refine (dats m 0 c).arrAt_eq_of_covers 23 _ (by decide +kernel) fun t hf y => ?_
  blk_simp
  rw [after_23]
  have hy : y = (ix2 (y 0) (y 1) : S512x512.Idx) := eq_ix2 (n0 := 512) (n1 := 512) y
  refine (congrArg (xrAt m c t) hy).trans ((point_23 m c t (y 0) (y 1)).trans ?_)
  refine congrArg _ ?_
  blk_ext [idx t]

/-- the value cache, -/
theorem final_21 (c : Dev nD) : (dats m 0 c).arrAt 21 (cfgs 0).N
    = Cert.Reference3Ideal.Read.val_main_v270 (F := Ideal) (m ((c : Thread nD τ).loc main_arg0))
        (m ((c : Thread nD τ).loc main_arg2)) (m ((c : Thread nD τ).loc main_arg5)) (m ((c : Thread nD τ).loc main_arg6)) := by
  refine (dats m 0 c).arrAt_eq_of_covers 21 _ (by decide +kernel) fun t hf y => ?_
  blk_simp
  rw [after_21]
  have hy : y = (ix3 (y 0) (y 1) (y 2) : S32x128x128.Idx) := eq_ix3 (n0 := 32) (n1 := 128) (n2 := 128) y
  refine (congrArg (nvAt m c t) hy).trans ((point_21 m c t (y 0) (y 1) (y 2)).trans ?_)
  refine congrArg _ ?_
  blk_ext [idx t]

/-- and the key cache. -/
theorem final_20 (c : Dev nD) : (dats m 0 c).arrAt 20 (cfgs 0).N
    = Cert.Reference3Ideal.Read.val_main_v268 (F := Ideal) (m ((c : Thread nD τ).loc main_arg0))
        (m ((c : Thread nD τ).loc main_arg1)) (m ((c : Thread nD τ).loc main_arg5)) (m ((c : Thread nD τ).loc main_arg6))
        (m ((c : Thread nD τ).loc main_arg8)) := by
  refine (dats m 0 c).arrAt_eq_of_covers 20 _ (by decide +kernel) fun t hf y => ?_
  blk_simp
  rw [after_20]
  have hy : y = (ix3 (y 0) (y 1) (y 2) : S32x128x128.Idx) := eq_ix3 (n0 := 32) (n1 := 128) (n2 := 128) y
  refine (congrArg (nkAt m c t) hy).trans ((point_20 m c t (y 0) (y 1) (y 2)).trans ?_)
  refine congrArg _ ?_
  blk_ext [idx t]

end Cert.Kernel3Ideal.Even

end
-- ==== Proof.LruMath.lean ====
/- The two facts of the recurrence over the extended reals: the doubling scan is the recurrence, and the gain's two forms agree. -/
module

public import Idealize.ShloMosaic.PureOps.Ideal
public import Mathlib.Analysis.SpecialFunctions.Exp
public import Mathlib.Analysis.Complex.Trigonometric

@[expose] public section

namespace Cert.LruMath

open Idealize.ShloMosaic

/-- The sum of the last `n` terms up to `t`, each carried by the decays after it. -/
noncomputable def S (a b : ℕ → EReal) : ℕ → ℕ → EReal
  | 0, _ => 0
  | n + 1, t => b t + (if 1 ≤ t then a t * S a b n (t - 1) else 0)

/-- The product of the last `n` decays up to `t`. -/
noncomputable def P (a : ℕ → EReal) : ℕ → ℕ → EReal
  | 0, _ => 1
  | n + 1, t => a t * P a n (t - 1)

/-- The recurrence. -/
noncomputable def H (a b : ℕ → EReal) : ℕ → EReal
  | 0 => b 0
  | t + 1 => a (t + 1) * H a b t + b (t + 1)

theorem S_add (a b : ℕ → EReal) (h0 : ∀ t, 0 ≤ a t) (h1 : ∀ t, a t ≠ ⊤) (m : ℕ) :
    ∀ n t, S a b (n + m) t = S a b n t + (if n ≤ t then P a n t * S a b m (t - n) else 0)
  | 0, t => by simp [S, P]
  | n + 1, t => by
    rw [Nat.add_right_comm, S, S, P]
    rcases Nat.eq_zero_or_pos t with rfl | ht
    · simp
    · have e : t - 1 - n = t - (n + 1) := by omega
      rw [if_pos (by omega), if_pos (by omega), S_add a b h0 h1 m n (t - 1), e,
        EReal.left_distrib_of_nonneg_of_ne_top (h0 t) (h1 t), add_assoc]
      by_cases h : n + 1 ≤ t
      · rw [if_pos (by omega : n ≤ t - 1), if_pos h, mul_assoc]
      · rw [if_neg (by omega : ¬ n ≤ t - 1), if_neg h, mul_zero]

theorem P_add (a : ℕ → EReal) (m : ℕ) : ∀ n t, P a (n + m) t = P a n t * P a m (t - n)
  | 0, t => by simp [P]
  | n + 1, t => by
    have e : t - 1 - n = t - (n + 1) := by omega
    rw [Nat.add_right_comm, P, P, P_add a m n (t - 1), e, mul_assoc]

theorem S_eq_H (a b : ℕ → EReal) : ∀ n t, t < n → S a b n t = H a b t
  | 0, t, h => absurd h (by omega)
  | n + 1, 0, _ => by simp [S, H]
  | n + 1, t + 1, h => by
    rw [S, H, if_pos (by omega), Nat.add_sub_cancel, S_eq_H a b n t (by omega), add_comm]

/-- A doubling step of the sums. -/
noncomputable def dbl (d : ℕ) (a b : ℕ → EReal) (t : ℕ) : EReal := (if d ≤ t then a t * b (t - d) else 0) + b t

/-- A doubling step of the products. -/
noncomputable def dbp (d : ℕ) (a : ℕ → EReal) (t : ℕ) : EReal := if d ≤ t then a t * a (t - d) else a t

theorem dbp_P (a p : ℕ → EReal) (d : ℕ) (hp : ∀ t, d ≤ t + 1 → p t = P a d t) (hd : 1 ≤ d) :
    ∀ t, d + d ≤ t + 1 → dbp d p t = P a (d + d) t := fun t h => by
  rw [dbp, if_pos (by omega), hp t (by omega), hp (t - d) (by omega), P_add]

theorem dbl_S (a b p s : ℕ → EReal) (h0 : ∀ t, 0 ≤ a t) (h1 : ∀ t, a t ≠ ⊤) (d : ℕ) (hp : ∀ t, d ≤ t + 1 → p t = P a d t)
    (hs : ∀ t, s t = S a b d t) : ∀ t, dbl d p s t = S a b (d + d) t := fun t => by
  rw [dbl, S_add a b h0 h1, hs t, add_comm]
  congr 1
  split
  · rw [hp t (by omega), hs]
  · rfl

/-- Four doublings reach sixteen rows. -/
theorem scan_eq (a b : ℕ → EReal) (h0 : ∀ t, 0 ≤ a t) (h1 : ∀ t, a t ≠ ⊤) (t : ℕ) (ht : t < 16) :
    dbl 8 (dbp 4 (dbp 2 (dbp 1 a))) (dbl 4 (dbp 2 (dbp 1 a)) (dbl 2 (dbp 1 a) (dbl 1 a b))) t = H a b t := by
  have p1 : ∀ t, 1 ≤ t + 1 → a t = P a 1 t := fun t _ => by simp [P]
  have p2 := dbp_P a a 1 p1 (by omega)
  have p4 := dbp_P a _ 2 p2 (by omega)
  have p8 := dbp_P a _ 4 p4 (by omega)
  have s1 : ∀ t, b t = S a b 1 t := fun t => by simp [S]
  have s2 := dbl_S a b a b h0 h1 1 p1 s1
  have s4 := dbl_S a b _ _ h0 h1 2 p2 s2
  have s8 := dbl_S a b _ _ h0 h1 4 p4 s4
  rw [dbl_S a b _ _ h0 h1 8 p8 s8 t, S_eq_H a b _ t (by omega)]

/-- The gain's two forms agree for a logarithm that is not above zero. -/
theorem gain_eq (x : EReal) (hx : x ≤ 0) :
    (if 0 < (0 - Ideal.tanh x) * (Ideal.exp x * Ideal.exp x + 1)
      then (0 - Ideal.tanh x) * (Ideal.exp x * Ideal.exp x + 1) * Ideal.rsqrt ((0 - Ideal.tanh x) * (Ideal.exp x * Ideal.exp x + 1)) else 0)
      = Ideal.sqrt (-(Ideal.exp (2 * x) - 1)) := by
  have key : (0 - Ideal.tanh x) * (Ideal.exp x * Ideal.exp x + 1) = -(Ideal.exp (2 * x) - 1) := by
    induction x with
    | bot =>
      have e : (2 : EReal) * ⊥ = ⊥ := EReal.mul_bot_of_pos (by norm_num)
      rw [e]
      show (0 - (-1 : EReal)) * ((0 : EReal) * 0 + 1) = -((0 : EReal) - 1)
      simp
    | top => exact absurd hx (by simp)
    | coe r =>
      have e : (2 : EReal) * (r : EReal) = ((2 * r : ℝ) : EReal) := by norm_cast
      rw [e]
      show (0 - ((Real.tanh r : ℝ) : EReal)) * (((Real.exp r : ℝ) : EReal) * ((Real.exp r : ℝ) : EReal) + 1) = -(((Real.exp (2 * r) : ℝ) : EReal) - 1)
      have k : (0 - Real.tanh r) * (Real.exp r * Real.exp r + 1) = -(Real.exp (2 * r) - 1) := by
        have h2 : Real.exp (2 * r) = Real.exp r * Real.exp r := by rw [← Real.exp_add]; ring_nf
        have h3 : Real.exp r * Real.exp (-r) = 1 := by rw [← Real.exp_add]; simp
        have hp := Real.exp_pos r
        have hn := Real.exp_pos (-r)
        rw [Real.tanh_eq_sinh_div_cosh, Real.sinh_eq, Real.cosh_eq, h2]
        have hne : Real.exp r + Real.exp (-r) ≠ 0 := by positivity
        field_simp
        nlinarith [h3]
      exact_mod_cast congrArg (fun z : ℝ => (z : EReal)) k
  rw [key]
  have hy : ∃ y : ℝ, 0 ≤ y ∧ -(Ideal.exp (2 * x) - 1) = (y : EReal) := by
    induction x with
    | bot =>
      have e : (2 : EReal) * ⊥ = ⊥ := EReal.mul_bot_of_pos (by norm_num)
      exact ⟨1, by norm_num, by rw [e]; show -((0 : EReal) - 1) = ((1 : ℝ) : EReal); simp⟩
    | top => exact absurd hx (by simp)
    | coe r =>
      have e : (2 : EReal) * (r : EReal) = ((2 * r : ℝ) : EReal) := by norm_cast
      have hr : r ≤ 0 := by exact_mod_cast hx
      refine ⟨-(Real.exp (2 * r) - 1), ?_, by rw [e]; show -(((Real.exp (2 * r) : ℝ) : EReal) - 1) = _; norm_cast⟩
      have := Real.exp_le_one_iff.2 (by linarith : 2 * r ≤ 0)
      linarith
  obtain ⟨y, h0, hy⟩ := hy
  rw [hy]
  rcases h0.eq_or_lt with rfl | hlt
  · rw [if_neg (by simp)]
    show (0 : EReal) = if (0 : ℝ) < 0 then ⊥ else ((Real.sqrt 0 : ℝ) : EReal)
    rw [if_neg (lt_irrefl _)]; simp
  · rw [if_pos (by exact_mod_cast hlt)]
    show (y : EReal) * (if y < 0 then ⊥ else if y = 0 then ⊤ else (((Real.sqrt y)⁻¹ : ℝ) : EReal)) = if y < 0 then ⊥ else ((Real.sqrt y : ℝ) : EReal)
    rw [if_neg (by linarith), if_neg (by linarith), if_neg (by linarith)]
    have hs := Real.sqrt_pos.2 hlt
    have : y * (Real.sqrt y)⁻¹ = Real.sqrt y := by
      rw [← div_eq_mul_inv, div_eq_iff hs.ne', Real.mul_self_sqrt h0]
    exact_mod_cast congrArg (fun z : ℝ => (z : EReal)) this

/-- The decay is between zero and one, so not infinite, for a logarithm that is not above zero. -/
theorem exp_nonneg (x : EReal) : 0 ≤ Ideal.exp x := by
  induction x with
  | bot => exact le_rfl
  | top => exact le_top
  | coe r => show (0 : EReal) ≤ ((Real.exp r : ℝ) : EReal); exact_mod_cast (Real.exp_pos r).le

theorem exp_ne_top (x : EReal) (hx : x ≤ 0) : Ideal.exp x ≠ ⊤ := by
  induction x with
  | bot => exact EReal.zero_ne_top
  | top => exact absurd hx (by simp)
  | coe r => exact EReal.coe_ne_top _

theorem log1p_nonneg (x : EReal) (hx : 0 ≤ x) : 0 ≤ Ideal.log1p x := by
  induction x with
  | bot => exact absurd hx (by simp)
  | top => rw [Ideal.log1p, EReal.add_top_of_ne_bot (by decide)]; exact le_top
  | coe r =>
    have hr : 0 ≤ r := by exact_mod_cast hx
    have e : (1 : EReal) + (r : EReal) = ((1 + r : ℝ) : EReal) := by norm_cast
    rw [Ideal.log1p, e]
    show (0 : EReal) ≤ if 1 + r ≤ 0 then ⊥ else ((Real.log (1 + r) : ℝ) : EReal)
    rw [if_neg (by linarith)]
    exact_mod_cast Real.log_nonneg (by linarith)

theorem logistic_nonneg (x : EReal) : 0 ≤ Ideal.logistic x := by
  have h : (0 : EReal) ≤ 1 + Ideal.exp (-x) := add_nonneg zero_le_one (exp_nonneg _)
  rw [Ideal.logistic, Ideal.div]
  split
  · rw [if_pos zero_lt_one]; exact le_top
  · exact mul_nonneg zero_le_one (EReal.inv_nonneg_of_nonneg h)

end Cert.LruMath
-- ==== Proof.EvenRecur.lean ====
/-
  The recurrence of the even layer at an element, and its four taps.
-/
module

public import proofs.«01_k».proof.Proof.LruMath
public import proofs.«01_k».proof.Proof.EvenRows

@[expose] public section

noncomputable section

namespace Cert.Even

open Idealize.ShloMosaic
open scoped BigOperators

/-- Entry `i` of a sequence behind the three entries before it. -/
def tap (old : Fin 3 → EReal) (own : Fin 16 → EReal) (i : ℕ) : EReal :=
  if h : i < 3 then old ⟨i, h⟩ else own ⟨(i - 3) % 16, Nat.mod_lt _ (by decide)⟩

/-- The four taps at a step. -/
def conv (old : Fin 3 → EReal) (own : Fin 16 → EReal) (w : Fin 4 → EReal) (b : EReal) (t : ℕ) : EReal :=
  tap old own t * w 0 + b + tap old own (1 + t) * w 1 + tap old own (2 + t) * w 2 + tap old own (3 + t) * w 3

/-- `log (1 + e^(-l))`, without overflow. -/
def soft (l : EReal) : EReal := max (-l) 0 + Ideal.log1p (Ideal.exp (-max (-l) (-(-l))))

/-- The logarithm of the decay. -/
def logd (g ba l : EReal) : EReal := Ideal.logistic (g + ba) * (Ideal.ofBits .f32 0xC1000000#32 * soft l)

/-- The recurrence of a column over the sixteen rows of a sequence. -/
def lru (g gx xc : Fin 16 → EReal) (ba bx l h0 : EReal) (t : ℕ) : EReal :=
  Cert.LruMath.H (fun s => Ideal.exp (logd (g ⟨s % 16, Nat.mod_lt _ (by decide)⟩) ba l))
    (fun s => Ideal.sqrt (-(Ideal.exp (2 * logd (g ⟨s % 16, Nat.mod_lt _ (by decide)⟩) ba l) - 1))
        * (Ideal.logistic (gx ⟨s % 16, Nat.mod_lt _ (by decide)⟩ + bx) * xc ⟨s % 16, Nat.mod_lt _ (by decide)⟩)
      + if s % 16 = 0 then Ideal.exp (logd (g ⟨s % 16, Nat.mod_lt _ (by decide)⟩) ba l) * h0 else 0) t

theorem cm8 : Ideal.ofBits .f32 0xC1000000#32 = ((-8 : ℝ) : EReal) := by
  simp [Ideal.ofBits, Ideal.ieee]; rw [← EReal.coe_mul]; norm_num

theorem soft_nonneg (l : EReal) : 0 ≤ soft l :=
  add_nonneg (le_max_right _ _) (Cert.LruMath.log1p_nonneg _ (Cert.LruMath.exp_nonneg _))

theorem logd_nonpos (g ba l : EReal) : logd g ba l ≤ 0 := by
  unfold logd
  rw [cm8]
  have h : ((-8 : ℝ) : EReal) * soft l ≤ 0 := by
    rw [show ((-8 : ℝ) : EReal) = -((8 : ℝ) : EReal) from rfl, neg_mul]
    have p := mul_nonneg (EReal.coe_nonneg.2 (by norm_num : (0:ℝ) ≤ 8)) (soft_nonneg l)
    have n := EReal.neg_le_neg_iff.2 p
    rwa [neg_zero] at n
  have := mul_nonneg (Cert.LruMath.logistic_nonneg (g + ba)) (EReal.neg_nonneg.2 h)
  rw [mul_neg] at this
  exact EReal.neg_nonneg.1 this

theorem lru_zero (g gx xc : Fin 16 → EReal) (ba bx l h0 : EReal) : lru g gx xc ba bx l h0 0
    = Ideal.exp (logd (g 0) ba l) * h0
      + Ideal.sqrt (-(Ideal.exp (2 * logd (g 0) ba l) - 1)) * (Ideal.logistic (gx 0 + bx) * xc 0) := by
  show _ + _ = _
  rw [if_pos rfl, add_comm]
  rfl

theorem lru_succ (g gx xc : Fin 16 → EReal) (ba bx l h0 : EReal) (k : ℕ) (hk : k + 1 < 16) : lru g gx xc ba bx l h0 (k + 1)
    = Ideal.exp (logd (g ⟨k + 1, hk⟩) ba l) * lru g gx xc ba bx l h0 k
      + Ideal.sqrt (-(Ideal.exp (2 * logd (g ⟨k + 1, hk⟩) ba l) - 1)) * (Ideal.logistic (gx ⟨k + 1, hk⟩ + bx) * xc ⟨k + 1, hk⟩) := by
  have e : ∀ u : Fin 16 → EReal, u ⟨(k + 1) % 16, Nat.mod_lt _ (by decide)⟩ = u ⟨k + 1, hk⟩ := fun u =>
    congrArg u (Fin.ext (Nat.mod_eq_of_lt hk))
  show Ideal.exp (logd (g ⟨(k + 1) % 16, Nat.mod_lt _ (by decide)⟩) ba l) * lru g gx xc ba bx l h0 k + (_ + _) = _
  rw [if_neg (by omega), add_zero, e g, e gx, e xc]

theorem gate_sum (f g : Fin 256 → EReal) (q : Fin 256) :
    ∑ k, f k * (if k.val / 64 = q.val / 64 then g k else 0)
      = ∑ d : Fin 64, f ⟨q.val / 64 * 64 + d.val, by omega⟩ * g ⟨q.val / 64 * 64 + d.val, by omega⟩ := by
  have e : ∀ u : Fin 256 → EReal, ∑ k, u k = ∑ a : Fin 4, ∑ d : Fin 64, u ⟨a.val * 64 + d.val, by omega⟩ := fun u => by
    rw [← Fintype.sum_prod_type', ← Equiv.sum_comp (finProdFinEquiv (m := 4) (n := 64))]
    exact Finset.sum_congr rfl fun x _ => congrArg u (Fin.ext (by simp [finProdFinEquiv]; omega))
  rw [e, Finset.sum_eq_single (⟨q.val / 64, by omega⟩ : Fin 4)]
  · exact Finset.sum_congr rfl fun d _ => by rw [if_pos (by dsimp only; omega)]
  · intro a _ ha
    refine Finset.sum_eq_zero fun d _ => ?_
    rw [if_neg, mul_zero]
    intro hc
    exact ha (Fin.ext (by dsimp only at hc ⊢; omega))
  · intro h; exact absurd (Finset.mem_univ _) h

end Cert.Even

end
-- ==== Proof.EvenLruVals.lean ====
/-
  The even-sample call's states at an element.
-/
module

public import proofs.«01_k».proof.Proof.EvenRecur
public import proofs.«01_k».proof.Proof.EvenLru

@[expose] public section

set_option maxRecDepth 16384

noncomputable section

namespace Cert.Kernel3Ideal.Even

open Idealize.ShloMosaic Idealize.ShloMosaic.TcCoe Idealize.SL.Sem
open Cert.Kernel3Ideal.Gen
open Cert.Even (tap conv soft logd lru)
open Cert.LruMath (H dbl dbp)
open scoped BigOperators

/-- A row's place in its sequence. -/
theorem tm_apply (R : Fin 512) (j : Fin 128) : k0_pay336 (ix2 R j) = BitVec.ofNat 32 (R.val % 16) := by
  pointwise [k0_pay336]
  revert R
  decide +kernel

theorem tm512_apply (R : Fin 512) (j : Fin 512) : k0_pay339 seqLen k0_pay337 k0_pay338 0#32 (ix2 R j) = BitVec.ofNat 32 (R.val % 16) := by
  pointwise [k0_pay339, k0_pay338, k0_pay337, seqLen]
  revert R
  decide +kernel

theorem ge_bit : ∀ (d : Fin 9) (t : Fin 16), IntOp.cmpi CmpIPredicate.sge (BitVec.ofNat 32 t.val) (BitVec.ofNat 32 d.val)
    = BitVec.ofBool (decide (d.val ≤ t.val)) := by decide +kernel

theorem eq_bit : ∀ t : Fin 16, IntOp.cmpi CmpIPredicate.eq (BitVec.ofNat 32 t.val) 0#32 = BitVec.ofBool (decide (t.val = 0)) := by decide +kernel

theorem sel {α : Type} (p : Prop) [Decidable p] (x y : α) : Scalar.select (BitVec.ofBool (decide p)) x y = if p then x else y := by
  by_cases h : p <;> simp [Scalar.select, h]

/-- A column of a sequence's rows. -/
def seq {n : ℕ} (y : (⟨2, ![512, n]⟩ : Shape).Idx → EReal) (q : Fin 32) (j : Fin n) : ℕ → EReal :=
  fun t => y (ix2 ⟨q.val * 16 + t % 16, by omega⟩ j)

theorem stepB_1 (a b : FVec Ideal S512x128 .f32) (q : Fin 32) (j : Fin 128) (t : ℕ) (ht : t < 16) :
    seq (stepB k0_pay336 1#32 a b) q j t = dbl 1 (seq a q j) (seq b q j) t := by
  have hm : (q.val * 16 + t % 16) % 16 = t := by omega
  have w := tm_apply ⟨q.val * 16 + t % 16, by omega⟩ j
  have g := ge_bit 1 ⟨t, ht⟩
  unfold seq stepB dbl
  generalize k0_pay336 = tm at *
  pointwise
  rw [w, hm]
  erw [g]
  rw [sel]
  by_cases h : 1 ≤ t
  · rw [if_pos h, if_pos (show ((1 : Fin 9).val ≤ t) from h)]
    exact congrArg (fun r => a _ * b (ix2 r j) + b _) (Fin.ext (by dsimp only; omega))
  · rw [if_neg h, if_neg (show ¬((1 : Fin 9).val ≤ t) from h)]

theorem stepA_1 (a : FVec Ideal S512x128 .f32) (q : Fin 32) (j : Fin 128) (t : ℕ) (ht : t < 16) :
    seq (stepA k0_pay336 1#32 a) q j t = dbp 1 (seq a q j) t := by
  have hm : (q.val * 16 + t % 16) % 16 = t := by omega
  have w := tm_apply ⟨q.val * 16 + t % 16, by omega⟩ j
  have g := ge_bit 1 ⟨t, ht⟩
  unfold seq stepA dbp
  generalize k0_pay336 = tm at *
  pointwise
  rw [w, hm]
  erw [g]
  rw [sel]
  by_cases h : 1 ≤ t
  · rw [if_pos h, if_pos (show ((1 : Fin 9).val ≤ t) from h)]
    exact congrArg (fun r => a _ * a (ix2 r j)) (Fin.ext (by dsimp only; omega))
  · rw [if_neg h, if_neg (show ¬((1 : Fin 9).val ≤ t) from h)]

theorem stepB_2 (a b : FVec Ideal S512x128 .f32) (q : Fin 32) (j : Fin 128) (t : ℕ) (ht : t < 16) :
    seq (stepB k0_pay336 2#32 a b) q j t = dbl 2 (seq a q j) (seq b q j) t := by
  have hm : (q.val * 16 + t % 16) % 16 = t := by omega
  have w := tm_apply ⟨q.val * 16 + t % 16, by omega⟩ j
  have g := ge_bit 2 ⟨t, ht⟩
  unfold seq stepB dbl
  generalize k0_pay336 = tm at *
  pointwise
  rw [w, hm]
  erw [g]
  rw [sel]
  by_cases h : 2 ≤ t
  · rw [if_pos h, if_pos (show ((2 : Fin 9).val ≤ t) from h)]
    exact congrArg (fun r => a _ * b (ix2 r j) + b _) (Fin.ext (by dsimp only; omega))
  · rw [if_neg h, if_neg (show ¬((2 : Fin 9).val ≤ t) from h)]

theorem stepA_2 (a : FVec Ideal S512x128 .f32) (q : Fin 32) (j : Fin 128) (t : ℕ) (ht : t < 16) :
    seq (stepA k0_pay336 2#32 a) q j t = dbp 2 (seq a q j) t := by
  have hm : (q.val * 16 + t % 16) % 16 = t := by omega
  have w := tm_apply ⟨q.val * 16 + t % 16, by omega⟩ j
  have g := ge_bit 2 ⟨t, ht⟩
  unfold seq stepA dbp
  generalize k0_pay336 = tm at *
  pointwise
  rw [w, hm]
  erw [g]
  rw [sel]
  by_cases h : 2 ≤ t
  · rw [if_pos h, if_pos (show ((2 : Fin 9).val ≤ t) from h)]
    exact congrArg (fun r => a _ * a (ix2 r j)) (Fin.ext (by dsimp only; omega))
  · rw [if_neg h, if_neg (show ¬((2 : Fin 9).val ≤ t) from h)]

theorem stepB_4 (a b : FVec Ideal S512x128 .f32) (q : Fin 32) (j : Fin 128) (t : ℕ) (ht : t < 16) :
    seq (stepB k0_pay336 4#32 a b) q j t = dbl 4 (seq a q j) (seq b q j) t := by
  have hm : (q.val * 16 + t % 16) % 16 = t := by omega
  have w := tm_apply ⟨q.val * 16 + t % 16, by omega⟩ j
  have g := ge_bit 4 ⟨t, ht⟩
  unfold seq stepB dbl
  generalize k0_pay336 = tm at *
  pointwise
  rw [w, hm]
  erw [g]
  rw [sel]
  by_cases h : 4 ≤ t
  · rw [if_pos h, if_pos (show ((4 : Fin 9).val ≤ t) from h)]
    exact congrArg (fun r => a _ * b (ix2 r j) + b _) (Fin.ext (by dsimp only; omega))
  · rw [if_neg h, if_neg (show ¬((4 : Fin 9).val ≤ t) from h)]

theorem stepA_4 (a : FVec Ideal S512x128 .f32) (q : Fin 32) (j : Fin 128) (t : ℕ) (ht : t < 16) :
    seq (stepA k0_pay336 4#32 a) q j t = dbp 4 (seq a q j) t := by
  have hm : (q.val * 16 + t % 16) % 16 = t := by omega
  have w := tm_apply ⟨q.val * 16 + t % 16, by omega⟩ j
  have g := ge_bit 4 ⟨t, ht⟩
  unfold seq stepA dbp
  generalize k0_pay336 = tm at *
  pointwise
  rw [w, hm]
  erw [g]
  rw [sel]
  by_cases h : 4 ≤ t
  · rw [if_pos h, if_pos (show ((4 : Fin 9).val ≤ t) from h)]
    exact congrArg (fun r => a _ * a (ix2 r j)) (Fin.ext (by dsimp only; omega))
  · rw [if_neg h, if_neg (show ¬((4 : Fin 9).val ≤ t) from h)]

theorem stepB_8 (a b : FVec Ideal S512x128 .f32) (q : Fin 32) (j : Fin 128) (t : ℕ) (ht : t < 16) :
    seq (stepB k0_pay336 8#32 a b) q j t = dbl 8 (seq a q j) (seq b q j) t := by
  have hm : (q.val * 16 + t % 16) % 16 = t := by omega
  have w := tm_apply ⟨q.val * 16 + t % 16, by omega⟩ j
  have g := ge_bit 8 ⟨t, ht⟩
  unfold seq stepB dbl
  generalize k0_pay336 = tm at *
  pointwise
  rw [w, hm]
  erw [g]
  rw [sel]
  by_cases h : 8 ≤ t
  · rw [if_pos h, if_pos (show ((8 : Fin 9).val ≤ t) from h)]
    exact congrArg (fun r => a _ * b (ix2 r j) + b _) (Fin.ext (by dsimp only; omega))
  · rw [if_neg h, if_neg (show ¬((8 : Fin 9).val ≤ t) from h)]

theorem stepA_8 (a : FVec Ideal S512x128 .f32) (q : Fin 32) (j : Fin 128) (t : ℕ) (ht : t < 16) :
    seq (stepA k0_pay336 8#32 a) q j t = dbp 8 (seq a q j) t := by
  have hm : (q.val * 16 + t % 16) % 16 = t := by omega
  have w := tm_apply ⟨q.val * 16 + t % 16, by omega⟩ j
  have g := ge_bit 8 ⟨t, ht⟩
  unfold seq stepA dbp
  generalize k0_pay336 = tm at *
  pointwise
  rw [w, hm]
  erw [g]
  rw [sel]
  by_cases h : 8 ≤ t
  · rw [if_pos h, if_pos (show ((8 : Fin 9).val ≤ t) from h)]
    exact congrArg (fun r => a _ * a (ix2 r j)) (Fin.ext (by dsimp only; omega))
  · rw [if_neg h, if_neg (show ¬((8 : Fin 9).val ≤ t) from h)]

theorem dbl_congr (d : ℕ) {a a' b b' : ℕ → EReal} (ha : ∀ t, t < 16 → a t = a' t) (hb : ∀ t, t < 16 → b t = b' t) :
    ∀ t, t < 16 → dbl d a b t = dbl d a' b' t := fun t ht => by
  unfold dbl
  rw [ha t ht, hb t ht, hb (t - d) (by omega)]

theorem dbp_congr (d : ℕ) {a a' : ℕ → EReal} (ha : ∀ t, t < 16 → a t = a' t) : ∀ t, t < 16 → dbp d a t = dbp d a' t := fun t ht => by
  unfold dbp
  rw [ha t ht, ha (t - d) (by omega)]

/-- The scan is the recurrence. -/
theorem scanned_apply (a b : FVec Ideal S512x128 .f32) (q : Fin 32) (j : Fin 128) (h0 : ∀ t, 0 ≤ seq a q j t) (h1 : ∀ t, seq a q j t ≠ ⊤)
    (t : ℕ) (ht : t < 16) : seq (scanned k0_pay336 a b) q j t = H (seq a q j) (seq b q j) t := by
  rw [← Cert.LruMath.scan_eq _ _ h0 h1 t ht]
  unfold scanned
  have a1 := stepA_1 a q j
  have a2 : ∀ t, t < 16 → seq (stepA k0_pay336 2#32 (stepA k0_pay336 1#32 a)) q j t = dbp 2 (dbp 1 (seq a q j)) t :=
    fun t ht => (stepA_2 _ q j t ht).trans (dbp_congr 2 a1 t ht)
  have a4 : ∀ t, t < 16 → seq (stepA k0_pay336 4#32 (stepA k0_pay336 2#32 (stepA k0_pay336 1#32 a))) q j t = dbp 4 (dbp 2 (dbp 1 (seq a q j))) t :=
    fun t ht => (stepA_4 _ q j t ht).trans (dbp_congr 4 a2 t ht)
  exact (stepB_8 _ _ q j t ht).trans (dbl_congr 8 a4 (fun t ht => (stepB_4 _ _ q j t ht).trans (dbl_congr 4 a2
    (fun t ht => (stepB_2 _ _ q j t ht).trans (dbl_congr 2 a1 (stepB_1 a b q j) t ht)) t ht)) t ht)

/-- The taps. -/
theorem xcOut_apply (xr xp : Vec Ideal S512x512 .f32) (w : Vec Ideal S4x512 .f32) (b : Vec Ideal S1x512 .f32) (R : Fin 512) (j : Fin 512) :
    xcOut xr xp w b (ix2 R j)
      = conv (fun i => xp (ix2 ⟨R.val / 16 * 16 + i.val, by omega⟩ j)) (fun s => xr (ix2 ⟨R.val / 16 * 16 + s.val, by omega⟩ j))
          (fun i => w (ix2 i j)) (b (ix2 0 j)) (R.val % 16) := by
  have hw := tm512_apply R j
  have g := fun d : Fin 9 => ge_bit d ⟨R.val % 16, by omega⟩
  unfold xcOut k0_pay344 k0_pay343 k0_pay341 k0_pay340 conv tap
  generalize k0_pay339 seqLen k0_pay337 k0_pay338 0#32 = tm at *
  pointwise
  rw [hw, show IntOp.cmpi CmpIPredicate.sge (BitVec.ofNat 32 (R.val % 16)) 3#32 = BitVec.ofBool (decide (3 ≤ R.val % 16)) from g 3,
    show IntOp.cmpi CmpIPredicate.sge (BitVec.ofNat 32 (R.val % 16)) 2#32 = BitVec.ofBool (decide (2 ≤ R.val % 16)) from g 2,
    show IntOp.cmpi CmpIPredicate.sge (BitVec.ofNat 32 (R.val % 16)) 1#32 = BitVec.ofBool (decide (1 ≤ R.val % 16)) from g 1, sel, sel, sel]
  refine congrArg₂ (· + ·) (congrArg₂ (· + ·) (congrArg₂ (· + ·) (congrArg (· * w (ix2 0 j) + b (ix2 0 j)) ?_)
    (congrArg (· * w (ix2 1 j)) ?_)) (congrArg (· * w (ix2 2 j)) ?_)) (congrArg (· * w (ix2 3 j)) ?_)
  · by_cases h : R.val % 16 < 3
    · rw [if_neg (by omega), dif_pos h]
      exact congrArg (fun r => xp (ix2 r j)) (Fin.ext (by dsimp only; omega))
    · rw [if_pos (by omega), dif_neg h]
      exact congrArg (fun r => xr (ix2 r j)) (Fin.ext (by dsimp only; omega))
  · by_cases h : 1 + R.val % 16 < 3
    · rw [if_neg (by omega), dif_pos h]
      exact congrArg (fun r => xp (ix2 r j)) (Fin.ext (by dsimp only; omega))
    · rw [if_pos (by omega), dif_neg h]
      exact congrArg (fun r => xr (ix2 r j)) (Fin.ext (by dsimp only; omega))
  · by_cases h : 2 + R.val % 16 < 3
    · rw [if_neg (by omega), dif_pos h]
      exact congrArg (fun r => xp (ix2 r j)) (Fin.ext (by dsimp only; omega))
    · rw [if_pos (by omega), dif_neg h]
      exact congrArg (fun r => xr (ix2 r j)) (Fin.ext (by dsimp only; omega))
  · exact congrArg (fun r => xr (ix2 r j)) (Fin.ext (by dsimp only; omega))

/-- The gate products. -/
theorem gates0_apply (xc : FVec Ideal S512x512 .f32) (wg : Vec Ideal S2x256x512 .bf16) (R : Fin 512) (q : Fin 512) :
    gates0 xc wg (ix2 R q) = ∑ k : Fin 256, xc (ix2 R ⟨k.val, by omega⟩) * wg (ix3 0 k q) := by
  unfold gates0
  pointwise

theorem gates1_apply (xc : FVec Ideal S512x512 .f32) (wg : Vec Ideal S2x256x512 .bf16) (R : Fin 512) (q : Fin 512) :
    gates1 xc wg (ix2 R q) = ∑ k : Fin 256, xc (ix2 R ⟨256 + k.val, by omega⟩) * wg (ix3 1 k q) := by
  unfold gates1
  pointwise

/-- A gate. -/
theorem gate_apply (g : FVec Ideal S512x128 .f32) (b : Vec Ideal S1x128 .f32) (R : Fin 512) (j : Fin 128) :
    gate g b (ix2 R j) = Ideal.logistic (g (ix2 R j) + b (ix2 0 j)) := by
  unfold gate
  pointwise

theorem softRow_apply (l : Vec Ideal S1x128 .f32) (j : Fin 128) : softRow l (ix2 0 j) = soft (l (ix2 0 j)) := by
  unfold softRow soft
  pointwise
  rw [if_neg (fun h => h rfl)]
  simp only [zero_sub]
  rfl

theorem logDecay_apply (g : FVec Ideal S512x128 .f32) (b l : Vec Ideal S1x128 .f32) (R : Fin 512) (j : Fin 128) :
    logDecay (gate g b) l (ix2 R j) = logd (g (ix2 R j)) (b (ix2 0 j)) (l (ix2 0 j)) := by
  unfold logd
  rw [← gate_apply, ← softRow_apply]
  unfold logDecay
  generalize gate g b = y
  generalize softRow l = z
  pointwise

theorem gain_apply (la : FVec Ideal S512x128 .f32) (R : Fin 512) (j : Fin 128) (h : la (ix2 R j) ≤ 0) :
    gain la (ix2 R j) = Ideal.sqrt (-(Ideal.exp (2 * la (ix2 R j)) - 1)) := by
  rw [← Cert.LruMath.gain_eq _ h]
  unfold gain
  pointwise

theorem driven_apply (la gi xc h0 : FVec Ideal S512x128 .f32) (R : Fin 512) (j : Fin 128) (h : la (ix2 R j) ≤ 0) :
    driven k0_pay336 la gi xc h0 (ix2 R j) = Ideal.sqrt (-(Ideal.exp (2 * la (ix2 R j)) - 1)) * (gi (ix2 R j) * xc (ix2 R j))
      + if R.val % 16 = 0 then Ideal.exp (la (ix2 R j)) * h0 (ix2 R j) else 0 := by
  rw [← gain_apply la R j h]
  have w := tm_apply R j
  have g := eq_bit ⟨R.val % 16, by omega⟩
  unfold driven
  generalize k0_pay336 = tm at *
  generalize gain la = y
  pointwise
  rw [w]
  erw [g]
  rw [sel]

/-- A tile of states. -/
theorem tileOf_apply (g gx : FVec Ideal S512x128 .f32) (ba bx l : Vec Ideal S1x128 .f32) (xc h0 : FVec Ideal S512x128 .f32) (R : Fin 512) (j : Fin 128)
    (v : EReal) (hv : ∀ s : Fin 16, h0 (ix2 ⟨R.val / 16 * 16 + s.val, by omega⟩ j) = v) :
    tileOf g gx ba bx l xc h0 (ix2 R j)
      = lru (fun s => g (ix2 ⟨R.val / 16 * 16 + s.val, by omega⟩ j)) (fun s => gx (ix2 ⟨R.val / 16 * 16 + s.val, by omega⟩ j))
          (fun s => xc (ix2 ⟨R.val / 16 * 16 + s.val, by omega⟩ j)) (ba (ix2 0 j)) (bx (ix2 0 j)) (l (ix2 0 j)) v (R.val % 16) := by
  have ea : seq (exp (logDecay (gate g ba) l)) ⟨R.val / 16, by omega⟩ j
      = fun s => Ideal.exp (logd (g (ix2 ⟨R.val / 16 * 16 + s % 16, by omega⟩ j)) (ba (ix2 0 j)) (l (ix2 0 j))) := funext fun s => by
    show Ideal.exp (logDecay (gate g ba) l _) = _
    rw [logDecay_apply]
  have eb : seq (driven k0_pay336 (logDecay (gate g ba) l) (gate gx bx) xc h0) ⟨R.val / 16, by omega⟩ j
      = fun s => Ideal.sqrt (-(Ideal.exp (2 * logd (g (ix2 ⟨R.val / 16 * 16 + s % 16, by omega⟩ j)) (ba (ix2 0 j)) (l (ix2 0 j))) - 1))
            * (Ideal.logistic (gx (ix2 ⟨R.val / 16 * 16 + s % 16, by omega⟩ j) + bx (ix2 0 j)) * xc (ix2 ⟨R.val / 16 * 16 + s % 16, by omega⟩ j))
          + if s % 16 = 0 then Ideal.exp (logd (g (ix2 ⟨R.val / 16 * 16 + s % 16, by omega⟩ j)) (ba (ix2 0 j)) (l (ix2 0 j))) * v else 0 := funext fun s => by
    unfold seq
    rw [driven_apply _ _ _ _ _ _ (by rw [logDecay_apply]; exact Cert.Even.logd_nonpos _ _ _), logDecay_apply, gate_apply,
      hv ⟨s % 16, Nat.mod_lt _ (by decide)⟩]
    simp only [show (R.val / 16 * 16 + s % 16) % 16 = s % 16 by omega]
  have e : tileOf g gx ba bx l xc h0 (ix2 R j) = seq (tileOf g gx ba bx l xc h0) ⟨R.val / 16, by omega⟩ j (R.val % 16) :=
    congrArg (fun r => tileOf g gx ba bx l xc h0 (ix2 r j)) (Fin.ext (by show R.val = R.val / 16 * 16 + R.val % 16 % 16; omega))
  rw [e]
  unfold tileOf
  rw [scanned_apply _ _ _ _ (fun t => by rw [ea]; exact Cert.LruMath.exp_nonneg _)
    (fun t => by rw [ea]; exact Cert.LruMath.exp_ne_top _ (Cert.Even.logd_nonpos _ _ _)) _ (Nat.mod_lt _ (by decide)), ea, eb]
  rfl

theorem cat_0 (T0 T1 T2 T3 : FVec Ideal S512x128 .f32) (R : Fin 512) (c : Fin 128) :
    concatenate S512x512 1 [⟨S512x128, T0⟩, ⟨S512x128, T1⟩, ⟨S512x128, T2⟩, ⟨S512x128, T3⟩]
      concatenates_S512x128_S512x128_S512x128_S512x128_S512x512_d1 (ix2 R ⟨c.val, by omega⟩) = T0 (ix2 R c) := by
  pointwise

/-- The states of a quarter of the columns. -/
theorem states_0 (xc g0 g1 h0 : FVec Ideal S512x512 .f32) (ba bx l : Vec Ideal S1x512 .f32) (R : Fin 512) (c : Fin 128)
    (v : EReal) (hv : ∀ s : Fin 16, h0 (ix2 ⟨R.val / 16 * 16 + s.val, by omega⟩ ⟨c.val, by omega⟩) = v) :
    states xc g0 g1 h0 ba bx l (ix2 R ⟨c.val, by omega⟩)
      = lru (fun s => g0 (ix2 ⟨R.val / 16 * 16 + s.val, by omega⟩ ⟨c.val, by omega⟩)) (fun s => g0 (ix2 ⟨R.val / 16 * 16 + s.val, by omega⟩ ⟨256 + c.val, by omega⟩))
          (fun s => xc (ix2 ⟨R.val / 16 * 16 + s.val, by omega⟩ ⟨c.val, by omega⟩)) (ba (ix2 0 ⟨c.val, by omega⟩)) (bx (ix2 0 ⟨c.val, by omega⟩))
          (l (ix2 0 ⟨c.val, by omega⟩)) v (R.val % 16) := by
  unfold states
  rw [cat_0, tileOf_apply _ _ _ _ _ _ _ _ _ v (fun s => by pointwise; exact hv s)]
  pointwise

theorem cat_1 (T0 T1 T2 T3 : FVec Ideal S512x128 .f32) (R : Fin 512) (c : Fin 128) :
    concatenate S512x512 1 [⟨S512x128, T0⟩, ⟨S512x128, T1⟩, ⟨S512x128, T2⟩, ⟨S512x128, T3⟩]
      concatenates_S512x128_S512x128_S512x128_S512x128_S512x512_d1 (ix2 R ⟨128 + c.val, by omega⟩) = T1 (ix2 R c) := by
  pointwise

/-- The states of a quarter of the columns. -/
theorem states_1 (xc g0 g1 h0 : FVec Ideal S512x512 .f32) (ba bx l : Vec Ideal S1x512 .f32) (R : Fin 512) (c : Fin 128)
    (v : EReal) (hv : ∀ s : Fin 16, h0 (ix2 ⟨R.val / 16 * 16 + s.val, by omega⟩ ⟨128 + c.val, by omega⟩) = v) :
    states xc g0 g1 h0 ba bx l (ix2 R ⟨128 + c.val, by omega⟩)
      = lru (fun s => g0 (ix2 ⟨R.val / 16 * 16 + s.val, by omega⟩ ⟨128 + c.val, by omega⟩)) (fun s => g0 (ix2 ⟨R.val / 16 * 16 + s.val, by omega⟩ ⟨384 + c.val, by omega⟩))
          (fun s => xc (ix2 ⟨R.val / 16 * 16 + s.val, by omega⟩ ⟨128 + c.val, by omega⟩)) (ba (ix2 0 ⟨128 + c.val, by omega⟩)) (bx (ix2 0 ⟨128 + c.val, by omega⟩))
          (l (ix2 0 ⟨128 + c.val, by omega⟩)) v (R.val % 16) := by
  unfold states
  rw [cat_1, tileOf_apply _ _ _ _ _ _ _ _ _ v (fun s => by pointwise; exact hv s)]
  pointwise

theorem cat_2 (T0 T1 T2 T3 : FVec Ideal S512x128 .f32) (R : Fin 512) (c : Fin 128) :
    concatenate S512x512 1 [⟨S512x128, T0⟩, ⟨S512x128, T1⟩, ⟨S512x128, T2⟩, ⟨S512x128, T3⟩]
      concatenates_S512x128_S512x128_S512x128_S512x128_S512x512_d1 (ix2 R ⟨256 + c.val, by omega⟩) = T2 (ix2 R c) := by
  pointwise
  rw [dif_neg (by omega), dif_neg (by omega), dif_pos (by omega)]
  exact congrArg (fun q => T2 (ix2 R q)) (Fin.ext (by dsimp only; omega))

/-- The states of a quarter of the columns. -/
theorem states_2 (xc g0 g1 h0 : FVec Ideal S512x512 .f32) (ba bx l : Vec Ideal S1x512 .f32) (R : Fin 512) (c : Fin 128)
    (v : EReal) (hv : ∀ s : Fin 16, h0 (ix2 ⟨R.val / 16 * 16 + s.val, by omega⟩ ⟨256 + c.val, by omega⟩) = v) :
    states xc g0 g1 h0 ba bx l (ix2 R ⟨256 + c.val, by omega⟩)
      = lru (fun s => g1 (ix2 ⟨R.val / 16 * 16 + s.val, by omega⟩ ⟨c.val, by omega⟩)) (fun s => g1 (ix2 ⟨R.val / 16 * 16 + s.val, by omega⟩ ⟨256 + c.val, by omega⟩))
          (fun s => xc (ix2 ⟨R.val / 16 * 16 + s.val, by omega⟩ ⟨256 + c.val, by omega⟩)) (ba (ix2 0 ⟨256 + c.val, by omega⟩)) (bx (ix2 0 ⟨256 + c.val, by omega⟩))
          (l (ix2 0 ⟨256 + c.val, by omega⟩)) v (R.val % 16) := by
  unfold states
  rw [cat_2, tileOf_apply _ _ _ _ _ _ _ _ _ v (fun s => by pointwise; exact hv s)]
  pointwise

theorem cat_3 (T0 T1 T2 T3 : FVec Ideal S512x128 .f32) (R : Fin 512) (c : Fin 128) :
    concatenate S512x512 1 [⟨S512x128, T0⟩, ⟨S512x128, T1⟩, ⟨S512x128, T2⟩, ⟨S512x128, T3⟩]
      concatenates_S512x128_S512x128_S512x128_S512x128_S512x512_d1 (ix2 R ⟨384 + c.val, by omega⟩) = T3 (ix2 R c) := by
  pointwise
  rw [dif_neg (by omega), dif_neg (by omega), dif_neg (by omega)]
  exact congrArg (fun q => T3 (ix2 R q)) (Fin.ext (by dsimp only; omega))

/-- The states of a quarter of the columns. -/
theorem states_3 (xc g0 g1 h0 : FVec Ideal S512x512 .f32) (ba bx l : Vec Ideal S1x512 .f32) (R : Fin 512) (c : Fin 128)
    (v : EReal) (hv : ∀ s : Fin 16, h0 (ix2 ⟨R.val / 16 * 16 + s.val, by omega⟩ ⟨384 + c.val, by omega⟩) = v) :
    states xc g0 g1 h0 ba bx l (ix2 R ⟨384 + c.val, by omega⟩)
      = lru (fun s => g1 (ix2 ⟨R.val / 16 * 16 + s.val, by omega⟩ ⟨128 + c.val, by omega⟩)) (fun s => g1 (ix2 ⟨R.val / 16 * 16 + s.val, by omega⟩ ⟨384 + c.val, by omega⟩))
          (fun s => xc (ix2 ⟨R.val / 16 * 16 + s.val, by omega⟩ ⟨384 + c.val, by omega⟩)) (ba (ix2 0 ⟨384 + c.val, by omega⟩)) (bx (ix2 0 ⟨384 + c.val, by omega⟩))
          (l (ix2 0 ⟨384 + c.val, by omega⟩)) v (R.val % 16) := by
  unfold states
  rw [cat_3, tileOf_apply _ _ _ _ _ _ _ _ _ v (fun s => by pointwise; exact hv s)]
  pointwise

end Cert.Kernel3Ideal.Even

end
-- ==== Proof.EvenWinH.lean ====
/-
  The even-sample call's blocks of the recurrence at an element: what the host code prepares from the arguments.
-/
module

public import proofs.«01_k».proof.Proof.EvenRows
public import proofs.«01_k».proof.Proof.Gen.Kernel3Ideal.Frame
public import Idealize.ShloMosaic.Lib.Pipeline.ValueKit
public import Idealize.ShloMosaic.Lib.StableHlo.RunRead

@[expose] public section

set_option maxRecDepth 16384

noncomputable section

namespace Cert.Kernel3Ideal.Even

open Idealize.ShloMosaic Idealize.ShloMosaic.TcCoe Idealize.SL.Sem
open Cert.Kernel3Ideal.Gen
open scoped BigOperators

variable (m : (ℓ : Loc nD τ sig) → Buf (Elt Ideal) ℓ)

/-- The windows' block indices. -/
theorem idxH : ∀ t : Fin cfg0.N, win0_5.index t = ![0, 0] ∧ win0_6.index t = ![0, 0] ∧ win0_12.index t = ![0, 0]
    ∧ win0_13.index t = ![0, 0] ∧ win0_14.index t = ![0, 0, 0] ∧ win0_15.index t = ![0, 0] ∧ win0_16.index t = ![0, 0]
    ∧ win0_17.index t = ![0, 0] ∧ win0_22.index t = ![0, 0] :=
  (by decide +kernel : ∀ t : Fin grid0.N, _)

theorem eyeBit : ∀ a b : Fin 4, IntOp.cmpi CmpIPredicate.eq (IntOp.addi (BitVec.ofNat 32 a.val) 0#32) (BitVec.ofNat 32 b.val)
    = BitVec.ofBool (decide (a.val = b.val)) := by decide +kernel

/-- A choice on the diagonal of four blocks. -/
theorem eye (a b : Fin 4) (x : EReal) :
    Scalar.select (IntOp.cmpi CmpIPredicate.eq (IntOp.addi (BitVec.ofNat 32 a.val) 0#32) (BitVec.ofNat 32 b.val)) x (0 : EReal)
      = if a.val = b.val then x else 0 := by
  rw [eyeBit]
  by_cases h : a.val = b.val <;> simp [Scalar.select, h]

/-- The state before the sample, repeated over its rows. -/
theorem host_5 (c : Dev nD) (R : Fin 512) (j : Fin 512) :
    V m c main_v107 (ix2 R j) = m ((c : Thread nD τ).loc main_arg3) (ix3 0 ⟨R.val / 16, by omega⟩ j) := by
  after_reads_simp
  pointwise

/-- The cached inputs, three rows at the head of each sequence. -/
theorem host_6 (c : Dev nD) (R : Fin 512) (j : Fin 512) (h : R.val % 16 < 3) :
    V m c main_v110 (ix2 R j) = m ((c : Thread nD τ).loc main_arg4) (ix4 0 ⟨R.val / 16, by omega⟩ ⟨R.val % 16, h⟩ j) := by
  after_reads_simp
  pointwise
  simp only [StableHlo.TRef.toBuf, StableHlo.TRef.ofBuf, cast_eq]
  simp [pad, h]
  rw [dif_pos (by
    intro a
    fin_cases a
    · exact ⟨Nat.zero_le _, Nat.mod_one _, by show (R.val / 16 - 0) / 1 < 32; omega⟩
    · exact ⟨Nat.zero_le _, Nat.mod_one _, by show (R.val % 16 - 0) / 1 < 3; omega⟩
    · exact ⟨Nat.zero_le _, Nat.mod_one _, by show (j.val - 0) / 1 < 512; omega⟩)]

theorem host_12 (c : Dev nD) (i : Fin 4) (j : Fin 512) :
    V m c main_v27 (ix2 i j) = m ((c : Thread nD τ).loc main_arg10) (ix3 0 i j) := by
  after_reads_simp
  pointwise

theorem host_13 (c : Dev nD) (j : Fin 512) : V m c main_v29 (ix2 0 j) = m ((c : Thread nD τ).loc main_arg11) (ix2 0 j) := by
  after_reads_simp
  pointwise

theorem host_15 (c : Dev nD) (j : Fin 512) : V m c main_v64 (ix2 0 j) = m ((c : Thread nD τ).loc main_arg13) (ix2 0 j) := by
  after_reads_simp
  pointwise

theorem host_16 (c : Dev nD) (j : Fin 512) : V m c main_v66 (ix2 0 j) = m ((c : Thread nD τ).loc main_arg15) (ix2 0 j) := by
  after_reads_simp
  pointwise

theorem host_17 (c : Dev nD) (j : Fin 512) : V m c main_v68 (ix2 0 j) = m ((c : Thread nD τ).loc main_arg16) (ix2 0 j) := by
  after_reads_simp
  pointwise

/-- The gate weights' blocks on the diagonal, zero elsewhere. -/
theorem host_14a0 (c : Dev nD) (p : Fin 256) (q : Fin 256) :
    V m c main_v62 (ix3 0 p ⟨q.val, by omega⟩) = if p.val / 64 = q.val / 64
      then m ((c : Thread nD τ).loc main_arg12) (ix4 0 ⟨0 + p.val / 64, by omega⟩ ⟨p.val % 64, by omega⟩ ⟨q.val % 64, by omega⟩) else (0 : EReal) := by
  after_reads_simp
  pointwise
  after_reads_simp [Matrix.cons_val_zero, Matrix.cons_val_one]
  pointwise
  after_reads_simp [Matrix.cons_val_zero, Matrix.cons_val_one]
  pointwise
  simp only [StableHlo.TRef.toBuf, StableHlo.TRef.ofBuf, cast_eq]
  pointwise [id]
  exact eye ⟨p.val / 64, by omega⟩ ⟨q.val / 64, by omega⟩ _

/-- The gate weights' blocks on the diagonal, zero elsewhere. -/
theorem host_14x0 (c : Dev nD) (p : Fin 256) (q : Fin 256) :
    V m c main_v62 (ix3 0 p ⟨256 + q.val, by omega⟩) = if p.val / 64 = q.val / 64
      then m ((c : Thread nD τ).loc main_arg14) (ix4 0 ⟨0 + p.val / 64, by omega⟩ ⟨p.val % 64, by omega⟩ ⟨q.val % 64, by omega⟩) else (0 : EReal) := by
  after_reads_simp
  pointwise
  after_reads_simp [Matrix.cons_val_zero, Matrix.cons_val_one]
  pointwise
  after_reads_simp [Matrix.cons_val_zero, Matrix.cons_val_one]
  pointwise
  simp only [StableHlo.TRef.toBuf, StableHlo.TRef.ofBuf, cast_eq]
  pointwise [id]
  exact eye ⟨p.val / 64, by omega⟩ ⟨q.val / 64, by omega⟩ _

/-- The gate weights' blocks on the diagonal, zero elsewhere. -/
theorem host_14a1 (c : Dev nD) (p : Fin 256) (q : Fin 256) :
    V m c main_v62 (ix3 1 p ⟨q.val, by omega⟩) = if p.val / 64 = q.val / 64
      then m ((c : Thread nD τ).loc main_arg12) (ix4 0 ⟨4 + p.val / 64, by omega⟩ ⟨p.val % 64, by omega⟩ ⟨q.val % 64, by omega⟩) else (0 : EReal) := by
  after_reads_simp
  pointwise
  after_reads_simp [Matrix.cons_val_zero, Matrix.cons_val_one]
  pointwise
  after_reads_simp [Matrix.cons_val_zero, Matrix.cons_val_one]
  pointwise
  simp only [StableHlo.TRef.toBuf, StableHlo.TRef.ofBuf, cast_eq]
  pointwise [id]
  exact eye ⟨p.val / 64, by omega⟩ ⟨q.val / 64, by omega⟩ _

/-- The gate weights' blocks on the diagonal, zero elsewhere. -/
theorem host_14x1 (c : Dev nD) (p : Fin 256) (q : Fin 256) :
    V m c main_v62 (ix3 1 p ⟨256 + q.val, by omega⟩) = if p.val / 64 = q.val / 64
      then m ((c : Thread nD τ).loc main_arg14) (ix4 0 ⟨4 + p.val / 64, by omega⟩ ⟨p.val % 64, by omega⟩ ⟨q.val % 64, by omega⟩) else (0 : EReal) := by
  after_reads_simp
  pointwise
  after_reads_simp [Matrix.cons_val_zero, Matrix.cons_val_one]
  pointwise
  after_reads_simp [Matrix.cons_val_zero, Matrix.cons_val_one]
  pointwise
  simp only [StableHlo.TRef.toBuf, StableHlo.TRef.ofBuf, cast_eq]
  pointwise [id]
  exact eye ⟨p.val / 64, by omega⟩ ⟨q.val / 64, by omega⟩ _

theorem blk_5 (c : Dev nD) (t : Fin cfg0.N) (R : Fin 512) (j : Fin 512) :
    iblk m c 5 t (ix2 R j) = m ((c : Thread nD τ).loc main_arg3) (ix3 0 ⟨R.val / 16, by omega⟩ j) := by
  refine (congrArg (V m c main_v107) (?_ : _ = (ix2 R j : S512x512.Idx))).trans (host_5 m c R j)
  blk_ext [idxH t]

theorem blk_6 (c : Dev nD) (t : Fin cfg0.N) (R : Fin 512) (j : Fin 512) (h : R.val % 16 < 3) :
    iblk m c 6 t (ix2 R j) = m ((c : Thread nD τ).loc main_arg4) (ix4 0 ⟨R.val / 16, by omega⟩ ⟨R.val % 16, h⟩ j) := by
  refine (congrArg (V m c main_v110) (?_ : _ = (ix2 R j : S512x512.Idx))).trans (host_6 m c R j h)
  blk_ext [idxH t]

theorem blk_12 (c : Dev nD) (t : Fin cfg0.N) (i : Fin 4) (j : Fin 512) :
    iblk m c 12 t (ix2 i j) = m ((c : Thread nD τ).loc main_arg10) (ix3 0 i j) := by
  refine (congrArg (V m c main_v27) (?_ : _ = (ix2 i j : S4x512.Idx))).trans (host_12 m c i j)
  blk_ext [idxH t]

theorem blk_13 (c : Dev nD) (t : Fin cfg0.N) (j : Fin 512) :
    iblk m c 13 t (ix2 0 j) = m ((c : Thread nD τ).loc main_arg11) (ix2 0 j) := by
  refine (congrArg (V m c main_v29) (?_ : _ = (ix2 0 j : S1x512.Idx))).trans (host_13 m c j)
  blk_ext [idxH t]

theorem blk_15 (c : Dev nD) (t : Fin cfg0.N) (j : Fin 512) :
    iblk m c 15 t (ix2 0 j) = m ((c : Thread nD τ).loc main_arg13) (ix2 0 j) := by
  refine (congrArg (V m c main_v64) (?_ : _ = (ix2 0 j : S1x512.Idx))).trans (host_15 m c j)
  blk_ext [idxH t]

theorem blk_16 (c : Dev nD) (t : Fin cfg0.N) (j : Fin 512) :
    iblk m c 16 t (ix2 0 j) = m ((c : Thread nD τ).loc main_arg15) (ix2 0 j) := by
  refine (congrArg (V m c main_v66) (?_ : _ = (ix2 0 j : S1x512.Idx))).trans (host_16 m c j)
  blk_ext [idxH t]

theorem blk_17 (c : Dev nD) (t : Fin cfg0.N) (j : Fin 512) :
    iblk m c 17 t (ix2 0 j) = m ((c : Thread nD τ).loc main_arg16) (ix2 0 j) := by
  refine (congrArg (V m c main_v68) (?_ : _ = (ix2 0 j : S1x512.Idx))).trans (host_17 m c j)
  blk_ext [idxH t]

theorem blk_14a0 (c : Dev nD) (t : Fin cfg0.N) (p : Fin 256) (q : Fin 256) :
    iblk m c 14 t (ix3 0 p ⟨q.val, by omega⟩) = if p.val / 64 = q.val / 64
      then m ((c : Thread nD τ).loc main_arg12) (ix4 0 ⟨0 + p.val / 64, by omega⟩ ⟨p.val % 64, by omega⟩ ⟨q.val % 64, by omega⟩) else (0 : EReal) := by
  refine (congrArg (V m c main_v62) (?_ : _ = (ix3 0 p ⟨q.val, by omega⟩ : S2x256x512.Idx))).trans (host_14a0 m c p q)
  blk_ext [idxH t]

theorem blk_14x0 (c : Dev nD) (t : Fin cfg0.N) (p : Fin 256) (q : Fin 256) :
    iblk m c 14 t (ix3 0 p ⟨256 + q.val, by omega⟩) = if p.val / 64 = q.val / 64
      then m ((c : Thread nD τ).loc main_arg14) (ix4 0 ⟨0 + p.val / 64, by omega⟩ ⟨p.val % 64, by omega⟩ ⟨q.val % 64, by omega⟩) else (0 : EReal) := by
  refine (congrArg (V m c main_v62) (?_ : _ = (ix3 0 p ⟨256 + q.val, by omega⟩ : S2x256x512.Idx))).trans (host_14x0 m c p q)
  blk_ext [idxH t]

theorem blk_14a1 (c : Dev nD) (t : Fin cfg0.N) (p : Fin 256) (q : Fin 256) :
    iblk m c 14 t (ix3 1 p ⟨q.val, by omega⟩) = if p.val / 64 = q.val / 64
      then m ((c : Thread nD τ).loc main_arg12) (ix4 0 ⟨4 + p.val / 64, by omega⟩ ⟨p.val % 64, by omega⟩ ⟨q.val % 64, by omega⟩) else (0 : EReal) := by
  refine (congrArg (V m c main_v62) (?_ : _ = (ix3 1 p ⟨q.val, by omega⟩ : S2x256x512.Idx))).trans (host_14a1 m c p q)
  blk_ext [idxH t]

theorem blk_14x1 (c : Dev nD) (t : Fin cfg0.N) (p : Fin 256) (q : Fin 256) :
    iblk m c 14 t (ix3 1 p ⟨256 + q.val, by omega⟩) = if p.val / 64 = q.val / 64
      then m ((c : Thread nD τ).loc main_arg14) (ix4 0 ⟨4 + p.val / 64, by omega⟩ ⟨p.val % 64, by omega⟩ ⟨q.val % 64, by omega⟩) else (0 : EReal) := by
  refine (congrArg (V m c main_v62) (?_ : _ = (ix3 1 p ⟨256 + q.val, by omega⟩ : S2x256x512.Idx))).trans (host_14x1 m c p q)
  blk_ext [idxH t]

end Cert.Kernel3Ideal.Even

end
-- ==== Proof.EvenRefH.lean ====
/-
  The reference's recurrence, read at an element.
-/
module

public import proofs.«01_k».proof.Proof.EvenRecur
public import proofs.«01_k».proof.Proof.Gen.Reference3Ideal.Read

@[expose] public section

set_option maxRecDepth 16384

noncomputable section

namespace Cert.Reference3Ideal.Even

open Idealize.ShloMosaic Idealize.ShloMosaic.TcCoe Idealize.SL.Sem
open Cert.Reference3Ideal.Gen Cert.Reference3Ideal.Read
open Cert.Even (tap conv soft logd lru)
open scoped BigOperators

theorem two_bits : Ideal.ofBits .f32 0x40000000#32 = 2 := by
  rw [show (2 : EReal) = ((2 : ℝ) : EReal) from rfl]
  simp [Ideal.ofBits, Ideal.ieee]; rw [← EReal.coe_mul]; norm_num

/-- The entries behind the cached ones. -/
theorem cat_apply (x0 : FVec Ideal S32x16x1024 .f32) (x4 : FVec Ideal S1x32x3x512 .f32) (x5 : FVec Ideal S1x1024 .f32) (x6 : FVec Ideal S1x1024x1792 .f32) (b : Fin 32) (i : Fin 19) (j : Fin 512) :
    val_main_v72 (F := Ideal) x0 x4 x5 x6 (ix3 b i j)
      = tap (fun i => x4 (ix4 0 b i j)) (fun s => val_main_v23 (F := Ideal) x0 x5 x6 (ix3 b s j)) i.val := by
  unfold val_main_v72 val_main_v71 tap
  generalize val_main_v23 (F := Ideal) x0 x5 x6 = y
  pointwise
  by_cases h : i.val < 3
  · rw [dif_pos h, dif_pos h]
  · rw [dif_neg h, dif_neg h]
    exact congrArg (fun q => y (ix3 b q j)) (Fin.ext (by show i.val - 3 = (i.val - 3) % 16; omega))

/-- The taps. -/
theorem taps_apply (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (b : Fin 32) (t : Fin 16) (j : Fin 512) :
    val_main_v107 (F := Ideal) x0 x4 x5 x6 x10 x11 (ix3 b t j)
      = conv (fun i => x4 (ix4 0 b i j)) (fun s => val_main_v23 (F := Ideal) x0 x5 x6 (ix3 b s j)) (fun i => x10 (ix3 0 i j)) (x11 (ix2 0 j)) t.val := by
  have c := fun i => cat_apply x0 x4 x5 x6 b i j
  unfold conv
  rw [← c ⟨t.val, by omega⟩, ← c ⟨1 + t.val, by omega⟩, ← c ⟨2 + t.val, by omega⟩, ← c ⟨3 + t.val, by omega⟩]
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73
  generalize val_main_v72 (F := Ideal) x0 x4 x5 x6 = y
  pointwise

/-- The product of the decay gate. -/
theorem decay_prod (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (b : Fin 32) (t : Fin 16) (j : Fin 512) :
    val_main_v112 (F := Ideal) x0 x4 x5 x6 x10 x11 x12 (ix3 b t j)
      = ∑ d : Fin 64, val_main_v107 (F := Ideal) x0 x4 x5 x6 x10 x11 (ix3 b t ⟨j.val / 64 * 64 + d.val, by omega⟩)
          * x12 (ix4 0 ⟨j.val / 64, by omega⟩ d ⟨j.val % 64, by omega⟩) := by
  unfold val_main_v112 val_main_v111 val_main_v110 val_main_v109 val_main_v108
  generalize val_main_v107 (F := Ideal) x0 x4 x5 x6 x10 x11 = y
  pointwise
  exact Finset.sum_congr rfl fun d _ => mul_comm _ _

/-- The decay gate. -/
theorem decay_gate (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (b : Fin 32) (t : Fin 16) (j : Fin 512) :
    val_main_v122 (F := Ideal) x0 x4 x5 x6 x10 x11 x12 x13 (ix3 b t j)
      = Ideal.logistic (val_main_v112 (F := Ideal) x0 x4 x5 x6 x10 x11 x12 (ix3 b t j) + x13 (ix2 0 j)) := by
  unfold val_main_v122 val_main_v121 val_main_v120 val_main_v119 val_main_v118 val_main_v117 val_main_v116 val_main_v115 val_main_v114 val_main_v113 val_main_cst_7 val_main_cst_8
  generalize val_main_v112 (F := Ideal) x0 x4 x5 x6 x10 x11 x12 = y
  pointwise [Ideal.logistic]

/-- The product of the input gate. -/
theorem input_prod (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x14 : FVec Ideal S1x8x64x64 .f32) (b : Fin 32) (t : Fin 16) (j : Fin 512) :
    val_main_v126 (F := Ideal) x0 x4 x5 x6 x10 x11 x14 (ix3 b t j)
      = ∑ d : Fin 64, val_main_v107 (F := Ideal) x0 x4 x5 x6 x10 x11 (ix3 b t ⟨j.val / 64 * 64 + d.val, by omega⟩)
          * x14 (ix4 0 ⟨j.val / 64, by omega⟩ d ⟨j.val % 64, by omega⟩) := by
  unfold val_main_v126 val_main_v125 val_main_v124 val_main_v123 val_main_v108
  generalize val_main_v107 (F := Ideal) x0 x4 x5 x6 x10 x11 = y
  pointwise
  exact Finset.sum_congr rfl fun d _ => mul_comm _ _

/-- The input gate. -/
theorem input_gate (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x14 : FVec Ideal S1x8x64x64 .f32) (x15 : FVec Ideal S1x512 .f32) (b : Fin 32) (t : Fin 16) (j : Fin 512) :
    val_main_v136 (F := Ideal) x0 x4 x5 x6 x10 x11 x14 x15 (ix3 b t j)
      = Ideal.logistic (val_main_v126 (F := Ideal) x0 x4 x5 x6 x10 x11 x14 (ix3 b t j) + x15 (ix2 0 j)) := by
  unfold val_main_v136 val_main_v135 val_main_v134 val_main_v133 val_main_v132 val_main_v131 val_main_v130 val_main_v129 val_main_v128 val_main_v127 val_main_cst_9 val_main_cst_10
  generalize val_main_v126 (F := Ideal) x0 x4 x5 x6 x10 x11 x14 = y
  pointwise [Ideal.logistic]

/-- The softened weight. -/
theorem soft_apply (x16 : FVec Ideal S1x512 .f32) (j : Fin 512) : val_main_v141 (F := Ideal) x16 (ix1 j) = soft (x16 (ix2 0 j)) := by
  unfold val_main_v141 soft
  pointwise [val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v140, val_main_v139]
  rw [if_neg (fun h => h rfl)]
  rfl

/-- The logarithm of the decay. -/
theorem logd_apply (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x16 : FVec Ideal S1x512 .f32) (b : Fin 32) (t : Fin 16) (j : Fin 512) :
    val_main_v144 (F := Ideal) x0 x4 x5 x6 x10 x11 x12 x13 x16 (ix3 b t j)
      = logd (val_main_v112 (F := Ideal) x0 x4 x5 x6 x10 x11 x12 (ix3 b t j)) (x13 (ix2 0 j)) (x16 (ix2 0 j)) := by
  unfold logd
  rw [← decay_gate, ← soft_apply]
  unfold val_main_v144 val_main_v143 val_main_v142 val_main_v138 val_main_v137 val_main_cst_11
  generalize val_main_v122 (F := Ideal) x0 x4 x5 x6 x10 x11 x12 x13 = y
  generalize val_main_v141 (F := Ideal) x16 = z
  pointwise
  rw [mul_assoc, mul_left_comm]

/-- The decay. -/
theorem a_apply (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x16 : FVec Ideal S1x512 .f32) (b : Fin 32) (t : Fin 16) (j : Fin 512) :
    val_main_v145 (F := Ideal) x0 x4 x5 x6 x10 x11 x12 x13 x16 (ix3 b t j)
      = Ideal.exp (logd (val_main_v112 (F := Ideal) x0 x4 x5 x6 x10 x11 x12 (ix3 b t j)) (x13 (ix2 0 j)) (x16 (ix2 0 j))) := by
  rw [← logd_apply]
  unfold val_main_v145
  generalize val_main_v144 (F := Ideal) x0 x4 x5 x6 x10 x11 x12 x13 x16 = y
  pointwise

/-- What a step adds. -/
theorem b_apply (x0 : FVec Ideal S32x16x1024 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (t : Fin 16) (j : Fin 512) :
    val_main_v152 (F := Ideal) x0 x4 x5 x6 x10 x11 x12 x13 x14 x15 x16 (ix3 b t j)
      = Ideal.sqrt (-(Ideal.exp (2 * logd (val_main_v112 (F := Ideal) x0 x4 x5 x6 x10 x11 x12 (ix3 b t j)) (x13 (ix2 0 j)) (x16 (ix2 0 j))) - 1))
        * (Ideal.logistic (val_main_v126 (F := Ideal) x0 x4 x5 x6 x10 x11 x14 (ix3 b t j) + x15 (ix2 0 j)) * val_main_v107 (F := Ideal) x0 x4 x5 x6 x10 x11 (ix3 b t j)) := by
  rw [← input_gate, ← logd_apply]
  unfold val_main_v152 val_main_v151 val_main_v150 val_main_v149 val_main_v148 val_main_v147 val_main_v146 val_main_cst_12
  generalize val_main_v144 (F := Ideal) x0 x4 x5 x6 x10 x11 x12 x13 x16 = y
  generalize val_main_v136 (F := Ideal) x0 x4 x5 x6 x10 x11 x14 x15 = z
  generalize val_main_v107 (F := Ideal) x0 x4 x5 x6 x10 x11 = w
  pointwise
  rw [two_bits]

/-- The first state. -/
theorem st_0 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v159 (F := Ideal) x0 x3 x4 x5 x6 x10 x11 x12 x13 x14 x15 x16 (ix2 b j)
      = val_main_v145 (F := Ideal) x0 x4 x5 x6 x10 x11 x12 x13 x16 (ix3 b 0 j) * x3 (ix3 0 b j) + val_main_v152 (F := Ideal) x0 x4 x5 x6 x10 x11 x12 x13 x14 x15 x16 (ix3 b 0 j) := by
  unfold val_main_v159 val_main_v158 val_main_v157 val_main_v156 val_main_v155 val_main_v154 val_main_v153
  generalize val_main_v145 (F := Ideal) x0 x4 x5 x6 x10 x11 x12 x13 x16 = y
  generalize val_main_v152 (F := Ideal) x0 x4 x5 x6 x10 x11 x12 x13 x14 x15 x16 = z
  pointwise

theorem st_1 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v165 (F := Ideal) x0 x3 x4 x5 x6 x10 x11 x12 x13 x14 x15 x16 (ix2 b j)
      = val_main_v145 (F := Ideal) x0 x4 x5 x6 x10 x11 x12 x13 x16 (ix3 b 1 j) * val_main_v159 (F := Ideal) x0 x3 x4 x5 x6 x10 x11 x12 x13 x14 x15 x16 (ix2 b j) + val_main_v152 (F := Ideal) x0 x4 x5 x6 x10 x11 x12 x13 x14 x15 x16 (ix3 b 1 j) := by
  unfold val_main_v165 val_main_v164 val_main_v163 val_main_v162 val_main_v161 val_main_v160
  generalize val_main_v145 (F := Ideal) x0 x4 x5 x6 x10 x11 x12 x13 x16 = y
  generalize val_main_v152 (F := Ideal) x0 x4 x5 x6 x10 x11 x12 x13 x14 x15 x16 = z
  generalize val_main_v159 (F := Ideal) x0 x3 x4 x5 x6 x10 x11 x12 x13 x14 x15 x16 = h
  pointwise

theorem st_2 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v171 (F := Ideal) x0 x3 x4 x5 x6 x10 x11 x12 x13 x14 x15 x16 (ix2 b j)
      = val_main_v145 (F := Ideal) x0 x4 x5 x6 x10 x11 x12 x13 x16 (ix3 b 2 j) * val_main_v165 (F := Ideal) x0 x3 x4 x5 x6 x10 x11 x12 x13 x14 x15 x16 (ix2 b j) + val_main_v152 (F := Ideal) x0 x4 x5 x6 x10 x11 x12 x13 x14 x15 x16 (ix3 b 2 j) := by
  unfold val_main_v171 val_main_v170 val_main_v169 val_main_v168 val_main_v167 val_main_v166
  generalize val_main_v145 (F := Ideal) x0 x4 x5 x6 x10 x11 x12 x13 x16 = y
  generalize val_main_v152 (F := Ideal) x0 x4 x5 x6 x10 x11 x12 x13 x14 x15 x16 = z
  generalize val_main_v165 (F := Ideal) x0 x3 x4 x5 x6 x10 x11 x12 x13 x14 x15 x16 = h
  pointwise

theorem st_3 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v177 (F := Ideal) x0 x3 x4 x5 x6 x10 x11 x12 x13 x14 x15 x16 (ix2 b j)
      = val_main_v145 (F := Ideal) x0 x4 x5 x6 x10 x11 x12 x13 x16 (ix3 b 3 j) * val_main_v171 (F := Ideal) x0 x3 x4 x5 x6 x10 x11 x12 x13 x14 x15 x16 (ix2 b j) + val_main_v152 (F := Ideal) x0 x4 x5 x6 x10 x11 x12 x13 x14 x15 x16 (ix3 b 3 j) := by
  unfold val_main_v177 val_main_v176 val_main_v175 val_main_v174 val_main_v173 val_main_v172
  generalize val_main_v145 (F := Ideal) x0 x4 x5 x6 x10 x11 x12 x13 x16 = y
  generalize val_main_v152 (F := Ideal) x0 x4 x5 x6 x10 x11 x12 x13 x14 x15 x16 = z
  generalize val_main_v171 (F := Ideal) x0 x3 x4 x5 x6 x10 x11 x12 x13 x14 x15 x16 = h
  pointwise

theorem st_4 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v183 (F := Ideal) x0 x3 x4 x5 x6 x10 x11 x12 x13 x14 x15 x16 (ix2 b j)
      = val_main_v145 (F := Ideal) x0 x4 x5 x6 x10 x11 x12 x13 x16 (ix3 b 4 j) * val_main_v177 (F := Ideal) x0 x3 x4 x5 x6 x10 x11 x12 x13 x14 x15 x16 (ix2 b j) + val_main_v152 (F := Ideal) x0 x4 x5 x6 x10 x11 x12 x13 x14 x15 x16 (ix3 b 4 j) := by
  unfold val_main_v183 val_main_v182 val_main_v181 val_main_v180 val_main_v179 val_main_v178
  generalize val_main_v145 (F := Ideal) x0 x4 x5 x6 x10 x11 x12 x13 x16 = y
  generalize val_main_v152 (F := Ideal) x0 x4 x5 x6 x10 x11 x12 x13 x14 x15 x16 = z
  generalize val_main_v177 (F := Ideal) x0 x3 x4 x5 x6 x10 x11 x12 x13 x14 x15 x16 = h
  pointwise

theorem st_5 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v189 (F := Ideal) x0 x3 x4 x5 x6 x10 x11 x12 x13 x14 x15 x16 (ix2 b j)
      = val_main_v145 (F := Ideal) x0 x4 x5 x6 x10 x11 x12 x13 x16 (ix3 b 5 j) * val_main_v183 (F := Ideal) x0 x3 x4 x5 x6 x10 x11 x12 x13 x14 x15 x16 (ix2 b j) + val_main_v152 (F := Ideal) x0 x4 x5 x6 x10 x11 x12 x13 x14 x15 x16 (ix3 b 5 j) := by
  unfold val_main_v189 val_main_v188 val_main_v187 val_main_v186 val_main_v185 val_main_v184
  generalize val_main_v145 (F := Ideal) x0 x4 x5 x6 x10 x11 x12 x13 x16 = y
  generalize val_main_v152 (F := Ideal) x0 x4 x5 x6 x10 x11 x12 x13 x14 x15 x16 = z
  generalize val_main_v183 (F := Ideal) x0 x3 x4 x5 x6 x10 x11 x12 x13 x14 x15 x16 = h
  pointwise

theorem st_6 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v195 (F := Ideal) x0 x3 x4 x5 x6 x10 x11 x12 x13 x14 x15 x16 (ix2 b j)
      = val_main_v145 (F := Ideal) x0 x4 x5 x6 x10 x11 x12 x13 x16 (ix3 b 6 j) * val_main_v189 (F := Ideal) x0 x3 x4 x5 x6 x10 x11 x12 x13 x14 x15 x16 (ix2 b j) + val_main_v152 (F := Ideal) x0 x4 x5 x6 x10 x11 x12 x13 x14 x15 x16 (ix3 b 6 j) := by
  unfold val_main_v195 val_main_v194 val_main_v193 val_main_v192 val_main_v191 val_main_v190
  generalize val_main_v145 (F := Ideal) x0 x4 x5 x6 x10 x11 x12 x13 x16 = y
  generalize val_main_v152 (F := Ideal) x0 x4 x5 x6 x10 x11 x12 x13 x14 x15 x16 = z
  generalize val_main_v189 (F := Ideal) x0 x3 x4 x5 x6 x10 x11 x12 x13 x14 x15 x16 = h
  pointwise

theorem st_7 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v201 (F := Ideal) x0 x3 x4 x5 x6 x10 x11 x12 x13 x14 x15 x16 (ix2 b j)
      = val_main_v145 (F := Ideal) x0 x4 x5 x6 x10 x11 x12 x13 x16 (ix3 b 7 j) * val_main_v195 (F := Ideal) x0 x3 x4 x5 x6 x10 x11 x12 x13 x14 x15 x16 (ix2 b j) + val_main_v152 (F := Ideal) x0 x4 x5 x6 x10 x11 x12 x13 x14 x15 x16 (ix3 b 7 j) := by
  unfold val_main_v201 val_main_v200 val_main_v199 val_main_v198 val_main_v197 val_main_v196
  generalize val_main_v145 (F := Ideal) x0 x4 x5 x6 x10 x11 x12 x13 x16 = y
  generalize val_main_v152 (F := Ideal) x0 x4 x5 x6 x10 x11 x12 x13 x14 x15 x16 = z
  generalize val_main_v195 (F := Ideal) x0 x3 x4 x5 x6 x10 x11 x12 x13 x14 x15 x16 = h
  pointwise

theorem st_8 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v207 (F := Ideal) x0 x3 x4 x5 x6 x10 x11 x12 x13 x14 x15 x16 (ix2 b j)
      = val_main_v145 (F := Ideal) x0 x4 x5 x6 x10 x11 x12 x13 x16 (ix3 b 8 j) * val_main_v201 (F := Ideal) x0 x3 x4 x5 x6 x10 x11 x12 x13 x14 x15 x16 (ix2 b j) + val_main_v152 (F := Ideal) x0 x4 x5 x6 x10 x11 x12 x13 x14 x15 x16 (ix3 b 8 j) := by
  unfold val_main_v207 val_main_v206 val_main_v205 val_main_v204 val_main_v203 val_main_v202
  generalize val_main_v145 (F := Ideal) x0 x4 x5 x6 x10 x11 x12 x13 x16 = y
  generalize val_main_v152 (F := Ideal) x0 x4 x5 x6 x10 x11 x12 x13 x14 x15 x16 = z
  generalize val_main_v201 (F := Ideal) x0 x3 x4 x5 x6 x10 x11 x12 x13 x14 x15 x16 = h
  pointwise

theorem st_9 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v213 (F := Ideal) x0 x3 x4 x5 x6 x10 x11 x12 x13 x14 x15 x16 (ix2 b j)
      = val_main_v145 (F := Ideal) x0 x4 x5 x6 x10 x11 x12 x13 x16 (ix3 b 9 j) * val_main_v207 (F := Ideal) x0 x3 x4 x5 x6 x10 x11 x12 x13 x14 x15 x16 (ix2 b j) + val_main_v152 (F := Ideal) x0 x4 x5 x6 x10 x11 x12 x13 x14 x15 x16 (ix3 b 9 j) := by
  unfold val_main_v213 val_main_v212 val_main_v211 val_main_v210 val_main_v209 val_main_v208
  generalize val_main_v145 (F := Ideal) x0 x4 x5 x6 x10 x11 x12 x13 x16 = y
  generalize val_main_v152 (F := Ideal) x0 x4 x5 x6 x10 x11 x12 x13 x14 x15 x16 = z
  generalize val_main_v207 (F := Ideal) x0 x3 x4 x5 x6 x10 x11 x12 x13 x14 x15 x16 = h
  pointwise

theorem st_10 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v219 (F := Ideal) x0 x3 x4 x5 x6 x10 x11 x12 x13 x14 x15 x16 (ix2 b j)
      = val_main_v145 (F := Ideal) x0 x4 x5 x6 x10 x11 x12 x13 x16 (ix3 b 10 j) * val_main_v213 (F := Ideal) x0 x3 x4 x5 x6 x10 x11 x12 x13 x14 x15 x16 (ix2 b j) + val_main_v152 (F := Ideal) x0 x4 x5 x6 x10 x11 x12 x13 x14 x15 x16 (ix3 b 10 j) := by
  unfold val_main_v219 val_main_v218 val_main_v217 val_main_v216 val_main_v215 val_main_v214
  generalize val_main_v145 (F := Ideal) x0 x4 x5 x6 x10 x11 x12 x13 x16 = y
  generalize val_main_v152 (F := Ideal) x0 x4 x5 x6 x10 x11 x12 x13 x14 x15 x16 = z
  generalize val_main_v213 (F := Ideal) x0 x3 x4 x5 x6 x10 x11 x12 x13 x14 x15 x16 = h
  pointwise

theorem st_11 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v225 (F := Ideal) x0 x3 x4 x5 x6 x10 x11 x12 x13 x14 x15 x16 (ix2 b j)
      = val_main_v145 (F := Ideal) x0 x4 x5 x6 x10 x11 x12 x13 x16 (ix3 b 11 j) * val_main_v219 (F := Ideal) x0 x3 x4 x5 x6 x10 x11 x12 x13 x14 x15 x16 (ix2 b j) + val_main_v152 (F := Ideal) x0 x4 x5 x6 x10 x11 x12 x13 x14 x15 x16 (ix3 b 11 j) := by
  unfold val_main_v225 val_main_v224 val_main_v223 val_main_v222 val_main_v221 val_main_v220
  generalize val_main_v145 (F := Ideal) x0 x4 x5 x6 x10 x11 x12 x13 x16 = y
  generalize val_main_v152 (F := Ideal) x0 x4 x5 x6 x10 x11 x12 x13 x14 x15 x16 = z
  generalize val_main_v219 (F := Ideal) x0 x3 x4 x5 x6 x10 x11 x12 x13 x14 x15 x16 = h
  pointwise

theorem st_12 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v231 (F := Ideal) x0 x3 x4 x5 x6 x10 x11 x12 x13 x14 x15 x16 (ix2 b j)
      = val_main_v145 (F := Ideal) x0 x4 x5 x6 x10 x11 x12 x13 x16 (ix3 b 12 j) * val_main_v225 (F := Ideal) x0 x3 x4 x5 x6 x10 x11 x12 x13 x14 x15 x16 (ix2 b j) + val_main_v152 (F := Ideal) x0 x4 x5 x6 x10 x11 x12 x13 x14 x15 x16 (ix3 b 12 j) := by
  unfold val_main_v231 val_main_v230 val_main_v229 val_main_v228 val_main_v227 val_main_v226
  generalize val_main_v145 (F := Ideal) x0 x4 x5 x6 x10 x11 x12 x13 x16 = y
  generalize val_main_v152 (F := Ideal) x0 x4 x5 x6 x10 x11 x12 x13 x14 x15 x16 = z
  generalize val_main_v225 (F := Ideal) x0 x3 x4 x5 x6 x10 x11 x12 x13 x14 x15 x16 = h
  pointwise

theorem st_13 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v237 (F := Ideal) x0 x3 x4 x5 x6 x10 x11 x12 x13 x14 x15 x16 (ix2 b j)
      = val_main_v145 (F := Ideal) x0 x4 x5 x6 x10 x11 x12 x13 x16 (ix3 b 13 j) * val_main_v231 (F := Ideal) x0 x3 x4 x5 x6 x10 x11 x12 x13 x14 x15 x16 (ix2 b j) + val_main_v152 (F := Ideal) x0 x4 x5 x6 x10 x11 x12 x13 x14 x15 x16 (ix3 b 13 j) := by
  unfold val_main_v237 val_main_v236 val_main_v235 val_main_v234 val_main_v233 val_main_v232
  generalize val_main_v145 (F := Ideal) x0 x4 x5 x6 x10 x11 x12 x13 x16 = y
  generalize val_main_v152 (F := Ideal) x0 x4 x5 x6 x10 x11 x12 x13 x14 x15 x16 = z
  generalize val_main_v231 (F := Ideal) x0 x3 x4 x5 x6 x10 x11 x12 x13 x14 x15 x16 = h
  pointwise

theorem st_14 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v243 (F := Ideal) x0 x3 x4 x5 x6 x10 x11 x12 x13 x14 x15 x16 (ix2 b j)
      = val_main_v145 (F := Ideal) x0 x4 x5 x6 x10 x11 x12 x13 x16 (ix3 b 14 j) * val_main_v237 (F := Ideal) x0 x3 x4 x5 x6 x10 x11 x12 x13 x14 x15 x16 (ix2 b j) + val_main_v152 (F := Ideal) x0 x4 x5 x6 x10 x11 x12 x13 x14 x15 x16 (ix3 b 14 j) := by
  unfold val_main_v243 val_main_v242 val_main_v241 val_main_v240 val_main_v239 val_main_v238
  generalize val_main_v145 (F := Ideal) x0 x4 x5 x6 x10 x11 x12 x13 x16 = y
  generalize val_main_v152 (F := Ideal) x0 x4 x5 x6 x10 x11 x12 x13 x14 x15 x16 = z
  generalize val_main_v237 (F := Ideal) x0 x3 x4 x5 x6 x10 x11 x12 x13 x14 x15 x16 = h
  pointwise

theorem st_15 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) :
    val_main_v249 (F := Ideal) x0 x3 x4 x5 x6 x10 x11 x12 x13 x14 x15 x16 (ix2 b j)
      = val_main_v145 (F := Ideal) x0 x4 x5 x6 x10 x11 x12 x13 x16 (ix3 b 15 j) * val_main_v243 (F := Ideal) x0 x3 x4 x5 x6 x10 x11 x12 x13 x14 x15 x16 (ix2 b j) + val_main_v152 (F := Ideal) x0 x4 x5 x6 x10 x11 x12 x13 x14 x15 x16 (ix3 b 15 j) := by
  unfold val_main_v249 val_main_v248 val_main_v247 val_main_v246 val_main_v245 val_main_v244
  generalize val_main_v145 (F := Ideal) x0 x4 x5 x6 x10 x11 x12 x13 x16 = y
  generalize val_main_v152 (F := Ideal) x0 x4 x5 x6 x10 x11 x12 x13 x14 x15 x16 = z
  generalize val_main_v243 (F := Ideal) x0 x3 x4 x5 x6 x10 x11 x12 x13 x14 x15 x16 = h
  pointwise

end Cert.Reference3Ideal.Even

end
-- ==== Proof.EvenRefRun.lean ====
/-
  The reference's recurrence, step after step.
-/
module

public import proofs.«01_k».proof.Proof.EvenRefH

@[expose] public section

set_option maxRecDepth 16384

noncomputable section

namespace Cert.Reference3Ideal.Even

open Idealize.ShloMosaic Idealize.ShloMosaic.TcCoe Idealize.SL.Sem
open Cert.Reference3Ideal.Gen Cert.Reference3Ideal.Read
open Cert.Even (tap conv soft logd lru)
open scoped BigOperators

/-- The state of a sequence's column at a step. -/
def refLru (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) (t : ℕ) : EReal :=
  lru (fun s => val_main_v112 (F := Ideal) x0 x4 x5 x6 x10 x11 x12 (ix3 b s j)) (fun s => val_main_v126 (F := Ideal) x0 x4 x5 x6 x10 x11 x14 (ix3 b s j))
    (fun s => val_main_v107 (F := Ideal) x0 x4 x5 x6 x10 x11 (ix3 b s j)) (x13 (ix2 0 j)) (x15 (ix2 0 j)) (x16 (ix2 0 j)) (x3 (ix3 0 b j)) t

theorem run_0 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v159 (F := Ideal) x0 x3 x4 x5 x6 x10 x11 x12 x13 x14 x15 x16 (ix2 b j) = refLru x0 x3 x4 x5 x6 x10 x11 x12 x13 x14 x15 x16 b j 0 := by
  rw [st_0, a_apply, b_apply, refLru, Cert.Even.lru_zero]

/-- A step, from the state before it. -/
theorem ref_succ (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) (n k : ℕ) (t : Fin 16) (ht : t.val = n) (hn : n = k + 1) (h h' : EReal)
    (e : h = val_main_v145 (F := Ideal) x0 x4 x5 x6 x10 x11 x12 x13 x16 (ix3 b t j) * h' + val_main_v152 (F := Ideal) x0 x4 x5 x6 x10 x11 x12 x13 x14 x15 x16 (ix3 b t j))
    (ep : h' = refLru x0 x3 x4 x5 x6 x10 x11 x12 x13 x14 x15 x16 b j k) : h = refLru x0 x3 x4 x5 x6 x10 x11 x12 x13 x14 x15 x16 b j n := by
  subst hn
  obtain ⟨v, hv⟩ := t
  obtain rfl : v = k + 1 := ht
  rw [e, a_apply, b_apply, ep]
  unfold refLru
  rw [Cert.Even.lru_succ]

theorem run_1 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v165 (F := Ideal) x0 x3 x4 x5 x6 x10 x11 x12 x13 x14 x15 x16 (ix2 b j) = refLru x0 x3 x4 x5 x6 x10 x11 x12 x13 x14 x15 x16 b j 1 :=
  ref_succ x0 x3 x4 x5 x6 x10 x11 x12 x13 x14 x15 x16 b j 1 0 1 rfl rfl _ _ (st_1 x0 x3 x4 x5 x6 x10 x11 x12 x13 x14 x15 x16 b j) (run_0 x0 x3 x4 x5 x6 x10 x11 x12 x13 x14 x15 x16 b j)

theorem run_2 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v171 (F := Ideal) x0 x3 x4 x5 x6 x10 x11 x12 x13 x14 x15 x16 (ix2 b j) = refLru x0 x3 x4 x5 x6 x10 x11 x12 x13 x14 x15 x16 b j 2 :=
  ref_succ x0 x3 x4 x5 x6 x10 x11 x12 x13 x14 x15 x16 b j 2 1 2 rfl rfl _ _ (st_2 x0 x3 x4 x5 x6 x10 x11 x12 x13 x14 x15 x16 b j) (run_1 x0 x3 x4 x5 x6 x10 x11 x12 x13 x14 x15 x16 b j)

theorem run_3 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v177 (F := Ideal) x0 x3 x4 x5 x6 x10 x11 x12 x13 x14 x15 x16 (ix2 b j) = refLru x0 x3 x4 x5 x6 x10 x11 x12 x13 x14 x15 x16 b j 3 :=
  ref_succ x0 x3 x4 x5 x6 x10 x11 x12 x13 x14 x15 x16 b j 3 2 3 rfl rfl _ _ (st_3 x0 x3 x4 x5 x6 x10 x11 x12 x13 x14 x15 x16 b j) (run_2 x0 x3 x4 x5 x6 x10 x11 x12 x13 x14 x15 x16 b j)

theorem run_4 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v183 (F := Ideal) x0 x3 x4 x5 x6 x10 x11 x12 x13 x14 x15 x16 (ix2 b j) = refLru x0 x3 x4 x5 x6 x10 x11 x12 x13 x14 x15 x16 b j 4 :=
  ref_succ x0 x3 x4 x5 x6 x10 x11 x12 x13 x14 x15 x16 b j 4 3 4 rfl rfl _ _ (st_4 x0 x3 x4 x5 x6 x10 x11 x12 x13 x14 x15 x16 b j) (run_3 x0 x3 x4 x5 x6 x10 x11 x12 x13 x14 x15 x16 b j)

theorem run_5 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v189 (F := Ideal) x0 x3 x4 x5 x6 x10 x11 x12 x13 x14 x15 x16 (ix2 b j) = refLru x0 x3 x4 x5 x6 x10 x11 x12 x13 x14 x15 x16 b j 5 :=
  ref_succ x0 x3 x4 x5 x6 x10 x11 x12 x13 x14 x15 x16 b j 5 4 5 rfl rfl _ _ (st_5 x0 x3 x4 x5 x6 x10 x11 x12 x13 x14 x15 x16 b j) (run_4 x0 x3 x4 x5 x6 x10 x11 x12 x13 x14 x15 x16 b j)

theorem run_6 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v195 (F := Ideal) x0 x3 x4 x5 x6 x10 x11 x12 x13 x14 x15 x16 (ix2 b j) = refLru x0 x3 x4 x5 x6 x10 x11 x12 x13 x14 x15 x16 b j 6 :=
  ref_succ x0 x3 x4 x5 x6 x10 x11 x12 x13 x14 x15 x16 b j 6 5 6 rfl rfl _ _ (st_6 x0 x3 x4 x5 x6 x10 x11 x12 x13 x14 x15 x16 b j) (run_5 x0 x3 x4 x5 x6 x10 x11 x12 x13 x14 x15 x16 b j)

theorem run_7 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v201 (F := Ideal) x0 x3 x4 x5 x6 x10 x11 x12 x13 x14 x15 x16 (ix2 b j) = refLru x0 x3 x4 x5 x6 x10 x11 x12 x13 x14 x15 x16 b j 7 :=
  ref_succ x0 x3 x4 x5 x6 x10 x11 x12 x13 x14 x15 x16 b j 7 6 7 rfl rfl _ _ (st_7 x0 x3 x4 x5 x6 x10 x11 x12 x13 x14 x15 x16 b j) (run_6 x0 x3 x4 x5 x6 x10 x11 x12 x13 x14 x15 x16 b j)

theorem run_8 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v207 (F := Ideal) x0 x3 x4 x5 x6 x10 x11 x12 x13 x14 x15 x16 (ix2 b j) = refLru x0 x3 x4 x5 x6 x10 x11 x12 x13 x14 x15 x16 b j 8 :=
  ref_succ x0 x3 x4 x5 x6 x10 x11 x12 x13 x14 x15 x16 b j 8 7 8 rfl rfl _ _ (st_8 x0 x3 x4 x5 x6 x10 x11 x12 x13 x14 x15 x16 b j) (run_7 x0 x3 x4 x5 x6 x10 x11 x12 x13 x14 x15 x16 b j)

theorem run_9 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v213 (F := Ideal) x0 x3 x4 x5 x6 x10 x11 x12 x13 x14 x15 x16 (ix2 b j) = refLru x0 x3 x4 x5 x6 x10 x11 x12 x13 x14 x15 x16 b j 9 :=
  ref_succ x0 x3 x4 x5 x6 x10 x11 x12 x13 x14 x15 x16 b j 9 8 9 rfl rfl _ _ (st_9 x0 x3 x4 x5 x6 x10 x11 x12 x13 x14 x15 x16 b j) (run_8 x0 x3 x4 x5 x6 x10 x11 x12 x13 x14 x15 x16 b j)

theorem run_10 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v219 (F := Ideal) x0 x3 x4 x5 x6 x10 x11 x12 x13 x14 x15 x16 (ix2 b j) = refLru x0 x3 x4 x5 x6 x10 x11 x12 x13 x14 x15 x16 b j 10 :=
  ref_succ x0 x3 x4 x5 x6 x10 x11 x12 x13 x14 x15 x16 b j 10 9 10 rfl rfl _ _ (st_10 x0 x3 x4 x5 x6 x10 x11 x12 x13 x14 x15 x16 b j) (run_9 x0 x3 x4 x5 x6 x10 x11 x12 x13 x14 x15 x16 b j)

theorem run_11 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v225 (F := Ideal) x0 x3 x4 x5 x6 x10 x11 x12 x13 x14 x15 x16 (ix2 b j) = refLru x0 x3 x4 x5 x6 x10 x11 x12 x13 x14 x15 x16 b j 11 :=
  ref_succ x0 x3 x4 x5 x6 x10 x11 x12 x13 x14 x15 x16 b j 11 10 11 rfl rfl _ _ (st_11 x0 x3 x4 x5 x6 x10 x11 x12 x13 x14 x15 x16 b j) (run_10 x0 x3 x4 x5 x6 x10 x11 x12 x13 x14 x15 x16 b j)

theorem run_12 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v231 (F := Ideal) x0 x3 x4 x5 x6 x10 x11 x12 x13 x14 x15 x16 (ix2 b j) = refLru x0 x3 x4 x5 x6 x10 x11 x12 x13 x14 x15 x16 b j 12 :=
  ref_succ x0 x3 x4 x5 x6 x10 x11 x12 x13 x14 x15 x16 b j 12 11 12 rfl rfl _ _ (st_12 x0 x3 x4 x5 x6 x10 x11 x12 x13 x14 x15 x16 b j) (run_11 x0 x3 x4 x5 x6 x10 x11 x12 x13 x14 x15 x16 b j)

theorem run_13 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v237 (F := Ideal) x0 x3 x4 x5 x6 x10 x11 x12 x13 x14 x15 x16 (ix2 b j) = refLru x0 x3 x4 x5 x6 x10 x11 x12 x13 x14 x15 x16 b j 13 :=
  ref_succ x0 x3 x4 x5 x6 x10 x11 x12 x13 x14 x15 x16 b j 13 12 13 rfl rfl _ _ (st_13 x0 x3 x4 x5 x6 x10 x11 x12 x13 x14 x15 x16 b j) (run_12 x0 x3 x4 x5 x6 x10 x11 x12 x13 x14 x15 x16 b j)

theorem run_14 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v243 (F := Ideal) x0 x3 x4 x5 x6 x10 x11 x12 x13 x14 x15 x16 (ix2 b j) = refLru x0 x3 x4 x5 x6 x10 x11 x12 x13 x14 x15 x16 b j 14 :=
  ref_succ x0 x3 x4 x5 x6 x10 x11 x12 x13 x14 x15 x16 b j 14 13 14 rfl rfl _ _ (st_14 x0 x3 x4 x5 x6 x10 x11 x12 x13 x14 x15 x16 b j) (run_13 x0 x3 x4 x5 x6 x10 x11 x12 x13 x14 x15 x16 b j)

theorem run_15 (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (j : Fin 512) : val_main_v249 (F := Ideal) x0 x3 x4 x5 x6 x10 x11 x12 x13 x14 x15 x16 (ix2 b j) = refLru x0 x3 x4 x5 x6 x10 x11 x12 x13 x14 x15 x16 b j 15 :=
  ref_succ x0 x3 x4 x5 x6 x10 x11 x12 x13 x14 x15 x16 b j 15 14 15 rfl rfl _ _ (st_15 x0 x3 x4 x5 x6 x10 x11 x12 x13 x14 x15 x16 b j) (run_14 x0 x3 x4 x5 x6 x10 x11 x12 x13 x14 x15 x16 b j)

/-- The states of all steps. -/
theorem all_apply (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (b : Fin 32) (t : Fin 16) (j : Fin 512) : val_main_v266 (F := Ideal) x0 x3 x4 x5 x6 x10 x11 x12 x13 x14 x15 x16 (ix3 b t j) = refLru x0 x3 x4 x5 x6 x10 x11 x12 x13 x14 x15 x16 b j t.val := by
  have e0 := run_0 x0 x3 x4 x5 x6 x10 x11 x12 x13 x14 x15 x16 b j
  have e1 := run_1 x0 x3 x4 x5 x6 x10 x11 x12 x13 x14 x15 x16 b j
  have e2 := run_2 x0 x3 x4 x5 x6 x10 x11 x12 x13 x14 x15 x16 b j
  have e3 := run_3 x0 x3 x4 x5 x6 x10 x11 x12 x13 x14 x15 x16 b j
  have e4 := run_4 x0 x3 x4 x5 x6 x10 x11 x12 x13 x14 x15 x16 b j
  have e5 := run_5 x0 x3 x4 x5 x6 x10 x11 x12 x13 x14 x15 x16 b j
  have e6 := run_6 x0 x3 x4 x5 x6 x10 x11 x12 x13 x14 x15 x16 b j
  have e7 := run_7 x0 x3 x4 x5 x6 x10 x11 x12 x13 x14 x15 x16 b j
  have e8 := run_8 x0 x3 x4 x5 x6 x10 x11 x12 x13 x14 x15 x16 b j
  have e9 := run_9 x0 x3 x4 x5 x6 x10 x11 x12 x13 x14 x15 x16 b j
  have e10 := run_10 x0 x3 x4 x5 x6 x10 x11 x12 x13 x14 x15 x16 b j
  have e11 := run_11 x0 x3 x4 x5 x6 x10 x11 x12 x13 x14 x15 x16 b j
  have e12 := run_12 x0 x3 x4 x5 x6 x10 x11 x12 x13 x14 x15 x16 b j
  have e13 := run_13 x0 x3 x4 x5 x6 x10 x11 x12 x13 x14 x15 x16 b j
  have e14 := run_14 x0 x3 x4 x5 x6 x10 x11 x12 x13 x14 x15 x16 b j
  have e15 := run_15 x0 x3 x4 x5 x6 x10 x11 x12 x13 x14 x15 x16 b j
  generalize refLru x0 x3 x4 x5 x6 x10 x11 x12 x13 x14 x15 x16 b j = r at *
  unfold val_main_v266 val_main_v265 val_main_v264 val_main_v263 val_main_v262 val_main_v261 val_main_v260 val_main_v259 val_main_v258 val_main_v257 val_main_v256 val_main_v255 val_main_v254 val_main_v253 val_main_v252 val_main_v251 val_main_v250
  revert e0 e1 e2 e3 e4 e5 e6 e7 e8 e9 e10 e11 e12 e13 e14 e15
  generalize val_main_v159 (F := Ideal) x0 x3 x4 x5 x6 x10 x11 x12 x13 x14 x15 x16 = h0
  generalize val_main_v165 (F := Ideal) x0 x3 x4 x5 x6 x10 x11 x12 x13 x14 x15 x16 = h1
  generalize val_main_v171 (F := Ideal) x0 x3 x4 x5 x6 x10 x11 x12 x13 x14 x15 x16 = h2
  generalize val_main_v177 (F := Ideal) x0 x3 x4 x5 x6 x10 x11 x12 x13 x14 x15 x16 = h3
  generalize val_main_v183 (F := Ideal) x0 x3 x4 x5 x6 x10 x11 x12 x13 x14 x15 x16 = h4
  generalize val_main_v189 (F := Ideal) x0 x3 x4 x5 x6 x10 x11 x12 x13 x14 x15 x16 = h5
  generalize val_main_v195 (F := Ideal) x0 x3 x4 x5 x6 x10 x11 x12 x13 x14 x15 x16 = h6
  generalize val_main_v201 (F := Ideal) x0 x3 x4 x5 x6 x10 x11 x12 x13 x14 x15 x16 = h7
  generalize val_main_v207 (F := Ideal) x0 x3 x4 x5 x6 x10 x11 x12 x13 x14 x15 x16 = h8
  generalize val_main_v213 (F := Ideal) x0 x3 x4 x5 x6 x10 x11 x12 x13 x14 x15 x16 = h9
  generalize val_main_v219 (F := Ideal) x0 x3 x4 x5 x6 x10 x11 x12 x13 x14 x15 x16 = h10
  generalize val_main_v225 (F := Ideal) x0 x3 x4 x5 x6 x10 x11 x12 x13 x14 x15 x16 = h11
  generalize val_main_v231 (F := Ideal) x0 x3 x4 x5 x6 x10 x11 x12 x13 x14 x15 x16 = h12
  generalize val_main_v237 (F := Ideal) x0 x3 x4 x5 x6 x10 x11 x12 x13 x14 x15 x16 = h13
  generalize val_main_v243 (F := Ideal) x0 x3 x4 x5 x6 x10 x11 x12 x13 x14 x15 x16 = h14
  generalize val_main_v249 (F := Ideal) x0 x3 x4 x5 x6 x10 x11 x12 x13 x14 x15 x16 = h15
  intro e0 e1 e2 e3 e4 e5 e6 e7 e8 e9 e10 e11 e12 e13 e14 e15
  pointwise
  fin_cases t
  all_goals simp only [e0, e1, e2, e3, e4, e5, e6, e7, e8, e9, e10, e11, e12, e13, e14, e15]
  all_goals rfl

/-- The recurrent states. -/
theorem h_apply (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) (R : Fin 512) (j : Fin 512) :
    val_main_v271 (F := Ideal) x0 x3 x4 x5 x6 x10 x11 x12 x13 x14 x15 x16 (ix2 R j) = refLru x0 x3 x4 x5 x6 x10 x11 x12 x13 x14 x15 x16 ⟨R.val / 16, by omega⟩ j (R.val % 16) := by
  refine Eq.trans ?_ (all_apply x0 x3 x4 x5 x6 x10 x11 x12 x13 x14 x15 x16 ⟨R.val / 16, by omega⟩ ⟨R.val % 16, by omega⟩ j)
  unfold val_main_v271
  generalize val_main_v266 (F := Ideal) x0 x3 x4 x5 x6 x10 x11 x12 x13 x14 x15 x16 = y
  pointwise

end Cert.Reference3Ideal.Even

end
-- ==== Proof.EvenValueH.lean ====
/-
  The even-sample call's recurrent states after the run, as the reference's values of the arguments.
-/
module

public import proofs.«01_k».proof.Proof.EvenValue
public import proofs.«01_k».proof.Proof.EvenLruVals
public import proofs.«01_k».proof.Proof.EvenWinH
public import proofs.«01_k».proof.Proof.EvenRefRun

@[expose] public section

set_option maxRecDepth 16384

noncomputable section

namespace Cert.Kernel3Ideal.Even

open Idealize.ShloMosaic Idealize.ShloMosaic.TcCoe Idealize.SL.Sem
open Cert.Kernel3Ideal.Gen
open Cert.Even (conv lru gate_sum)
open scoped BigOperators

variable (m : (ℓ : Loc nD τ sig) → Buf (Elt Ideal) ℓ)

theorem conv_congr {old old' : Fin 3 → EReal} {own own' : Fin 16 → EReal} {w w' : Fin 4 → EReal} {b b' : EReal} {t t' : ℕ}
    (h1 : ∀ i, old i = old' i) (h2 : ∀ s, own s = own' s) (h3 : ∀ i, w i = w' i) (h4 : b = b') (h5 : t = t') :
    conv old own w b t = conv old' own' w' b' t' := by
  rw [funext h1, funext h2, funext h3, h4, h5]

theorem lru_congr {g g' gx gx' xc xc' : Fin 16 → EReal} {ba ba' bx bx' l l' v : EReal} {t : ℕ} (h1 : ∀ s, g s = g' s) (h2 : ∀ s, gx s = gx' s)
    (h3 : ∀ s, xc s = xc' s) (h4 : ba = ba') (h5 : bx = bx') (h6 : l = l') : lru g gx xc ba bx l v t = lru g' gx' xc' ba' bx' l' v t := by
  rw [funext h1, funext h2, funext h3, h4, h5, h6]

theorem ix4_congr {p p' : Fin 8} {r r' s s' : Fin 64} (h1 : p = p') (h2 : r = r') (h3 : s = s') :
    (ix4 0 p r s : (⟨4, ![1, 8, 64, 64]⟩ : Shape).Idx) = ix4 0 p' r' s' := by
  rw [h1, h2, h3]

/-- The recurrent input by sequence and step. -/
theorem own_apply (c : Dev nD) (t : Fin cfg0.N) (q : Fin 32) (s : Fin 16) (j : Fin 512) :
    xrOut (iblk m c 0 t) (iblk m c 7 t) (iblk m c 8 t) (ix2 ⟨q.val * 16 + s.val, by omega⟩ j)
      = Cert.Reference3Ideal.Read.val_main_v23 (F := Ideal) (m ((c : Thread nD τ).loc main_arg0)) (m ((c : Thread nD τ).loc main_arg5)) (m ((c : Thread nD τ).loc main_arg6)) (ix3 q s j) := by
  refine (point_23 m c t ⟨q.val * 16 + s.val, by omega⟩ j).trans ?_
  unfold Cert.Reference3Ideal.Read.val_main_v272
  generalize Cert.Reference3Ideal.Read.val_main_v23 (F := Ideal) (m ((c : Thread nD τ).loc main_arg0)) (m ((c : Thread nD τ).loc main_arg5)) (m ((c : Thread nD τ).loc main_arg6)) = y
  pointwise

/-- The taps by sequence and step. -/
theorem taps_eq (c : Dev nD) (t : Fin cfg0.N) (q : Fin 32) (s : Fin 16) (j : Fin 512) :
    xcOut (xrOut (iblk m c 0 t) (iblk m c 7 t) (iblk m c 8 t)) (iblk m c 6 t) (iblk m c 12 t) (iblk m c 13 t) (ix2 ⟨q.val * 16 + s.val, by omega⟩ j)
      = Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s j) := by
  rw [xcOut_apply, Cert.Reference3Ideal.Even.taps_apply]
  refine conv_congr (fun i => ?_) (fun u => ?_) (fun i => blk_12 m c t i j) (blk_13 m c t j) (by dsimp only; omega)
  · refine (blk_6 m c t _ j (by dsimp only; omega)).trans ?_
    exact congrArg₂ (fun (a : Fin 32) (e : Fin 3) => m ((c : Thread nD τ).loc main_arg4) (ix4 0 a e j)) (Fin.ext (by dsimp only; omega)) (Fin.ext (by dsimp only; omega))
  · refine Eq.trans ?_ (own_apply m c t q u j)
    exact congrArg (fun r => xrOut (iblk m c 0 t) (iblk m c 7 t) (iblk m c 8 t) (ix2 r j)) (Fin.ext (by dsimp only; omega))

theorem g_a0 (c : Dev nD) (t : Fin cfg0.N) (q : Fin 32) (s : Fin 16) (e : Fin 256) (p j : Fin 512) (hp : p = ⟨e.val, by omega⟩) (hj : j = ⟨e.val, by omega⟩) :
    gates0 (xcOut (xrOut (iblk m c 0 t) (iblk m c 7 t) (iblk m c 8 t)) (iblk m c 6 t) (iblk m c 12 t) (iblk m c 13 t)) (iblk m c 14 t) (ix2 ⟨q.val * 16 + s.val, by omega⟩ p)
      = Cert.Reference3Ideal.Read.val_main_v112 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (ix3 q s j) := by
  subst hp hj
  rw [gates0_apply, Cert.Reference3Ideal.Even.decay_prod]
  refine (Finset.sum_congr rfl fun k _ => congrArg₂ (· * ·) (taps_eq m c t q s ⟨k.val, by omega⟩) (blk_14a0 m c t k e)).trans
    ((gate_sum (fun k => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s ⟨k.val, by omega⟩))
      (fun k => m ((c : Thread nD τ).loc main_arg12) (ix4 0 ⟨0 + k.val / 64, by omega⟩ ⟨k.val % 64, by omega⟩ ⟨e.val % 64, by omega⟩)) e).trans
      (Finset.sum_congr rfl fun d _ => congrArg₂ (· * ·)
        (congrArg (fun r => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s r)) (Fin.ext (by dsimp only; try omega)))
        (congrArg (m ((c : Thread nD τ).loc main_arg12)) (ix4_congr (Fin.ext (by dsimp only; try omega)) (Fin.ext (by dsimp only; try omega)) (Fin.ext (by dsimp only; try omega))))))

theorem g_x0 (c : Dev nD) (t : Fin cfg0.N) (q : Fin 32) (s : Fin 16) (e : Fin 256) (p j : Fin 512) (hp : p = ⟨256 + e.val, by omega⟩) (hj : j = ⟨e.val, by omega⟩) :
    gates0 (xcOut (xrOut (iblk m c 0 t) (iblk m c 7 t) (iblk m c 8 t)) (iblk m c 6 t) (iblk m c 12 t) (iblk m c 13 t)) (iblk m c 14 t) (ix2 ⟨q.val * 16 + s.val, by omega⟩ p)
      = Cert.Reference3Ideal.Read.val_main_v126 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg14)) (ix3 q s j) := by
  subst hp hj
  rw [gates0_apply, Cert.Reference3Ideal.Even.input_prod]
  refine (Finset.sum_congr rfl fun k _ => congrArg₂ (· * ·) (taps_eq m c t q s ⟨k.val, by omega⟩) (blk_14x0 m c t k e)).trans
    ((gate_sum (fun k => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s ⟨k.val, by omega⟩))
      (fun k => m ((c : Thread nD τ).loc main_arg14) (ix4 0 ⟨0 + k.val / 64, by omega⟩ ⟨k.val % 64, by omega⟩ ⟨e.val % 64, by omega⟩)) e).trans
      (Finset.sum_congr rfl fun d _ => congrArg₂ (· * ·)
        (congrArg (fun r => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s r)) (Fin.ext (by dsimp only; try omega)))
        (congrArg (m ((c : Thread nD τ).loc main_arg14)) (ix4_congr (Fin.ext (by dsimp only; try omega)) (Fin.ext (by dsimp only; try omega)) (Fin.ext (by dsimp only; try omega))))))

theorem g_a1 (c : Dev nD) (t : Fin cfg0.N) (q : Fin 32) (s : Fin 16) (e : Fin 256) (p j : Fin 512) (hp : p = ⟨e.val, by omega⟩) (hj : j = ⟨256 + e.val, by omega⟩) :
    gates1 (xcOut (xrOut (iblk m c 0 t) (iblk m c 7 t) (iblk m c 8 t)) (iblk m c 6 t) (iblk m c 12 t) (iblk m c 13 t)) (iblk m c 14 t) (ix2 ⟨q.val * 16 + s.val, by omega⟩ p)
      = Cert.Reference3Ideal.Read.val_main_v112 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (ix3 q s j) := by
  subst hp hj
  rw [gates1_apply, Cert.Reference3Ideal.Even.decay_prod]
  refine (Finset.sum_congr rfl fun k _ => congrArg₂ (· * ·) (taps_eq m c t q s ⟨256 + k.val, by omega⟩) (blk_14a1 m c t k e)).trans
    ((gate_sum (fun k => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s ⟨256 + k.val, by omega⟩))
      (fun k => m ((c : Thread nD τ).loc main_arg12) (ix4 0 ⟨4 + k.val / 64, by omega⟩ ⟨k.val % 64, by omega⟩ ⟨e.val % 64, by omega⟩)) e).trans
      (Finset.sum_congr rfl fun d _ => congrArg₂ (· * ·)
        (congrArg (fun r => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s r)) (Fin.ext (by dsimp only; omega)))
        (congrArg (m ((c : Thread nD τ).loc main_arg12)) (ix4_congr (Fin.ext (by dsimp only; omega)) (Fin.ext (by dsimp only; omega)) (Fin.ext (by dsimp only; omega))))))

theorem g_x1 (c : Dev nD) (t : Fin cfg0.N) (q : Fin 32) (s : Fin 16) (e : Fin 256) (p j : Fin 512) (hp : p = ⟨256 + e.val, by omega⟩) (hj : j = ⟨256 + e.val, by omega⟩) :
    gates1 (xcOut (xrOut (iblk m c 0 t) (iblk m c 7 t) (iblk m c 8 t)) (iblk m c 6 t) (iblk m c 12 t) (iblk m c 13 t)) (iblk m c 14 t) (ix2 ⟨q.val * 16 + s.val, by omega⟩ p)
      = Cert.Reference3Ideal.Read.val_main_v126 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg14)) (ix3 q s j) := by
  subst hp hj
  rw [gates1_apply, Cert.Reference3Ideal.Even.input_prod]
  refine (Finset.sum_congr rfl fun k _ => congrArg₂ (· * ·) (taps_eq m c t q s ⟨256 + k.val, by omega⟩) (blk_14x1 m c t k e)).trans
    ((gate_sum (fun k => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s ⟨256 + k.val, by omega⟩))
      (fun k => m ((c : Thread nD τ).loc main_arg14) (ix4 0 ⟨4 + k.val / 64, by omega⟩ ⟨k.val % 64, by omega⟩ ⟨e.val % 64, by omega⟩)) e).trans
      (Finset.sum_congr rfl fun d _ => congrArg₂ (· * ·)
        (congrArg (fun r => Cert.Reference3Ideal.Read.val_main_v107 (F := Ideal) (m ((c : Thread nD τ).loc main_arg0)) (m ((c : Thread nD τ).loc main_arg4)) (m ((c : Thread nD τ).loc main_arg5)) (m ((c : Thread nD τ).loc main_arg6)) (m ((c : Thread nD τ).loc main_arg10)) (m ((c : Thread nD τ).loc main_arg11)) (ix3 q s r)) (Fin.ext (by dsimp only; omega)))
        (congrArg (m ((c : Thread nD τ).loc main_arg14)) (ix4_congr (Fin.ext (by dsimp only; omega)) (Fin.ext (by dsimp only; omega)) (Fin.ext (by dsimp only; omega))))))

theorem quarter_0 (c : Dev nD) (t : Fin cfg0.N) (R : Fin 512) (e : Fin 128) :
    hAt m c t (ix2 R ⟨e.val, by omega⟩) = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 R ⟨e.val, by omega⟩) := by
  rw [Cert.Reference3Ideal.Even.h_apply]
  unfold hAt hOut Cert.Reference3Ideal.Even.refLru
  refine (states_0 _ _ _ _ _ _ _ R e (m ((c : Thread nD τ).loc main_arg3) (ix3 0 ⟨R.val / 16, by omega⟩ ⟨e.val, by omega⟩)) (fun s => ?_)).trans
    (lru_congr (fun s => g_a0 m c t ⟨R.val / 16, by omega⟩ s ⟨e.val, by omega⟩ _ _ (Fin.ext (by dsimp only; try omega)) (Fin.ext (by dsimp only; try omega)))
      (fun s => g_x0 m c t ⟨R.val / 16, by omega⟩ s ⟨e.val, by omega⟩ _ _ (Fin.ext (by dsimp only; try omega)) (Fin.ext (by dsimp only; try omega)))
      (fun s => taps_eq m c t ⟨R.val / 16, by omega⟩ s _) (blk_15 m c t _) (blk_16 m c t _) (blk_17 m c t _))
  pointwise [k0_pay342]
  refine (blk_5 m c t _ _).trans ?_
  exact congrArg (fun a => m ((c : Thread nD τ).loc main_arg3) (ix3 0 a _)) (Fin.ext (by dsimp only; omega))

theorem quarter_1 (c : Dev nD) (t : Fin cfg0.N) (R : Fin 512) (e : Fin 128) :
    hAt m c t (ix2 R ⟨128 + e.val, by omega⟩) = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 R ⟨128 + e.val, by omega⟩) := by
  rw [Cert.Reference3Ideal.Even.h_apply]
  unfold hAt hOut Cert.Reference3Ideal.Even.refLru
  refine (states_1 _ _ _ _ _ _ _ R e (m ((c : Thread nD τ).loc main_arg3) (ix3 0 ⟨R.val / 16, by omega⟩ ⟨128 + e.val, by omega⟩)) (fun s => ?_)).trans
    (lru_congr (fun s => g_a0 m c t ⟨R.val / 16, by omega⟩ s ⟨128 + e.val, by omega⟩ _ _ (Fin.ext (by dsimp only; try omega)) (Fin.ext (by dsimp only; try omega)))
      (fun s => g_x0 m c t ⟨R.val / 16, by omega⟩ s ⟨128 + e.val, by omega⟩ _ _ (Fin.ext (by dsimp only; try omega)) (Fin.ext (by dsimp only; try omega)))
      (fun s => taps_eq m c t ⟨R.val / 16, by omega⟩ s _) (blk_15 m c t _) (blk_16 m c t _) (blk_17 m c t _))
  pointwise [k0_pay342]
  refine (blk_5 m c t _ _).trans ?_
  exact congrArg (fun a => m ((c : Thread nD τ).loc main_arg3) (ix3 0 a _)) (Fin.ext (by dsimp only; omega))

theorem quarter_2 (c : Dev nD) (t : Fin cfg0.N) (R : Fin 512) (e : Fin 128) :
    hAt m c t (ix2 R ⟨256 + e.val, by omega⟩) = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 R ⟨256 + e.val, by omega⟩) := by
  rw [Cert.Reference3Ideal.Even.h_apply]
  unfold hAt hOut Cert.Reference3Ideal.Even.refLru
  refine (states_2 _ _ _ _ _ _ _ R e (m ((c : Thread nD τ).loc main_arg3) (ix3 0 ⟨R.val / 16, by omega⟩ ⟨256 + e.val, by omega⟩)) (fun s => ?_)).trans
    (lru_congr (fun s => g_a1 m c t ⟨R.val / 16, by omega⟩ s ⟨e.val, by omega⟩ _ _ (Fin.ext (by dsimp only; try omega)) (Fin.ext (by dsimp only; try omega)))
      (fun s => g_x1 m c t ⟨R.val / 16, by omega⟩ s ⟨e.val, by omega⟩ _ _ (Fin.ext (by dsimp only; try omega)) (Fin.ext (by dsimp only; try omega)))
      (fun s => taps_eq m c t ⟨R.val / 16, by omega⟩ s _) (blk_15 m c t _) (blk_16 m c t _) (blk_17 m c t _))
  pointwise [k0_pay342]
  refine (blk_5 m c t _ _).trans ?_
  exact congrArg (fun a => m ((c : Thread nD τ).loc main_arg3) (ix3 0 a _)) (Fin.ext (by dsimp only; omega))

theorem quarter_3 (c : Dev nD) (t : Fin cfg0.N) (R : Fin 512) (e : Fin 128) :
    hAt m c t (ix2 R ⟨384 + e.val, by omega⟩) = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 R ⟨384 + e.val, by omega⟩) := by
  rw [Cert.Reference3Ideal.Even.h_apply]
  unfold hAt hOut Cert.Reference3Ideal.Even.refLru
  refine (states_3 _ _ _ _ _ _ _ R e (m ((c : Thread nD τ).loc main_arg3) (ix3 0 ⟨R.val / 16, by omega⟩ ⟨384 + e.val, by omega⟩)) (fun s => ?_)).trans
    (lru_congr (fun s => g_a1 m c t ⟨R.val / 16, by omega⟩ s ⟨128 + e.val, by omega⟩ _ _ (Fin.ext (by dsimp only; try omega)) (Fin.ext (by dsimp only; try omega)))
      (fun s => g_x1 m c t ⟨R.val / 16, by omega⟩ s ⟨128 + e.val, by omega⟩ _ _ (Fin.ext (by dsimp only; try omega)) (Fin.ext (by dsimp only; try omega)))
      (fun s => taps_eq m c t ⟨R.val / 16, by omega⟩ s _) (blk_15 m c t _) (blk_16 m c t _) (blk_17 m c t _))
  pointwise [k0_pay342]
  refine (blk_5 m c t _ _).trans ?_
  exact congrArg (fun a => m ((c : Thread nD τ).loc main_arg3) (ix3 0 a _)) (Fin.ext (by dsimp only; omega))

/-- A block of the recurrent states. -/
theorem point_22 (c : Dev nD) (t : Fin cfg0.N) (R : Fin 512) (j : Fin 512) :
    hAt m c t (ix2 R j) = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 R j) := by
  have hj := j.isLt
  rcases (by omega : j.val < 128 ∨ (128 ≤ j.val ∧ j.val < 256) ∨ (256 ≤ j.val ∧ j.val < 384) ∨ 384 ≤ j.val) with h | h | h | h
  · exact quarter_0 m c t R ⟨j.val, h⟩
  · have e : j = (⟨128 + (j.val - 128), by omega⟩ : Fin 512) := Fin.ext (by dsimp only; omega)
    rw [e]
    exact quarter_1 m c t R ⟨j.val - 128, by omega⟩
  · have e : j = (⟨256 + (j.val - 256), by omega⟩ : Fin 512) := Fin.ext (by dsimp only; omega)
    rw [e]
    exact quarter_2 m c t R ⟨j.val - 256, by omega⟩
  · have e : j = (⟨384 + (j.val - 384), by omega⟩ : Fin 512) := Fin.ext (by dsimp only; omega)
    rw [e]
    exact quarter_3 m c t R ⟨j.val - 384, by omega⟩

/-- The recurrent states after the run. -/
theorem final_22 (c : Dev nD) : (dats m 0 c).arrAt 22 (cfgs 0).N
    = Cert.Reference3Ideal.Read.val_main_v271 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 22 _ (by decide +kernel) fun t hf y => ?_
  blk_simp
  rw [after_22]
  have hy : y = (ix2 (y 0) (y 1) : S512x512.Idx) := eq_ix2 (n0 := 512) (n1 := 512) y
  refine (congrArg (hAt m c t) hy).trans ((point_22 m c t (y 0) (y 1)).trans ?_)
  refine congrArg _ ?_
  blk_ext [idxH t]

end Cert.Kernel3Ideal.Even

end
-- ==== Proof.EvenRes.lean ====
/-
  The reference's four results, each under one name that is not unfolded.
-/
module

public import proofs.«01_k».proof.Proof.Gen.Reference3Ideal.Read

@[expose] public section

noncomputable section

namespace Cert.Proof

open Idealize.ShloMosaic Idealize.ShloMosaic.TcCoe Idealize.SL.Sem
open Cert.Reference3Ideal Cert.Reference3Ideal.Gen Cert.Reference3Ideal.Read

/-- The key cache. -/
@[irreducible] def resK (x0 : FVec Ideal S32x16x1024 .f32) (x1 : FVec Ideal S1x32x128x2x64 .f32) (x5 : FVec Ideal S1x1024 .f32) (x6 : FVec Ideal S1x1024x1792 .f32) (x8 : FVec Ideal S1x64 .f32) : FVec Ideal S32x128x128 .f32 :=
  val_main_v268 (F := Ideal) x0 x1 x5 x6 x8

theorem resK_eq (x0 : FVec Ideal S32x16x1024 .f32) (x1 : FVec Ideal S1x32x128x2x64 .f32) (x5 : FVec Ideal S1x1024 .f32) (x6 : FVec Ideal S1x1024x1792 .f32) (x8 : FVec Ideal S1x64 .f32) :
    val_main_v268 (F := Ideal) x0 x1 x5 x6 x8 = resK x0 x1 x5 x6 x8 := by
  unfold resK
  rfl

/-- The value cache. -/
@[irreducible] def resV (x0 : FVec Ideal S32x16x1024 .f32) (x2 : FVec Ideal S1x32x128x2x64 .f32) (x5 : FVec Ideal S1x1024 .f32) (x6 : FVec Ideal S1x1024x1792 .f32) : FVec Ideal S32x128x128 .f32 :=
  val_main_v270 (F := Ideal) x0 x2 x5 x6

theorem resV_eq (x0 : FVec Ideal S32x16x1024 .f32) (x2 : FVec Ideal S1x32x128x2x64 .f32) (x5 : FVec Ideal S1x1024 .f32) (x6 : FVec Ideal S1x1024x1792 .f32) :
    val_main_v270 (F := Ideal) x0 x2 x5 x6 = resV x0 x2 x5 x6 := by
  unfold resV
  rfl

/-- The recurrent states. -/
@[irreducible] def resH (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) : FVec Ideal S512x512 .f32 :=
  val_main_v271 (F := Ideal) x0 x3 x4 x5 x6 x10 x11 x12 x13 x14 x15 x16

theorem resH_eq (x0 : FVec Ideal S32x16x1024 .f32) (x3 : FVec Ideal S1x32x512 .f32) (x4 : FVec Ideal S1x32x3x512 .f32) (x5 : FVec Ideal S1x1024 .f32) (x6 : FVec Ideal S1x1024x1792 .f32) (x10 : FVec Ideal S1x4x512 .f32) (x11 : FVec Ideal S1x512 .f32) (x12 : FVec Ideal S1x8x64x64 .f32) (x13 : FVec Ideal S1x512 .f32) (x14 : FVec Ideal S1x8x64x64 .f32) (x15 : FVec Ideal S1x512 .f32) (x16 : FVec Ideal S1x512 .f32) :
    val_main_v271 (F := Ideal) x0 x3 x4 x5 x6 x10 x11 x12 x13 x14 x15 x16 = resH x0 x3 x4 x5 x6 x10 x11 x12 x13 x14 x15 x16 := by
  unfold resH
  rfl

/-- The recurrent input. -/
@[irreducible] def resX (x0 : FVec Ideal S32x16x1024 .f32) (x5 : FVec Ideal S1x1024 .f32) (x6 : FVec Ideal S1x1024x1792 .f32) : FVec Ideal S512x512 .f32 :=
  val_main_v272 (F := Ideal) x0 x5 x6

theorem resX_eq (x0 : FVec Ideal S32x16x1024 .f32) (x5 : FVec Ideal S1x1024 .f32) (x6 : FVec Ideal S1x1024x1792 .f32) :
    val_main_v272 (F := Ideal) x0 x5 x6 = resX x0 x5 x6 := by
  unfold resX
  rfl

end Cert.Proof

end
-- ==== Proof.EvenKernelRun.lean ====
/-
  The even-sample call's run, its results named as the reference's values.
-/
module

public import proofs.«01_k».proof.Proof.EvenValueH
public import proofs.«01_k».proof.Proof.EvenRes

@[expose] public section

noncomputable section

namespace Cert.Proof

open Idealize.ShloMosaic Idealize.ShloMosaic.TcCoe Idealize.SL.Sem

section
open Cert.Kernel3Ideal Cert.Kernel3Ideal.Gen

set_option maxHeartbeats 2000000 in
/-- The call's run, the four results at the reference's stages. -/
theorem even_kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v112_1) = resK (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg8))
      ∧ r.2.mem ((c.tc : Thread nD τ).loc main_v112_2) = resV (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_v112_3) = resH (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v112_4) = resX (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r hq c =>
    ⟨(((Even.dats m 0 c).toRForget_arrAt_iff (fgt := Even.forgets) (w := 20) rfl _ _).mp ((hq.1 c).1 20)).trans ((Even.final_20 m c).trans (resK_eq _ _ _ _ _)),
     (((Even.dats m 0 c).toRForget_arrAt_iff (fgt := Even.forgets) (w := 21) rfl _ _).mp ((hq.1 c).1 21)).trans ((Even.final_21 m c).trans (resV_eq _ _ _ _)),
     (((Even.dats m 0 c).toRForget_arrAt_iff (fgt := Even.forgets) (w := 22) rfl _ _).mp ((hq.1 c).1 22)).trans ((Even.final_22 m c).trans (resH_eq _ _ _ _ _ _ _ _ _ _ _ _)),
     (((Even.dats m 0 c).toRForget_arrAt_iff (fgt := Even.forgets) (w := 23) rfl _ _).mp ((hq.1 c).1 23)).trans ((Even.final_23 m c).trans (resX_eq _ _ _)),
     ((hq.1 c).2 main_arg0 (Pipeline.mem_restRefs_of main_arg0 (by decide) (by decide))).trans (V_main_arg0 m c),
     ((hq.1 c).2 main_arg1 (Pipeline.mem_restRefs_of main_arg1 (by decide) (by decide))).trans (V_main_arg1 m c),
     ((hq.1 c).2 main_arg2 (Pipeline.mem_restRefs_of main_arg2 (by decide) (by decide))).trans (V_main_arg2 m c),
     ((hq.1 c).2 main_arg3 (Pipeline.mem_restRefs_of main_arg3 (by decide) (by decide))).trans (V_main_arg3 m c),
     ((hq.1 c).2 main_arg4 (Pipeline.mem_restRefs_of main_arg4 (by decide) (by decide))).trans (V_main_arg4 m c),
     ((hq.1 c).2 main_arg5 (Pipeline.mem_restRefs_of main_arg5 (by decide) (by decide))).trans (V_main_arg5 m c),
     ((hq.1 c).2 main_arg6 (Pipeline.mem_restRefs_of main_arg6 (by decide) (by decide))).trans (V_main_arg6 m c),
     ((hq.1 c).2 main_arg7 (Pipeline.mem_restRefs_of main_arg7 (by decide) (by decide))).trans (V_main_arg7 m c),
     ((hq.1 c).2 main_arg8 (Pipeline.mem_restRefs_of main_arg8 (by decide) (by decide))).trans (V_main_arg8 m c),
     ((hq.1 c).2 main_arg9 (Pipeline.mem_restRefs_of main_arg9 (by decide) (by decide))).trans (V_main_arg9 m c),
     ((hq.1 c).2 main_arg10 (Pipeline.mem_restRefs_of main_arg10 (by decide) (by decide))).trans (V_main_arg10 m c),
     ((hq.1 c).2 main_arg11 (Pipeline.mem_restRefs_of main_arg11 (by decide) (by decide))).trans (V_main_arg11 m c),
     ((hq.1 c).2 main_arg12 (Pipeline.mem_restRefs_of main_arg12 (by decide) (by decide))).trans (V_main_arg12 m c),
     ((hq.1 c).2 main_arg13 (Pipeline.mem_restRefs_of main_arg13 (by decide) (by decide))).trans (V_main_arg13 m c),
     ((hq.1 c).2 main_arg14 (Pipeline.mem_restRefs_of main_arg14 (by decide) (by decide))).trans (V_main_arg14 m c),
     ((hq.1 c).2 main_arg15 (Pipeline.mem_restRefs_of main_arg15 (by decide) (by decide))).trans (V_main_arg15 m c),
     ((hq.1 c).2 main_arg16 (Pipeline.mem_restRefs_of main_arg16 (by decide) (by decide))).trans (V_main_arg16 m c),
     ((hq.1 c).2 main_arg17 (Pipeline.mem_restRefs_of main_arg17 (by decide) (by decide))).trans (V_main_arg17 m c)⟩) (Even.run_quiescent m g)

end

end Cert.Proof

end
-- ==== Proof.EvenRefOut.lean ====
/-
  The reference's run, its results named stage by stage.
-/
module

public import proofs.«01_k».proof.Proof.Gen.Reference3Ideal.Run
public import proofs.«01_k».proof.Proof.Gen.Reference3Ideal.Read
public import proofs.«01_k».proof.Proof.EvenRes

@[expose] public section

noncomputable section

namespace Cert.Proof

open Idealize.ShloMosaic Idealize.ShloMosaic.TcCoe Idealize.SL.Sem

section
open Cert.Reference3Ideal

set_option maxHeartbeats 2000000 in
/-- The reference's run, its results named stage by stage. -/
theorem even_reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v268) = resK (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg8))
      ∧ r.2.mem ((c.tc : Thread nD τ).loc main_v270) = resV (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_v271) = resH (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v272) = resX (m ((c.tc : Thread nD τ).loc main_arg0)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    ⟨(h c).1.trans ((Read.val_main_v268_eq (StableHlo.launchContents m c)).trans (resK_eq _ _ _ _ _)), (h c).2.1.trans ((Read.val_main_v270_eq (StableHlo.launchContents m c)).trans (resV_eq _ _ _ _)),
     (h c).2.2.1.trans ((Read.val_main_v271_eq (StableHlo.launchContents m c)).trans (resH_eq _ _ _ _ _ _ _ _ _ _ _ _)), (h c).2.2.2.1.trans ((Read.val_main_v272_eq (StableHlo.launchContents m c)).trans (resX_eq _ _ _)), (h c).2.2.2.2⟩) (Value.run m g)

end

end Cert.Proof

end
-- ==== Proof.EvenClaim.lean ====
/-
  The claims of the even-sample call: both frames from the one run, the reference's frame, and that the two programs' key
  cache, value cache, recurrent states and recurrent input are equal.
-/
module

public import proofs.«01_k».proof.Defs
public import proofs.«01_k».proof.Proof.EvenKernelRun
public import proofs.«01_k».proof.Proof.EvenRefOut
public import proofs.«01_k».proof.Proof.Gen.Kernel3
public import proofs.«01_k».proof.Proof.Gen.Reference3Ideal.Run
public import proofs.«01_k».proof.Proof.Gen.Reference3Ideal.Read

@[expose] public section

noncomputable section

namespace Cert.Proof

open Idealize.ShloMosaic Idealize.ShloMosaic.TcCoe Idealize.SL.Sem

/-- The two texts are one text, so the run at any reading of the floats is the run of both. -/
theorem even_frame_bits : quiescent_Kernel3 := fun m g _ => by
  refine Eq.mpr ?_ (Cert.Kernel3Ideal.Even.frame (F := Bits) m g)
  sl_kernel_rfl

theorem even_frame : quiescent_Kernel3Ideal := fun m g _ => Cert.Kernel3Ideal.Even.frame (F := Ideal) m g

/-- The reference leaves its arguments as they were. -/
theorem even_frame_ref : quiescent_Reference3Ideal := fun m g _ =>
  (θ_run Cert.Reference3Ideal.defs _ _).mono
    (fun r h => ⟨fun c => (h c).2.2.2.2, sem_eq_zero_of_no_sems (by decide) r.2⟩) (Cert.Reference3Ideal.Value.run m g)

set_option maxHeartbeats 2000000 in
/-- Over the reals the even-sample call computes the reference's key cache, value cache, recurrent states and recurrent input. -/
theorem even_algebraic : algebraic_Kernel3Ideal_Reference3Ideal := by
  pair_intro
  · run_from even_kernel_run m g
  · run_from even_reference_run m' g'

end Cert.Proof

end
-- ==== Proof.FfnBody.lean ====
/-
  The body of the channel-mixing call, run once over the blocks it is handed: what it leaves in the output's block, and
  that it leaves the others as they were.
-/
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Tactic

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- Zero offsets, as the accesses spell them. -/
theorem zero2 : (![0, 0] : Fin 2 → ℕ) = fun _ => 0 := by decide
theorem zero3 : (![0, 0, 0] : Fin 3 → ℕ) = fun _ => 0 := by decide

/-- The second output is the first one, recast to its own shape. -/
theorem pay2_eq (x : Vec F S512x1024 .f32) : k0_pay2 x = x := by
  unfold k0_pay2; exact shapeCast_self _ _

/-- What the body stores at a point, from the blocks it reads: `x0` the prompt rows, `x1` the sample rows, `x2` the
    norm's gain, `x3` and `x4` the two weights, read in four chunks each. -/
def out (i : grid0.Coords) (x0 : Vec F S512x1024 .f32) (x1 : Vec F S512x1024 .f32) (x2 : Vec F S1x1x1024 .f32) (x3 : Vec F S1x1024x4096 .f32) (x4 : Vec F S1x4096x1024 .f32) : FVec F S512x1024 .f32 :=
  k0_pay1 (k0_pay3 i x1 x0) (k0_pay5 i x1 x0)
    (k0_pay8 (k0_pay4 i x1 x0 x2)
      (k0_pay6 i x1 x0 x2
        (View.ld x3 (Rect.unit ![0, 0, 0] S1x1024x1024.size inb_S1x1024x4096_S1x1024x1024_0_0_0))
        (View.ld x4 (Rect.unit ![0, 0, 0] S1x1024x1024.size inb_S1x4096x1024_S1x1024x1024_0_0_0)))
      (k0_pay7 (View.ld x3 (Rect.unit ![0, 0, 1024] S1x1024x1024.size inb_S1x1024x4096_S1x1024x1024_0_0_1024)))
      (View.ld x4 (Rect.unit ![0, 1024, 0] S1x1024x1024.size inb_S1x4096x1024_S1x1024x1024_0_1024_0))
      (View.ld x3 (Rect.unit ![0, 0, 2048] S1x1024x1024.size inb_S1x1024x4096_S1x1024x1024_0_0_2048))
      (View.ld x4 (Rect.unit ![0, 2048, 0] S1x1024x1024.size inb_S1x4096x1024_S1x1024x1024_0_2048_0))
      (View.ld x3 (Rect.unit ![0, 0, 3072] S1x1024x1024.size inb_S1x1024x4096_S1x1024x1024_0_0_3072))
      (View.ld x4 (Rect.unit ![0, 3072, 0] S1x1024x1024.size inb_S1x4096x1024_S1x1024x1024_0_3072_0)))

set_option maxHeartbeats 1000000 in
/-- The body at the point of the sample rows: both outputs end at `out`. -/
theorem run_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024x4096 .f32) (harg4 : arg4.IsWhole) (arg5 : Memref sig .tc .vmem S1x4096x1024 .f32) (harg5 : arg5.IsWhole) (arg6 : Memref sig .tc .vmem S512x1024 .f32) (harg6 : arg6.IsWhole) (arg7 : Memref sig .tc .vmem S512x1024 .f32) (harg7 : arg7.IsWhole) (hc0 : k0_cond1 i = 1#1)
    (x0 : Vec F S512x1024 .f32) (x1 : Vec F S512x1024 .f32) (x2 : Vec F S1x1x1024 .f32) (x3 : Vec F S1x1024x4096 .f32) (x4 : Vec F S1x4096x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out i x0 x1 x2 x3 x4) ∗ owns (c : Thread nD τ) arg7 fullShare (out i x0 x1 x2 x3 x4)) -∗ K ⟨⟩))
        ⊢ wp frame (wpE (defs₀ (F := F)) Variants.none c none) E (cc0_channel_mlp i arg1 harg1 arg2 harg2 arg3 harg3 arg4 harg4 arg5 harg5 arg6 harg6 arg7 harg7) K := by
  intro E K
  simp only [cc0_channel_mlp_eq_skeleton]; unfold cc0_channel_mlp_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (fun y => ⟨_, List.mem_singleton_self _, View.mem_set_unit_zero zero2 inb_S512x1024_S512x1024_0_0 y⟩)).trans ?_
    refine (View.canon_unit_zero zero2 _ _).trans ?_
    sl_unfold_run_names
    simp only [View.readAt_eq_ld, harg1.read_unread, harg2.read_unread, harg3.read_unread, harg4.read_unread, harg5.read_unread, View.ld_unit_zero (S := S512x1024) zero2, View.ld_unit_zero (S := S1x1x1024) zero3]
    rfl
  iexists _; isplitr; swap; · iexact H6
  ipureintro
  refine (View.read_writes_eq_canon _ _ _ (fun y => ⟨_, List.mem_singleton_self _, View.mem_set_unit_zero zero2 inb_S512x1024_S512x1024_0_0 y⟩)).trans ?_
  refine (View.canon_unit_zero zero2 _ _).trans ?_
  sl_unfold_run_names
  refine (congrArg k0_pay2 (View.readCov_unit_zero arg6.view zero2 inb_S512x1024_S512x1024_0_0 _)).trans ?_
  refine (pay2_eq _).trans ?_
  simp only [View.readAt_eq_ld, harg1.read_unread, harg2.read_unread, harg3.read_unread, harg4.read_unread, harg5.read_unread, View.ld_unit_zero (S := S512x1024) zero2, View.ld_unit_zero (S := S1x1x1024) zero3]
  rfl

set_option maxHeartbeats 1000000 in
/-- The body at a point of prompt rows: the first output ends at `out`, the second is left as it was. -/
theorem run_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024x4096 .f32) (harg4 : arg4.IsWhole) (arg5 : Memref sig .tc .vmem S1x4096x1024 .f32) (harg5 : arg5.IsWhole) (arg6 : Memref sig .tc .vmem S512x1024 .f32) (harg6 : arg6.IsWhole) (arg7 : Memref sig .tc .vmem S512x1024 .f32) (harg7 : arg7.IsWhole) (hc0 : ¬k0_cond1 i = 1#1)
    (x0 : Vec F S512x1024 .f32) (x1 : Vec F S512x1024 .f32) (x2 : Vec F S1x1x1024 .f32) (x3 : Vec F S1x1024x4096 .f32) (x4 : Vec F S1x4096x1024 .f32) (x6 : Vec F S512x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out i x0 x1 x2 x3 x4) ∗ owns (c : Thread nD τ) arg7 fullShare x6) -∗ K ⟨⟩))
        ⊢ wp frame (wpE (defs₀ (F := F)) Variants.none c none) E (cc0_channel_mlp i arg1 harg1 arg2 harg2 arg3 harg3 arg4 harg4 arg5 harg5 arg6 harg6 arg7 harg7) K := by
  intro E K
  simp only [cc0_channel_mlp_eq_skeleton]; unfold cc0_channel_mlp_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (fun y => ⟨_, List.mem_singleton_self _, View.mem_set_unit_zero zero2 inb_S512x1024_S512x1024_0_0 y⟩)).trans ?_
    refine (View.canon_unit_zero zero2 _ _).trans ?_
    sl_unfold_run_names
    simp only [View.readAt_eq_ld, harg1.read_unread, harg2.read_unread, harg3.read_unread, harg4.read_unread, harg5.read_unread, View.ld_unit_zero (S := S512x1024) zero2, View.ld_unit_zero (S := S1x1x1024) zero3]
    rfl
  iexists _; isplitr; · ipureintro; exact hf6
  iexact H6

end Cert.Kernel2Ideal.Ffn

end
-- ==== Proof.FfnRun.lean ====
/-
  The launch of the channel-mixing call: what the body leaves in each window at each point, the body's obligation, the
  run and the frame. The sample rows' output is stored at the first point only and written back after the last one; its
  buffer keeps what the first point stored, so that window's contents are the same at every point.
-/
module

public import proofs.«01_k».proof.Proof.FfnBody
public import proofs.«01_k».proof.Proof.Gen.Kernel2Ideal.Launch
public import Idealize.ShloMosaic.Lib.Claim
public import Idealize.ShloMosaic.Lib.WordCmp
public import Idealize.ShloMosaic.Lib.Pipeline.TableIdle

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem cond_iff : ∀ t : Fin cfg0.N, k0_cond1 (grid0.coords t) = 1#1 ↔ t.val = 0 :=
  (fun t => by
    have ht : t.val < 33 := Nat.lt_of_lt_of_eq t.isLt N_0
    have e0 : (grid0.coords t 0).val = t.val / 1 % 33 := Pipeline.Grid.coords_val t 0 (by decide) rfl
    simp only [k0_cond1, e0]
    word_cmp
   : ∀ t : Fin grid0.N, k0_cond1 (grid0.coords t) = 1#1 ↔ t.val = 0)

/-- So the sample rows' output is idle at every other point. -/
theorem idle_iff (t : Fin cfg0.N) : cfg0.idle 6 (grid0.coords t) = true ↔ t.val ≠ 0 := by
  show (!(k0_cond1 (grid0.coords t) == 1#1)) = true ↔ _
  rw [Bool.not_eq_true', beq_eq_false_iff_ne, ne_eq, cond_iff]

/-- The first point. -/
abbrev t0 : Fin cfg0.N := (⟨0, by rw [N_0]; decide⟩ : Fin grid0.N)

/-- What the body stores at point `t`. -/
def outAt (c : Dev nD) (t : Fin cfg0.N) : Vec F S512x1024 .f32 :=
  out (grid0.coords t) (iblk m c 0 t) (iblk m c 1 t) (iblk m c 2 t) (iblk m c 3 t) (iblk m c 4 t)

/-- The pipeline's proof data: each input at its block, the first output at what the point stores, the second at what
    the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => outAt m c t0
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = outAt m c t0 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first point the sample rows' buffer holds what that point stored, until it is written back. -/
theorem fresh_6 : ∀ n : ℕ, n < 32 → cfg0.fresh 6 (n + 1) = false
  | 0, _ => by
    have h : 0 < cfg0.N := lt_of_lt_of_eq (by decide : 0 < 33) (show (33 : ℕ) = cfg0.N from N_0.symm)
    rw [Pipeline.Cfg.fresh_succ cfg0 6 0 h]
    have hf : (cfg0.win 6).flush ⟨0, h⟩ = false := by
      rw [Bool.eq_false_iff]; intro h'; exact absurd ((flush0_6 _).mp h') (by show ¬ (0 % 33 = 32); decide)
    have hi : cfg0.idle 6 (cfg0.grid.coords ⟨0, h⟩) = false := by
      rw [Bool.eq_false_iff]; intro h'; exact (idle_iff ⟨0, h⟩).mp h' rfl
    rw [hf, hi]; rfl
  | n + 1, hn => by
    have h : n + 1 < cfg0.N := lt_of_lt_of_eq (by omega : n + 1 < 33) (show (33 : ℕ) = cfg0.N from N_0.symm)
    rw [Pipeline.Cfg.fresh_succ cfg0 6 (n + 1) h, fresh_6 n (by omega)]
    have hf : (cfg0.win 6).flush ⟨n + 1, h⟩ = false := by
      rw [Bool.eq_false_iff]; intro h'
      have := (flush0_6 _).mp h'
      simp only at this; omega
    rw [hf, Bool.and_false]; rfl

theorem before_6 (c : Dev nD) (t : Fin cfg0.N) (ht : t.val ≠ 0) (d) : (dats m 0 c).before 6 t d = outAt m c t0 := by
  have hN : t.val < 33 := lt_of_lt_of_eq t.isLt (show cfg0.N = 33 from N_0)
  rw [(dats m 0 c).before_out_traj 6 rfl (fun _ _ => rfl) (fun _ _ _ _ => rfl) t.val t rfl d]
  have hf : cfg0.fresh 6 t.val = false := by
    obtain ⟨k, hk⟩ := Nat.exists_eq_succ_of_ne_zero ht
    rw [hk]; exact fresh_6 k (by omega)
  rw [hf, if_neg Bool.false_ne_true, after_6]

/-! ## The body's obligation -/

/-- Each window's current staging buffer at point `t`. -/
abbrev ms_0 (t : Fin cfg0.N) : Memref sig .tc .vmem S512x1024 .f32 := win0_0.stage (cfg0.slots t 0)
abbrev ms_1 (t : Fin cfg0.N) : Memref sig .tc .vmem S512x1024 .f32 := win0_1.stage (cfg0.slots t 1)
abbrev ms_2 (t : Fin cfg0.N) : Memref sig .tc .vmem S1x1x1024 .f32 := win0_2.stage (cfg0.slots t 2)
abbrev ms_3 (t : Fin cfg0.N) : Memref sig .tc .vmem S1x1024x4096 .f32 := win0_3.stage (cfg0.slots t 3)
abbrev ms_4 (t : Fin cfg0.N) : Memref sig .tc .vmem S1x4096x1024 .f32 := win0_4.stage (cfg0.slots t 4)
abbrev ms_5 (t : Fin cfg0.N) : Memref sig .tc .vmem S512x1024 .f32 := win0_5.stage (cfg0.slots t 5)
abbrev ms_6 (t : Fin cfg0.N) : Memref sig .tc .vmem S512x1024 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The sample rows' buffer at the first point's contents is what any later point hands back. -/
theorem leaves_6 (c : Dev nD) (t : Fin cfg0.N) :
    owns (c : Thread nD τ) (ms_6 t) fullShare (outAt m c t0) ⊢ (dats m 0 c).leavesExact 6 t := by
  unfold Dat.leavesExact
  rw [after_6]
  cases hi : cfg0.idle 6 (cfg0.grid.coords t) with
  | false => exact .rfl
  | true =>
    cases hf : (cfg0.win 6).flush t with
    | true => exact .rfl
    | false =>
      have ht := (idle_iff t).mp hi
      simp only [before_6 m c t ht]
      iintro H
      iexists (fun _ => Classical.arbitrary _)
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms_0 t) fullShare (iblk m c 0 t) from rfl,
    show (dats m 0 c).leavesExact 1 t = owns (c : Thread nD τ) (ms_1 t) fullShare (iblk m c 1 t) from rfl,
    show (dats m 0 c).leavesExact 2 t = owns (c : Thread nD τ) (ms_2 t) fullShare (iblk m c 2 t) from rfl,
    show (dats m 0 c).leavesExact 3 t = owns (c : Thread nD τ) (ms_3 t) fullShare (iblk m c 3 t) from rfl,
    show (dats m 0 c).leavesExact 4 t = owns (c : Thread nD τ) (ms_4 t) fullShare (iblk m c 4 t) from rfl,
    show (dats m 0 c).leavesExact 5 t = owns (c : Thread nD τ) (ms_5 t) fullShare (outAt m c t) from rfl]
  by_cases h0 : t.val = 0
  · obtain rfl : t = t0 := Fin.ext h0
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_A c (grid0.coords t0) _ _ _ _ _ _ _ _ _ _ _ _ _ _ ((cond_iff t0).mpr rfl) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t0); iexact H6
  · simp only [before_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_B c (grid0.coords t) _ _ _ _ _ _ _ _ _ _ _ _ _ _ (fun h => h0 ((cond_iff t).mp h)) (iblk m c 0 t) (iblk m c 1 t) (iblk m c 2 t) (iblk m c 3 t) (iblk m c 4 t) (outAt m c t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t); iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel2Ideal.Ffn

end
-- ==== Proof.FfnRows.lean ====
/-
  A row of the channel-mixing layer, as the kernel computes it and as the reference does, and that the two agree.
-/
module

public import proofs.«01_k».proof.Proof.Rows

@[expose] public section

set_option maxRecDepth 16384

noncomputable section

namespace Cert.Ffn

open Idealize.ShloMosaic
open scoped BigOperators

/-- One quarter of the kernel's second product: the hidden lanes `o …` of the row `x` weighted by `g`, without the norm's
    factor. -/
def hid (x g : Fin 1024 → EReal) (w1 : Fin 1024 → Fin 4096 → EReal) (f : Fin 4096) : EReal :=
  max (∑ k, x k * g k * w1 k f) 0

/-- A row of the layer as the kernel computes it: the norm's factor, squared, after the second product. -/
def krow (x g : Fin 1024 → EReal) (w1 : Fin 1024 → Fin 4096 → EReal) (w2 : Fin 4096 → Fin 1024 → EReal) (j : Fin 1024) : EReal :=
  x j + (∑ k : Fin 1024, (hid x g w1 ⟨k.val, by omega⟩ * hid x g w1 ⟨k.val, by omega⟩) * w2 ⟨k.val, by omega⟩ j
      + ∑ k : Fin 1024, (hid x g w1 ⟨1024 + k.val, by omega⟩ * hid x g w1 ⟨1024 + k.val, by omega⟩) * w2 ⟨1024 + k.val, by omega⟩ j
      + ∑ k : Fin 1024, (hid x g w1 ⟨2048 + k.val, by omega⟩ * hid x g w1 ⟨2048 + k.val, by omega⟩) * w2 ⟨2048 + k.val, by omega⟩ j
      + ∑ k : Fin 1024, (hid x g w1 ⟨3072 + k.val, by omega⟩ * hid x g w1 ⟨3072 + k.val, by omega⟩) * w2 ⟨3072 + k.val, by omega⟩ j)
    * Ideal.div (Ideal.ofBits .f32 0x3F800000#32) (Ideal.div (∑ k, x k * x k) (Ideal.ofBits .f32 0x44800000#32) + Ideal.ofBits .f32 0x358637BD#32)

/-- A row of the layer as the reference computes it: the row is scaled first. -/
def rrow (x g : Fin 1024 → EReal) (w1 : Fin 1024 → Fin 4096 → EReal) (w2 : Fin 4096 → Fin 1024 → EReal) (j : Fin 1024) : EReal :=
  x j + ∑ f : Fin 4096,
    (max (∑ k, x k * Ideal.rsqrt (Ideal.div (∑ k, x k * x k) (Ideal.ofBits .f32 0x44800000#32) + Ideal.ofBits .f32 0x358637BD#32) * g k * w1 k f) 0
      * max (∑ k, x k * Ideal.rsqrt (Ideal.div (∑ k, x k * x k) (Ideal.ofBits .f32 0x44800000#32) + Ideal.ofBits .f32 0x358637BD#32) * g k * w1 k f) 0)
      * w2 f j

theorem krow_eq_rrow (x g w1 w2 j) : krow x g w1 w2 j = rrow x g w1 w2 j := by
  unfold krow rrow
  obtain ⟨e, he, he'⟩ := Rows.ceps
  rw [Rows.c1024, Rows.c1, he']
  obtain ⟨r, hr, h1, h2⟩ := Rows.rsqrt_real _ (Rows.mean_nonneg x) e he
  unfold Rows.mean at h1 h2
  rw [h1, h2, ← Rows.sum_quarters (fun f => (hid x g w1 f * hid x g w1 f) * w2 f j)]
  congr 1
  rw [mul_comm, Rows.mul_sum _ (mul_nonneg hr hr)]
  refine Finset.sum_congr rfl fun f _ => ?_
  have hh : max (∑ k, x k * (r : EReal) * g k * w1 k f) 0 = (r : EReal) * hid x g w1 f := by
    unfold hid
    rw [← Rows.mul_max r hr, Rows.mul_sum r hr]
    congr 1
    refine Finset.sum_congr rfl fun k _ => ?_
    rw [mul_comm (x k) (r : EReal), mul_assoc, mul_assoc, mul_assoc]
  rw [hh, EReal.coe_mul]
  ac_rfl

end Cert.Ffn

end
-- ==== Proof.FfnRef.lean ====
/-
  The reference's channel-mixing layer, read at an element of each of its two results.
-/
module

public import proofs.«01_k».proof.Proof.FfnRows
public import proofs.«01_k».proof.Proof.Gen.Reference2Ideal.Read

@[expose] public section

set_option maxRecDepth 16384

noncomputable section

namespace Cert.Reference2Ideal.Ffn

open Idealize.ShloMosaic Idealize.ShloMosaic.TcCoe Idealize.SL.Sem
open Cert.Reference2Ideal.Gen Cert.Reference2Ideal.Read
open Cert.Ffn (rrow)
open scoped BigOperators

/-- The prompt rows' result. -/
theorem prompt_apply (x0 : FVec Ideal S2x8192x1024 .f32) (x2 : FVec Ideal S2x1024 .f32) (x3 : FVec Ideal S2x1024x4096 .f32)
    (x4 : FVec Ideal S2x4096x1024 .f32) (R : Fin 16384) (b : Fin 1024) :
    val_main_v48 (F := Ideal) x0 x2 x3 x4 (ix2 R b)
      = rrow (fun k => x0 (ix3 ⟨R.val / 8192, by omega⟩ ⟨R.val % 8192, by omega⟩ k)) (fun k => x2 (ix2 1 k)) (fun k f => x3 (ix3 1 k f))
          (fun f j => x4 (ix3 1 f j)) b := by
  unfold rrow
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_call0_cst, val_main_call0_v0, val_main_v20, val_main_v21, val_main_v22, val_main_v23, val_main_cst_2, val_main_cst_3, val_main_cst_4, val_main_call1_cst, val_main_call1_v0, val_main_v48]

/-- The sample rows' result. -/
theorem sample_apply (x1 : FVec Ideal S32x16x1024 .f32) (x2 : FVec Ideal S2x1024 .f32) (x3 : FVec Ideal S2x1024x4096 .f32)
    (x4 : FVec Ideal S2x4096x1024 .f32) (R : Fin 512) (b : Fin 1024) :
    val_main_v49 (F := Ideal) x1 x2 x3 x4 (ix2 R b)
      = rrow (fun k => x1 (ix3 ⟨R.val / 16, by omega⟩ ⟨R.val % 16, by omega⟩ k)) (fun k => x2 (ix2 1 k)) (fun k f => x3 (ix3 1 k f))
          (fun f j => x4 (ix3 1 f j)) b := by
  unfold rrow
  pointwise [val_main_v0, val_main_v1, val_main_v2, val_main_cst, val_main_cst_0, val_main_cst_1, val_main_call0_cst, val_main_call0_v0, val_main_v24, val_main_v25, val_main_v26, val_main_cst_2, val_main_v27, val_main_v28, val_main_cst_3, val_main_v29, val_main_v30, val_main_cst_4, val_main_v31, val_main_v32, val_main_v33, val_main_v34, val_main_v35, val_main_v36, val_main_v37, val_main_v38, val_main_v39, val_main_v40, val_main_v41, val_main_v42, val_main_v43, val_main_call1_cst, val_main_call1_v0, val_main_v44, val_main_v45, val_main_v46, val_main_v47, val_main_v49]

end Cert.Reference2Ideal.Ffn

end
-- ==== Proof.FfnValue.lean ====
/-
  The value of the channel-mixing call: what the body stores at an element is the reference's layer there.
-/
module

public import proofs.«01_k».proof.Proof.FfnRun
public import proofs.«01_k».proof.Proof.FfnRef
public import proofs.«01_k».proof.Proof.Gen.Reference2Ideal.Read
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal.Gen
open Cert.Ffn (hid krow rrow krow_eq_rrow)
open scoped BigOperators

/-- The stored block at an element, read down to the blocks' elements. -/
theorem out_apply (i : grid0.Coords) (x0 x1 : Vec Ideal S512x1024 .f32) (x2 : Vec Ideal S1x1x1024 .f32) (x3 : Vec Ideal S1x1024x4096 .f32)
    (x4 : Vec Ideal S1x4096x1024 .f32) (a : Fin 512) (b : Fin 1024) :
    out i x0 x1 x2 x3 x4 (ix2 a b)
      = krow (fun k => k0_pay3 i x1 x0 (ix2 a k)) (fun k => x2 (ix3 0 0 k)) (fun k f => x3 (ix3 0 k f)) (fun f j => x4 (ix3 0 f j)) b := by
  unfold out krow hid k0_pay5 k0_pay6 k0_pay4
  generalize k0_pay3 i x1 x0 = z
  pointwise [k0_pay1, k0_pay7, k0_pay8]

variable (m : (ℓ : Loc nD τ sig) → Buf (Elt Ideal) ℓ)

/-- The windows' block indices. -/
theorem idx : ∀ t : Fin cfg0.N, win0_0.index t = ![(t.val - 1), 0] ∧ win0_1.index t = ![0, 0] ∧ win0_2.index t = ![1, 0, 0]
    ∧ win0_3.index t = ![1, 0, 0] ∧ win0_4.index t = ![1, 0, 0] ∧ win0_5.index t = ![t.val - 1, 0] ∧ win0_6.index t = ![0, 0]
    ∧ (grid0.coords t 0).val = t.val :=
  (by decide +kernel : ∀ t : Fin grid0.N, _)

/-- The first output is written back at every point but the first. -/
theorem flush_5 : ∀ t : Fin cfg0.N, (cfg0.win 5).flush t = true → t.val ≠ 0 :=
  (by decide +kernel : ∀ t : Fin grid0.N, (cfg0.win 5).flush t = true → t.val ≠ 0)

/-- The rows the body reads: the sample's at the first point, the prompt's at every other. -/
theorem rows_first (c : Dev nD) (t : Fin cfg0.N) (h : t.val = 0) (a : Fin 512) (k : Fin 1024) :
    k0_pay3 (grid0.coords t) (iblk m c 1 t) (iblk m c 0 t) (ix2 a k)
      = m ((c : Thread nD τ).loc main_arg1) (ix3 ⟨a.val / 16, by omega⟩ ⟨a.val % 16, by omega⟩ k) := by
  have e := (idx t).2.2.2.2.2.2.2
  rw [h] at e
  have e1 : Scalar.cmpi .eq (BitVec.ofNat 32 (grid0.coords t 0).val) 0#32 = 1#1 := by rw [e]; rfl
  unfold k0_pay3
  rw [e1]
  pointwise
  blk_point [iblk, V, idx t]

theorem rows_rest (c : Dev nD) (t : Fin cfg0.N) (h : t.val ≠ 0) (a : Fin 512) (k : Fin 1024) (R : Fin 16384)
    (hR : R.val = 512 * (t.val - 1) + a.val) :
    k0_pay3 (grid0.coords t) (iblk m c 1 t) (iblk m c 0 t) (ix2 a k)
      = m ((c : Thread nD τ).loc main_arg0) (ix3 ⟨R.val / 8192, by omega⟩ ⟨R.val % 8192, by omega⟩ k) := by
  have ht : t.val < 33 := Nat.lt_of_lt_of_eq t.isLt N_0
  have e := (idx t).2.2.2.2.2.2.2
  have e1 : Scalar.cmpi .eq (BitVec.ofNat 32 (grid0.coords t 0).val) 0#32 = 0#1 := by
    rw [e]
    simp only [Scalar.cmpi]
    word_cmp
  unfold k0_pay3
  rw [e1]
  pointwise
  blk_point [iblk, V, idx t]

/-- The gain and the weights that the body reads: the second layer's. -/
theorem gain (c : Dev nD) (t : Fin cfg0.N) (k : Fin 1024) :
    iblk m c 2 t (ix3 0 0 k) = m ((c : Thread nD τ).loc main_arg2) (ix2 1 k) := by
  blk_point [iblk, V, idx t]

theorem weight1 (c : Dev nD) (t : Fin cfg0.N) (k : Fin 1024) (f : Fin 4096) :
    iblk m c 3 t (ix3 0 k f) = m ((c : Thread nD τ).loc main_arg3) (ix3 1 k f) := by
  blk_point [iblk, V, idx t]

theorem weight2 (c : Dev nD) (t : Fin cfg0.N) (f : Fin 4096) (k : Fin 1024) :
    iblk m c 4 t (ix3 0 f k) = m ((c : Thread nD τ).loc main_arg4) (ix3 1 f k) := by
  blk_point [iblk, V, idx t]

/-- A block of the first output, at a point after the first. -/
theorem point_5 (c : Dev nD) (t : Fin cfg0.N) (h : t.val ≠ 0) (a : Fin 512) (b : Fin 1024) (R : Fin 16384)
    (hR : R.val = 512 * (t.val - 1) + a.val) :
    outAt m c t (ix2 a b) = Cert.Reference2Ideal.Read.val_main_v48 (F := Ideal) (m ((c : Thread nD τ).loc main_arg0))
      (m ((c : Thread nD τ).loc main_arg2)) (m ((c : Thread nD τ).loc main_arg3)) (m ((c : Thread nD τ).loc main_arg4)) (ix2 R b) := by
  unfold outAt
  rw [out_apply, krow_eq_rrow, Cert.Reference2Ideal.Ffn.prompt_apply]
  simp only [rows_rest m c t h a _ R hR]
  simp only [gain, weight1, weight2]

/-- The second output, which the first point stores. -/
theorem point_6 (c : Dev nD) (a : Fin 512) (b : Fin 1024) :
    outAt m c t0 (ix2 a b) = Cert.Reference2Ideal.Read.val_main_v49 (F := Ideal) (m ((c : Thread nD τ).loc main_arg1))
      (m ((c : Thread nD τ).loc main_arg2)) (m ((c : Thread nD τ).loc main_arg3)) (m ((c : Thread nD τ).loc main_arg4)) (ix2 a b) := by
  unfold outAt
  rw [out_apply, krow_eq_rrow, Cert.Reference2Ideal.Ffn.sample_apply]
  simp only [rows_first m c t0 rfl a]
  simp only [gain, weight1, weight2]

/-- The first result array after the run. -/
theorem final_5 (c : Dev nD) : (dats m 0 c).arrAt 5 (cfgs 0).N
    = Cert.Reference2Ideal.Read.val_main_v48 (F := Ideal) (m ((c : Thread nD τ).loc main_arg0)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h0 := flush_5 t hf
  have ht : t.val < 33 := Nat.lt_of_lt_of_eq t.isLt N_0
  blk_simp
  rw [after_5]
  have hy : y = (ix2 (y 0) (y 1) : S512x1024.Idx) := eq_ix2 (n0 := 512) (n1 := 1024) y
  have h0' : (y 0).val < 512 := (y 0).isLt
  refine (congrArg (outAt m c t) hy).trans ((point_5 m c t h0 (y 0) (y 1) ⟨512 * (t.val - 1) + (y 0).val, by omega⟩ rfl).trans ?_)
  refine congrArg _ ?_
  blk_ext [idx t]

/-- The second result array after the run. -/
theorem final_6 (c : Dev nD) : (dats m 0 c).arrAt 6 (cfgs 0).N
    = Cert.Reference2Ideal.Read.val_main_v49 (F := Ideal) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after_6]
  have hy : y = (ix2 (y 0) (y 1) : S512x1024.Idx) := eq_ix2 (n0 := 512) (n1 := 1024) y
  refine (congrArg (outAt m c t0) hy).trans ((point_6 m c (y 0) (y 1)).trans ?_)
  refine congrArg _ ?_
  blk_ext [idx t]

end Cert.Kernel2Ideal.Ffn

end
-- ==== Proof.FfnClaim.lean ====
/-
  The channel-mixing claims: both frames from the one run, and that the two programs' results are equal.
-/
module

public import proofs.«01_k».proof.Defs
public import proofs.«01_k».proof.Proof.FfnValue
public import proofs.«01_k».proof.Proof.Gen.Kernel2
public import proofs.«01_k».proof.Proof.Gen.Reference2Ideal.Run

@[expose] public section

noncomputable section

namespace Cert.Proof

open Idealize.ShloMosaic Idealize.SL.Sem

/-- The two texts are one text, so the run at any reading of the floats is the run of both. -/
theorem ffn_frame_bits : quiescent_Kernel2 := fun m g _ => by
  refine Eq.mpr ?_ (Cert.Kernel2Ideal.Ffn.frame (F := Bits) m g)
  sl_kernel_rfl

theorem ffn_frame : quiescent_Kernel2Ideal := fun m g _ => Cert.Kernel2Ideal.Ffn.frame (F := Ideal) m g

theorem ffn_algebraic : algebraic_Kernel2Ideal_Reference2Ideal := by
  pair_intro
  · run_from Cert.Kernel2Ideal.Ffn.run_main m g
  · run_from Cert.Reference2Ideal.Value.run m' g'
    · rw [Cert.Kernel2Ideal.Ffn.final_5]; rfl
    · rw [Cert.Kernel2Ideal.Ffn.final_6]; rfl

end Cert.Proof

end
-- ==== Proof.GmlpVals.lean ====
/-
  What the gMLP call's body computes at a point, value by value, from the blocks it reads: `In` bundles those blocks, and
  each value of the body is one definition over them, under the number the body's text gives it. `vn` is the normalised
  value branch of the first half tile, `first` and `second` are the two halves of the tile's output.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Gmlp

open Idealize.ShloMosaic Idealize.ShloMosaic.TcCoe
open Cert.KernelIdeal.Gen

variable {F : FTy → Type} [FloatOps F] [Named F]

/-- The blocks the body reads at a point `i`: the prompt rows, the sample rows, the norm's gain, the input weight, the
    value branch's gain, the mixing weights of prompt and sample, their biases, and the output weight. -/
structure In (F : FTy → Type) where
  i : grid0.Coords
  x1 : Vec F S1024x1024 .f32
  x2 : Vec F S512x1024 .f32
  x3 : Vec F S1x1024 .f32
  x4 : Vec F S1024x2048 .f32
  x5 : Vec F S1x1024 .f32
  x6 : Vec F S8x128x128 .f32
  x7 : Vec F S8x128x128 .f32
  x8 : Vec F S128x1024 .f32
  x9 : Vec F S128x1024 .f32
  x10 : Vec F S1024x1024 .f32

def In.v0 (I : In F) : BitVec 1 := Scalar.cmpi .eq (BitVec.ofNat 32 (I.i 0).val) 0#32
def In.v1 (I : In F) : Vec F S512x1024 .f32 := View.ld I.x2 (Rect.unit (s := S512x1024) ![0, 0] S512x1024.size inb_S512x1024_S512x1024_0_0)
def In.v3 (I : In F) : Vec F S512x1024 .f32 := View.ld I.x1 (Rect.unit (s := S1024x1024) ![0, 0] S512x1024.size inb_S1024x1024_S512x1024_0_0)
def In.v6 (I : In F) : Vec F S1x1024 .f32 := View.ld I.x3 (Rect.unit (s := S1x1024) ![0, 0] S1x1024.size inb_S1x1024_S1x1024_0_0)
def In.v21 (I : In F) : Vec F S1024x1024 .f32 := View.ld I.x4 (Rect.unit (s := S1024x2048) ![0, 1024] S1024x1024.size inb_S1024x2048_S1024x1024_0_1024)
def In.v25 (I : In F) : Vec F S1024x1024 .f32 := View.ld I.x4 (Rect.unit (s := S1024x2048) ![0, 0] S1024x1024.size inb_S1024x2048_S1024x1024_0_0)
def In.v29 (I : In F) : Vec F S512x1024 .f32 := View.ld I.x1 (Rect.unit (s := S1024x1024) ![512, 0] S512x1024.size inb_S1024x1024_S512x1024_512_0)
def In.v31 (I : In F) : Vec F S1x1024 .f32 := View.ld I.x3 (Rect.unit (s := S1x1024) ![0, 0] S1x1024.size inb_S1x1024_S1x1024_0_0)
def In.v5 (I : In F) : FVec F S512x1024 .f32 := k0_pay2 I.i I.v1 I.v3
def In.v24 (I : In F) : FVec F S512x1024 .f32 := k0_pay4 I.i I.v1 I.v3 I.v6 I.v21
def In.v28 (I : In F) : FVec F S512x1024 .f32 := k0_pay5 I.i I.v1 I.v3 I.v6 I.v25
def In.v30 (I : In F) : FVec F S512x1024 .f32 := k0_pay6 I.v29
def In.v32 (I : In F) : FVec F S1x1024 .f32 := k0_pay7 I.v31
def In.v35 (I : In F) : FVec F S512x1 .f32 := k0_pay8 I.v29
def In.v36 (I : In F) : FVec F S512x1 .f32 := k0_pay9 (F := F)
def In.v46 (I : In F) : Vec F S1024x1024 .f32 := View.ld I.x4 (Rect.unit (s := S1024x2048) ![0, 1024] S1024x1024.size inb_S1024x2048_S1024x1024_0_1024)
def In.v50 (I : In F) : Vec F S1024x1024 .f32 := View.ld I.x4 (Rect.unit (s := S1024x2048) ![0, 0] S1024x1024.size inb_S1024x2048_S1024x1024_0_0)
def In.v55 (I : In F) : IVec S128x128 32 := iota .tc S128x128 32 [1] iota_S128x128_d1_w32
def In.v49 (I : In F) : FVec F S512x1024 .f32 := k0_pay11 I.v30 I.v32 I.v35 I.v36 I.v46
def In.v53 (I : In F) : FVec F S512x1024 .f32 := k0_pay12 I.v30 I.v32 I.v35 I.v36 I.v50
def In.v56 (I : In F) : IVec S128x128 1 := k0_pay13
def In.v80 (I : In F) : IVec S128x128 32 := k0_pay14
def In.c16_i32_29 (I : In F) : BitVec 32 := 16#32
def In.v81 (I : In F) : IVec S128x128 32 := k0_pay15
def In.v107 (I : In F) : Vec F S1x128x128 .f32 := View.ld I.x7 (Rect.unit (s := S8x128x128) ![0, 0, 0] S1x128x128.size inb_S8x128x128_S1x128x128_0_0_0)
def In.v111 (I : In F) : Vec F S1x128x128 .f32 := View.ld I.x6 (Rect.unit (s := S8x128x128) ![0, 0, 0] S1x128x128.size inb_S8x128x128_S1x128x128_0_0_0)
def In.v117 (I : In F) : Vec F S1x128x128 .f32 := View.ld I.x7 (Rect.unit (s := S8x128x128) ![1, 0, 0] S1x128x128.size inb_S8x128x128_S1x128x128_1_0_0)
def In.v106 (I : In F) : IVec S128x128 1 := k0_pay16 I.v55 I.v56 I.v80 I.c16_i32_29 I.v81
def In.v116 (I : In F) : FVec F S128x128 .bf16 := k0_pay17 I.v0 I.v55 I.v56 I.v80 I.c16_i32_29 I.v81 I.v107 I.v111
def In.v120 (I : In F) : FVec F S128x128 .f32 := k0_pay18 I.v55 I.v56 I.v80 I.c16_i32_29 I.v81 I.v117
def In.v121 (I : In F) : Vec F S1x128x128 .f32 := View.ld I.x6 (Rect.unit (s := S8x128x128) ![1, 0, 0] S1x128x128.size inb_S8x128x128_S1x128x128_1_0_0)
def In.v127 (I : In F) : Vec F S1x128x128 .f32 := View.ld I.x7 (Rect.unit (s := S8x128x128) ![2, 0, 0] S1x128x128.size inb_S8x128x128_S1x128x128_2_0_0)
def In.v131 (I : In F) : Vec F S1x128x128 .f32 := View.ld I.x6 (Rect.unit (s := S8x128x128) ![2, 0, 0] S1x128x128.size inb_S8x128x128_S1x128x128_2_0_0)
def In.v137 (I : In F) : Vec F S1x128x128 .f32 := View.ld I.x7 (Rect.unit (s := S8x128x128) ![3, 0, 0] S1x128x128.size inb_S8x128x128_S1x128x128_3_0_0)
def In.v141 (I : In F) : Vec F S1x128x128 .f32 := View.ld I.x6 (Rect.unit (s := S8x128x128) ![3, 0, 0] S1x128x128.size inb_S8x128x128_S1x128x128_3_0_0)
def In.v147 (I : In F) : Vec F S1x128x128 .f32 := View.ld I.x7 (Rect.unit (s := S8x128x128) ![4, 0, 0] S1x128x128.size inb_S8x128x128_S1x128x128_4_0_0)
def In.v151 (I : In F) : Vec F S1x128x128 .f32 := View.ld I.x6 (Rect.unit (s := S8x128x128) ![4, 0, 0] S1x128x128.size inb_S8x128x128_S1x128x128_4_0_0)
def In.v126 (I : In F) : FVec F S128x128 .bf16 := k0_pay19 I.v0 I.v56 I.v120 I.v121
def In.v136 (I : In F) : FVec F S128x128 .bf16 := k0_pay20 I.v0 I.v56 I.v106 I.v127 I.v131
def In.v146 (I : In F) : FVec F S128x128 .bf16 := k0_pay21 I.v0 I.v56 I.v106 I.v137 I.v141
def In.v155 (I : In F) : FVec F S128x128 .f32 := k0_pay22 I.v0 I.v56 I.v106 I.v147 I.v151
def In.v157 (I : In F) : Vec F S1x128x128 .f32 := View.ld I.x7 (Rect.unit (s := S8x128x128) ![5, 0, 0] S1x128x128.size inb_S8x128x128_S1x128x128_5_0_0)
def In.v161 (I : In F) : Vec F S1x128x128 .f32 := View.ld I.x6 (Rect.unit (s := S8x128x128) ![5, 0, 0] S1x128x128.size inb_S8x128x128_S1x128x128_5_0_0)
def In.v167 (I : In F) : Vec F S1x128x128 .f32 := View.ld I.x7 (Rect.unit (s := S8x128x128) ![6, 0, 0] S1x128x128.size inb_S8x128x128_S1x128x128_6_0_0)
def In.v171 (I : In F) : Vec F S1x128x128 .f32 := View.ld I.x6 (Rect.unit (s := S8x128x128) ![6, 0, 0] S1x128x128.size inb_S8x128x128_S1x128x128_6_0_0)
def In.v177 (I : In F) : Vec F S1x128x128 .f32 := View.ld I.x7 (Rect.unit (s := S8x128x128) ![7, 0, 0] S1x128x128.size inb_S8x128x128_S1x128x128_7_0_0)
def In.v181 (I : In F) : Vec F S1x128x128 .f32 := View.ld I.x6 (Rect.unit (s := S8x128x128) ![7, 0, 0] S1x128x128.size inb_S8x128x128_S1x128x128_7_0_0)
def In.cst_94 (I : In F) : F .f32 := Named.named κ "gelu_k" 0xC0135761#32
def In.v156 (I : In F) : FVec F S128x128 .bf16 := k0_pay23 I.v155
def In.v166 (I : In F) : FVec F S128x128 .bf16 := k0_pay24 I.v0 I.v56 I.v106 I.v157 I.v161
def In.v176 (I : In F) : FVec F S128x128 .bf16 := k0_pay25 I.v0 I.v56 I.v106 I.v167 I.v171
def In.v186 (I : In F) : FVec F S128x128 .bf16 := k0_pay26 I.v0 I.v56 I.v106 I.v177 I.v181
def In.v189 (I : In F) : FVec F S512x1024 .f32 := k0_pay27 I.v24
def In.v213 (I : In F) : Vec F S1x1024 .f32 := View.ld I.x5 (Rect.unit (s := S1x1024) ![0, 0] S1x1024.size inb_S1x1024_S1x1024_0_0)
def In.v221 (I : In F) : Vec F S128x128 .f32 := View.ld I.x9 (Rect.unit (s := S128x1024) ![0, 0] S128x128.size inb_S128x1024_S128x128_0_0)
def In.v223 (I : In F) : Vec F S128x128 .f32 := View.ld I.x8 (Rect.unit (s := S128x1024) ![0, 0] S128x128.size inb_S128x1024_S128x128_0_0)
def In.v220 (I : In F) : FVec F S512x1024 .bf16 := k0_pay30 I.v24 I.v189 I.cst_94 I.v213
def In.v225 (I : In F) : FVec F S128x128 .f32 := k0_pay31 I.v0 I.v221 I.v223
def In.v228 (I : In F) : FVec F S128x128 .f32 := k0_pay32 I.v0 I.v24 I.v116 I.v189 I.cst_94 I.v213 I.v221 I.v223
def In.v231 (I : In F) : FVec F S128x128 .f32 := k0_pay33 I.v0 I.v24 I.v116 I.v189 I.cst_94 I.v213 I.v221 I.v223
def In.v232 (I : In F) : FVec F S128x128 .bf16 := k0_pay34 I.v24 I.v189 I.cst_94 I.v213
def In.v239 (I : In F) : Vec F S128x128 .f32 := View.ld I.x9 (Rect.unit (s := S128x1024) ![0, 128] S128x128.size inb_S128x1024_S128x128_0_128)
def In.v241 (I : In F) : Vec F S128x128 .f32 := View.ld I.x8 (Rect.unit (s := S128x1024) ![0, 128] S128x128.size inb_S128x1024_S128x128_0_128)
def In.v257 (I : In F) : Vec F S128x128 .f32 := View.ld I.x9 (Rect.unit (s := S128x1024) ![0, 256] S128x128.size inb_S128x1024_S128x128_0_256)
def In.v259 (I : In F) : Vec F S128x128 .f32 := View.ld I.x8 (Rect.unit (s := S128x1024) ![0, 256] S128x128.size inb_S128x1024_S128x128_0_256)
def In.v238 (I : In F) : FVec F S512x128 .f32 := k0_pay35 I.v116 I.v220 I.v225 I.v228 I.v231 I.v232
def In.v256 (I : In F) : FVec F S512x128 .f32 := k0_pay36 I.v0 I.v126 I.v220 I.v239 I.v241
def In.v274 (I : In F) : FVec F S512x128 .f32 := k0_pay37 I.v0 I.v136 I.v220 I.v257 I.v259
def In.v275 (I : In F) : Vec F S128x128 .f32 := View.ld I.x9 (Rect.unit (s := S128x1024) ![0, 384] S128x128.size inb_S128x1024_S128x128_0_384)
def In.v277 (I : In F) : Vec F S128x128 .f32 := View.ld I.x8 (Rect.unit (s := S128x1024) ![0, 384] S128x128.size inb_S128x1024_S128x128_0_384)
def In.v293 (I : In F) : Vec F S128x128 .f32 := View.ld I.x9 (Rect.unit (s := S128x1024) ![0, 512] S128x128.size inb_S128x1024_S128x128_0_512)
def In.v295 (I : In F) : Vec F S128x128 .f32 := View.ld I.x8 (Rect.unit (s := S128x1024) ![0, 512] S128x128.size inb_S128x1024_S128x128_0_512)
def In.v311 (I : In F) : Vec F S128x128 .f32 := View.ld I.x9 (Rect.unit (s := S128x1024) ![0, 640] S128x128.size inb_S128x1024_S128x128_0_640)
def In.v313 (I : In F) : Vec F S128x128 .f32 := View.ld I.x8 (Rect.unit (s := S128x1024) ![0, 640] S128x128.size inb_S128x1024_S128x128_0_640)
def In.v292 (I : In F) : FVec F S512x128 .f32 := k0_pay38 I.v0 I.v146 I.v220 I.v275 I.v277
def In.v310 (I : In F) : FVec F S512x128 .f32 := k0_pay39 I.v0 I.v156 I.v220 I.v293 I.v295
def In.v312 (I : In F) : FVec F S128x128 .f32 := k0_pay40 I.v311
def In.v314 (I : In F) : FVec F S128x128 .f32 := k0_pay41 I.v313
def In.v329 (I : In F) : Vec F S128x128 .f32 := View.ld I.x9 (Rect.unit (s := S128x1024) ![0, 768] S128x128.size inb_S128x1024_S128x128_0_768)
def In.v331 (I : In F) : Vec F S128x128 .f32 := View.ld I.x8 (Rect.unit (s := S128x1024) ![0, 768] S128x128.size inb_S128x1024_S128x128_0_768)
def In.v347 (I : In F) : Vec F S128x128 .f32 := View.ld I.x9 (Rect.unit (s := S128x1024) ![0, 896] S128x128.size inb_S128x1024_S128x128_0_896)
def In.v349 (I : In F) : Vec F S128x128 .f32 := View.ld I.x8 (Rect.unit (s := S128x1024) ![0, 896] S128x128.size inb_S128x1024_S128x128_0_896)
def In.v328 (I : In F) : FVec F S512x128 .f32 := k0_pay42 I.v0 I.v166 I.v220 I.v312 I.v314
def In.v346 (I : In F) : FVec F S512x128 .f32 := k0_pay43 I.v0 I.v176 I.v220 I.v329 I.v331
def In.v351 (I : In F) : FVec F S128x128 .f32 := k0_pay44 I.v0 I.v347 I.v349
def In.v354 (I : In F) : FVec F S128x128 .f32 := k0_pay45 I.v0 I.v186 I.v220 I.v347 I.v349
def In.v356 (I : In F) : FVec F S128x128 .f32 := k0_pay46 I.v186 I.v220
def In.v379 (I : In F) : Vec F S256x1024 .f32 := View.ld I.x10 (Rect.unit (s := S1024x1024) ![0, 0] S256x1024.size inb_S1024x1024_S256x1024_0_0)
def In.v398 (I : In F) : Vec F S256x1024 .f32 := View.ld I.x10 (Rect.unit (s := S1024x1024) ![256, 0] S256x1024.size inb_S1024x1024_S256x1024_256_0)
def In.v364 (I : In F) : FVec F S512x128 .f32 := k0_pay47 I.v186 I.v220 I.v351 I.v354 I.v356
def In.v402 (I : In F) : FVec F S512x1024 .f32 := k0_pay48 I.v5 I.v28 I.v238 I.v256 I.v274 I.v292 I.v379 I.v398
def In.v417 (I : In F) : Vec F S256x1024 .f32 := View.ld I.x10 (Rect.unit (s := S1024x1024) ![512, 0] S256x1024.size inb_S1024x1024_S256x1024_512_0)
def In.v436 (I : In F) : Vec F S256x1024 .f32 := View.ld I.x10 (Rect.unit (s := S1024x1024) ![768, 0] S256x1024.size inb_S1024x1024_S256x1024_768_0)
def In.v444 (I : In F) : FVec F S512x1024 .f32 := k0_pay50 I.v49
def In.v445 (I : In F) : FVec F S512x1024 .f32 := k0_pay51 (F := F)
def In.v468 (I : In F) : Vec F S1x1024 .f32 := View.ld I.x5 (Rect.unit (s := S1x1024) ![0, 0] S1x1024.size inb_S1x1024_S1x1024_0_0)
def In.v473 (I : In F) : Vec F S128x128 .f32 := View.ld I.x9 (Rect.unit (s := S128x1024) ![0, 0] S128x128.size inb_S128x1024_S128x128_0_0)
def In.v475 (I : In F) : Vec F S128x128 .f32 := View.ld I.x8 (Rect.unit (s := S128x1024) ![0, 0] S128x128.size inb_S128x1024_S128x128_0_0)
def In.v472 (I : In F) : FVec F S512x1024 .bf16 := k0_pay52 I.v49 I.v444 I.v445 I.v468
def In.v480 (I : In F) : FVec F S128x128 .f32 := k0_pay54 I.v0 I.v49 I.v116 I.v444 I.v445 I.v468 I.v473 I.v475
def In.v483 (I : In F) : FVec F S128x128 .f32 := k0_pay55 I.v0 I.v49 I.v116 I.v444 I.v445 I.v468 I.v473 I.v475
def In.v486 (I : In F) : FVec F S128x128 .f32 := k0_pay56 I.v0 I.v49 I.v116 I.v444 I.v445 I.v468 I.v473 I.v475
def In.v489 (I : In F) : FVec F S128x128 .f32 := k0_pay57 I.v0 I.v49 I.v116 I.v444 I.v445 I.v468 I.v473 I.v475
def In.v491 (I : In F) : Vec F S128x128 .f32 := View.ld I.x9 (Rect.unit (s := S128x1024) ![0, 128] S128x128.size inb_S128x1024_S128x128_0_128)
def In.v493 (I : In F) : Vec F S128x128 .f32 := View.ld I.x8 (Rect.unit (s := S128x1024) ![0, 128] S128x128.size inb_S128x1024_S128x128_0_128)
def In.v509 (I : In F) : Vec F S128x128 .f32 := View.ld I.x9 (Rect.unit (s := S128x1024) ![0, 256] S128x128.size inb_S128x1024_S128x128_0_256)
def In.v511 (I : In F) : Vec F S128x128 .f32 := View.ld I.x8 (Rect.unit (s := S128x1024) ![0, 256] S128x128.size inb_S128x1024_S128x128_0_256)
def In.v527 (I : In F) : Vec F S128x128 .f32 := View.ld I.x9 (Rect.unit (s := S128x1024) ![0, 384] S128x128.size inb_S128x1024_S128x128_0_384)
def In.v529 (I : In F) : Vec F S128x128 .f32 := View.ld I.x8 (Rect.unit (s := S128x1024) ![0, 384] S128x128.size inb_S128x1024_S128x128_0_384)
def In.v490 (I : In F) : FVec F S512x128 .f32 := k0_pay58 I.v480 I.v483 I.v486 I.v489
def In.v508 (I : In F) : FVec F S512x128 .f32 := k0_pay59 I.v0 I.v126 I.v472 I.v491 I.v493
def In.v526 (I : In F) : FVec F S512x128 .f32 := k0_pay60 I.v0 I.v136 I.v472 I.v509 I.v511
def In.v528 (I : In F) : FVec F S128x128 .f32 := k0_pay61 I.v527
def In.v545 (I : In F) : Vec F S128x128 .f32 := View.ld I.x9 (Rect.unit (s := S128x1024) ![0, 512] S128x128.size inb_S128x1024_S128x128_0_512)
def In.v547 (I : In F) : Vec F S128x128 .f32 := View.ld I.x8 (Rect.unit (s := S128x1024) ![0, 512] S128x128.size inb_S128x1024_S128x128_0_512)
def In.v563 (I : In F) : Vec F S128x128 .f32 := View.ld I.x9 (Rect.unit (s := S128x1024) ![0, 640] S128x128.size inb_S128x1024_S128x128_0_640)
def In.v565 (I : In F) : Vec F S128x128 .f32 := View.ld I.x8 (Rect.unit (s := S128x1024) ![0, 640] S128x128.size inb_S128x1024_S128x128_0_640)
def In.cst_244 (I : In F) : FVec F S128x128 .f32 := constant S128x128 .f32 0x00000000#32
def In.v544 (I : In F) : FVec F S512x128 .f32 := k0_pay62 I.v0 I.v146 I.v472 I.v528 I.v529
def In.v562 (I : In F) : FVec F S512x128 .f32 := k0_pay63 I.v0 I.v156 I.v472 I.v545 I.v547
def In.v567 (I : In F) : FVec F S128x128 .f32 := k0_pay64 I.v0 I.v563 I.v565
def In.v570 (I : In F) : FVec F S128x128 .f32 := k0_pay65 I.v0 I.v166 I.v472 I.v563 I.v565
def In.v571 (I : In F) : FVec F S128x128 .bf16 := k0_pay66 I.v472
def In.v581 (I : In F) : Vec F S128x128 .f32 := View.ld I.x9 (Rect.unit (s := S128x1024) ![0, 768] S128x128.size inb_S128x1024_S128x128_0_768)
def In.v583 (I : In F) : Vec F S128x128 .f32 := View.ld I.x8 (Rect.unit (s := S128x1024) ![0, 768] S128x128.size inb_S128x1024_S128x128_0_768)
def In.v599 (I : In F) : Vec F S128x128 .f32 := View.ld I.x9 (Rect.unit (s := S128x1024) ![0, 896] S128x128.size inb_S128x1024_S128x128_0_896)
def In.v601 (I : In F) : Vec F S128x128 .f32 := View.ld I.x8 (Rect.unit (s := S128x1024) ![0, 896] S128x128.size inb_S128x1024_S128x128_0_896)
def In.cst_262 (I : In F) : FVec F S128x128 .f32 := constant S128x128 .f32 0x00000000#32
def In.v580 (I : In F) : FVec F S512x128 .f32 := k0_pay67 I.v166 I.v472 I.v567 I.v570 I.v571 I.cst_244
def In.v598 (I : In F) : FVec F S512x128 .f32 := k0_pay68 I.v0 I.v176 I.v472 I.v581 I.v583
def In.v603 (I : In F) : FVec F S128x128 .f32 := k0_pay69 I.v0 I.v599 I.v601
def In.v606 (I : In F) : FVec F S128x128 .f32 := k0_pay70 I.v0 I.v186 I.v472 I.v599 I.v601
def In.v609 (I : In F) : FVec F S128x128 .f32 := k0_pay71 I.v0 I.v186 I.v472 I.v599 I.v601
def In.v612 (I : In F) : FVec F S128x128 .f32 := k0_pay72 I.v0 I.v186 I.v472 I.v599 I.v601
def In.v613 (I : In F) : FVec F S128x128 .bf16 := k0_pay73 I.v472
def In.v631 (I : In F) : Vec F S256x1024 .f32 := View.ld I.x10 (Rect.unit (s := S1024x1024) ![0, 0] S256x1024.size inb_S1024x1024_S256x1024_0_0)
def In.v650 (I : In F) : Vec F S256x1024 .f32 := View.ld I.x10 (Rect.unit (s := S1024x1024) ![256, 0] S256x1024.size inb_S1024x1024_S256x1024_256_0)
def In.v616 (I : In F) : FVec F S512x128 .f32 := k0_pay74 I.v186 I.v603 I.v606 I.v609 I.v612 I.v613 I.cst_262
def In.v654 (I : In F) : FVec F S512x1024 .f32 := k0_pay75 I.v30 I.v53 I.v490 I.v508 I.v526 I.v544 I.v631 I.v650
def In.v655 (I : In F) : FVec F S512x256 .f32 := k0_pay76 I.v53
def In.v658 (I : In F) : FVec F S512x256 .f32 := k0_pay77 I.v53
def In.v659 (I : In F) : FVec F S512x256 .f32 := k0_pay78 (F := F)
def In.v669 (I : In F) : Vec F S256x1024 .f32 := View.ld I.x10 (Rect.unit (s := S1024x1024) ![512, 0] S256x1024.size inb_S1024x1024_S256x1024_512_0)
def In.v688 (I : In F) : Vec F S256x1024 .f32 := View.ld I.x10 (Rect.unit (s := S1024x1024) ![768, 0] S256x1024.size inb_S1024x1024_S256x1024_768_0)
def In.v692 (I : In F) : FVec F S512x1024 .f32 := k0_pay79 I.v53 I.v562 I.v580 I.v598 I.v616 I.v654 I.v655 I.v658 I.v659 I.v669 I.v688
def In.vn (I : In F) : FVec F S512x1024 .f32 := k0_pay29 I.v24 I.v189 I.cst_94 I.v213
def In.first (I : In F) : FVec F S512x1024 .f32 := k0_pay49 I.v28 I.v310 I.v328 I.v346 I.v364 I.v402 I.v417 I.v436
def In.second (I : In F) : FVec F S512x1024 .f32 := I.v692

/-- The tile's output: the second half stored last. -/
def In.yp (I : In F) : Vec F S1024x1024 .f32 :=
  View.canon [⟨Rect.unit (s := S1024x1024) ![512, 0] S512x1024.size inb_S1024x1024_S512x1024_512_0, I.second⟩,
    ⟨Rect.unit (s := S1024x1024) ![0, 0] S512x1024.size inb_S1024x1024_S512x1024_0_0, I.first⟩]

end Cert.KernelIdeal.Gmlp

end
-- ==== Proof.GmlpBody.lean ====
/-
  The run of the gMLP call's body: at the first point, where the sample rows are worked, and at the others. It keeps the
  blocks it reads, leaves the tile's output in its two halves, and at the first point copies the first half and the
  value branch to the sample rows' two outputs.
-/
module

public import proofs.«01_k».proof.Proof.GmlpVals

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem zero2 : (![0, 0] : Fin 2 → ℕ) = fun _ => 0 := by decide

/-- The sample rows' output is the first half, recast to its own shape. -/
theorem pay1_eq (x : Vec F S512x1024 .f32) : k0_pay1 x = x := by
  unfold k0_pay1; exact shapeCast_self _ _

set_option maxHeartbeats 8000000 in
/-- The body at the first point. -/
theorem run_A (c : Dev nD) (i : grid0.Coords) (x1 : Vec F S1024x1024 .f32) (x2 : Vec F S512x1024 .f32) (x3 : Vec F S1x1024 .f32) (x4 : Vec F S1024x2048 .f32) (x5 : Vec F S1x1024 .f32) (x6 : Vec F S8x128x128 .f32) (x7 : Vec F S8x128x128 .f32) (x8 : Vec F S128x1024 .f32) (x9 : Vec F S128x1024 .f32) (x10 : Vec F S1024x1024 .f32) (arg1 : Memref sig .tc .vmem S1024x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (hc0 : k0_cond1 i = 1#1) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (In.mk i x1 x2 x3 x4 x5 x6 x7 x8 x9 x10).yp ∗ owns (c : Thread nD τ) arg12 fullShare (In.mk i x1 x2 x3 x4 x5 x6 x7 x8 x9 x10).first ∗ owns (c : Thread nD τ) arg13 fullShare (In.mk i x1 x2 x3 x4 x5 x6 x7 x8 x9 x10).vn ∗ (∃ d, owns (c : Thread nD τ) arg14 fullShare d)) -∗ K ⟨⟩))
        ⊢ wp frame (wpE (defs₀ (F := F)) Variants.none c none) E (cc0_gmlp_mixer i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_gmlp_mixer_eq_skeleton]; unfold cc0_gmlp_mixer_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (View.read_writes_eq_canon _ _ _ ?cover).trans ?_
    case cover => exact View.cover_of_tiled _ S512x1024.size rfl
    sl_unfold_run_names
    simp only [View.readAt_eq_ld, harg1.read_unread, harg2.read_unread, harg3.read_unread, harg4.read_unread, harg5.read_unread, harg6.read_unread, harg7.read_unread, harg8.read_unread, harg9.read_unread, harg10.read_unread]
    rfl
  isplitl [H12]
  · iexists _; isplitr; swap; · iexact H12
    ipureintro
    refine (View.read_writes_eq_canon _ _ _ (fun y => ⟨_, List.mem_singleton_self _, View.mem_set_unit_zero zero2 inb_S512x1024_S512x1024_0_0 y⟩)).trans ?_
    refine (View.canon_unit_zero zero2 _ _).trans ?_
    sl_unfold_run_names
    refine (congrArg k0_pay1 ((View.readCov_cons_of_disjoint _ _ _ _ ?_).trans (View.readCov_cons_toLoadRect _ _ _ _))).trans ((pay1_eq _).trans ?_)
    · exact Rect.unit_disjoint (inb := inb_S1024x1024_S512x1024_512_0) (inb' := inb_S1024x1024_S512x1024_0_0) (0 : Fin 2) (.inr (by decide))
    simp only [View.readAt_eq_ld, harg1.read_unread, harg2.read_unread, harg3.read_unread, harg4.read_unread, harg5.read_unread, harg6.read_unread, harg7.read_unread, harg8.read_unread, harg9.read_unread, harg10.read_unread]
    rfl
  isplitl [H13]
  · iexists _; isplitr; swap; · iexact H13
    ipureintro
    refine (View.read_writes_eq_canon _ _ _ (fun y => ⟨_, List.mem_singleton_self _, View.mem_set_unit_zero zero2 inb_S512x1024_S512x1024_0_0 y⟩)).trans ?_
    refine (View.canon_unit_zero zero2 _ _).trans ?_
    sl_unfold_run_names
    refine (View.readCov_unit_zero arg14.view zero2 inb_S512x1024_S512x1024_0_0 _).trans ?_
    simp only [View.readAt_eq_ld, harg1.read_unread, harg2.read_unread, harg3.read_unread, harg4.read_unread, harg5.read_unread, harg6.read_unread, harg7.read_unread, harg8.read_unread, harg9.read_unread, harg10.read_unread]
    rfl
  iexists _, _; isplitr; swap; · iexact H14
  ipureintro; rfl

set_option maxHeartbeats 8000000 in
/-- The body at a later point: the sample rows' outputs are left as they were. -/
theorem run_B (c : Dev nD) (i : grid0.Coords) (x1 : Vec F S1024x1024 .f32) (x2 : Vec F S512x1024 .f32) (x3 : Vec F S1x1024 .f32) (x4 : Vec F S1024x2048 .f32) (x5 : Vec F S1x1024 .f32) (x6 : Vec F S8x128x128 .f32) (x7 : Vec F S8x128x128 .f32) (x8 : Vec F S128x1024 .f32) (x9 : Vec F S128x1024 .f32) (x10 : Vec F S1024x1024 .f32) (arg1 : Memref sig .tc .vmem S1024x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2048 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (hc0 : ¬k0_cond1 i = 1#1) (y12 y13 : Vec F S512x1024 .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare y12 ∗ owns (c : Thread nD τ) arg13 fullShare y13 ∗ (∃ d, owns (c : Thread nD τ) arg14 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (In.mk i x1 x2 x3 x4 x5 x6 x7 x8 x9 x10).yp ∗ owns (c : Thread nD τ) arg12 fullShare y12 ∗ owns (c : Thread nD τ) arg13 fullShare y13 ∗ (∃ d, owns (c : Thread nD τ) arg14 fullShare d)) -∗ K ⟨⟩))
        ⊢ wp frame (wpE (defs₀ (F := F)) Variants.none c none) E (cc0_gmlp_mixer i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_gmlp_mixer_eq_skeleton]; unfold cc0_gmlp_mixer_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (View.read_writes_eq_canon _ _ _ ?cover).trans ?_
    case cover => exact View.cover_of_tiled _ S512x1024.size rfl
    sl_unfold_run_names
    simp only [View.readAt_eq_ld, harg1.read_unread, harg2.read_unread, harg3.read_unread, harg4.read_unread, harg5.read_unread, harg6.read_unread, harg7.read_unread, harg8.read_unread, harg9.read_unread, harg10.read_unread]
    rfl
  isplitl [H12]
  · iexists _; isplitr; · ipureintro; exact hf12
    iexact H12
  isplitl [H13]
  · iexists _; isplitr; · ipureintro; exact hf13
    iexact H13
  iexists _, _; isplitr; swap; · iexact H14
  ipureintro; rfl

end Cert.KernelIdeal.Gmlp

end
-- ==== Proof.GmlpRun.lean ====
/-
  The launch of the gMLP call: what the body leaves in each window at each point, the body's obligation, the run and the
  frame. The sample rows' two outputs are stored at the first point only and written back after the last one; their
  buffers keep what the first point stored, so those windows' contents are the same at every point. The scratch row
  block is owned by the pipeline's invariant at some contents.
-/
module

public import proofs.«01_k».proof.Proof.GmlpBody
public import proofs.«01_k».proof.Proof.Gen.KernelIdeal.Launch
public import Idealize.ShloMosaic.Lib.Claim
public import Idealize.ShloMosaic.Lib.WordCmp
public import Idealize.ShloMosaic.Lib.Pipeline.TableIdle

@[expose] public section

set_option maxRecDepth 16384

noncomputable section

namespace Cert.KernelIdeal.Gmlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem cond_iff : ∀ t : Fin cfg0.N, k0_cond1 (grid0.coords t) = 1#1 ↔ t.val = 0 :=
  (fun t => by
    have ht : t.val < 17 := Nat.lt_of_lt_of_eq t.isLt N_0
    have e0 : (grid0.coords t 0).val = t.val / 1 % 17 := Pipeline.Grid.coords_val t 0 (by decide) rfl
    simp only [k0_cond1, e0]
    word_cmp
   : ∀ t : Fin grid0.N, k0_cond1 (grid0.coords t) = 1#1 ↔ t.val = 0)

theorem idle_iff_11 (t : Fin cfg0.N) : cfg0.idle 11 (grid0.coords t) = true ↔ t.val ≠ 0 := by
  show (!(k0_cond1 (grid0.coords t) == 1#1)) = true ↔ _
  rw [Bool.not_eq_true', beq_eq_false_iff_ne, ne_eq, cond_iff]

theorem idle_iff_12 (t : Fin cfg0.N) : cfg0.idle 12 (grid0.coords t) = true ↔ t.val ≠ 0 := by
  show (!(k0_cond1 (grid0.coords t) == 1#1)) = true ↔ _
  rw [Bool.not_eq_true', beq_eq_false_iff_ne, ne_eq, cond_iff]

/-- The first point. -/
abbrev t0 : Fin cfg0.N := (⟨0, by rw [N_0]; decide⟩ : Fin grid0.N)

/-- The blocks the body reads at point `t`. -/
def inAt (c : Dev nD) (t : Fin cfg0.N) : In F :=
  ⟨grid0.coords t, iblk m c 0 t, iblk m c 1 t, iblk m c 2 t, iblk m c 3 t, iblk m c 4 t, iblk m c 5 t, iblk m c 6 t, iblk m c 7 t, iblk m c 8 t, iblk m c 9 t⟩

/-- The pipeline's proof data: each input at its block, the tile's output at what the point stores, the sample rows'
    outputs at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (inAt m c t).yp
    | ⟨11, _⟩ => (inAt m c t0).first
    | ⟨12, _⟩ => (inAt m c t0).vn
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (inAt m c t).yp := by dsimp only [dats]
theorem after_11 (c : Dev nD) (t : Fin cfg0.N) : (dats m 0 c).after 11 t = (inAt m c t0).first := by dsimp only [dats]
theorem after_12 (c : Dev nD) (t : Fin cfg0.N) : (dats m 0 c).after 12 t = (inAt m c t0).vn := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- After the first point the sample rows' buffer holds what that point stored, until it is written back. -/
theorem fresh_11 : ∀ n : ℕ, n < 16 → cfg0.fresh 11 (n + 1) = false
  | 0, _ => by
    have h : 0 < cfg0.N := lt_of_lt_of_eq (by decide : 0 < 17) (show (17 : ℕ) = cfg0.N from N_0.symm)
    rw [Pipeline.Cfg.fresh_succ cfg0 11 0 h]
    have hf : (cfg0.win 11).flush ⟨0, h⟩ = false := by
      rw [Bool.eq_false_iff]; intro h'; exact absurd ((flush0_11 _).mp h') (by show ¬ (0 % 17 = 16); decide)
    have hi : cfg0.idle 11 (cfg0.grid.coords ⟨0, h⟩) = false := by
      rw [Bool.eq_false_iff]; intro h'; exact (idle_iff_11 ⟨0, h⟩).mp h' rfl
    rw [hf, hi]; rfl
  | n + 1, hn => by
    have h : n + 1 < cfg0.N := lt_of_lt_of_eq (by omega : n + 1 < 17) (show (17 : ℕ) = cfg0.N from N_0.symm)
    rw [Pipeline.Cfg.fresh_succ cfg0 11 (n + 1) h, fresh_11 n (by omega)]
    have hf : (cfg0.win 11).flush ⟨n + 1, h⟩ = false := by
      rw [Bool.eq_false_iff]; intro h'
      have := (flush0_11 _).mp h'
      simp only at this; omega
    rw [hf, Bool.and_false]; rfl

theorem before_11 (c : Dev nD) (t : Fin cfg0.N) (ht : t.val ≠ 0) (d) : (dats m 0 c).before 11 t d = (inAt m c t0).first := by
  have hN : t.val < 17 := lt_of_lt_of_eq t.isLt (show cfg0.N = 17 from N_0)
  rw [(dats m 0 c).before_out_traj 11 rfl (fun _ _ => rfl) (fun _ _ _ _ => rfl) t.val t rfl d]
  have hf : cfg0.fresh 11 t.val = false := by
    obtain ⟨k, hk⟩ := Nat.exists_eq_succ_of_ne_zero ht
    rw [hk]; exact fresh_11 k (by omega)
  rw [hf, if_neg Bool.false_ne_true, after_11]

/-- After the first point the sample rows' buffer holds what that point stored, until it is written back. -/
theorem fresh_12 : ∀ n : ℕ, n < 16 → cfg0.fresh 12 (n + 1) = false
  | 0, _ => by
    have h : 0 < cfg0.N := lt_of_lt_of_eq (by decide : 0 < 17) (show (17 : ℕ) = cfg0.N from N_0.symm)
    rw [Pipeline.Cfg.fresh_succ cfg0 12 0 h]
    have hf : (cfg0.win 12).flush ⟨0, h⟩ = false := by
      rw [Bool.eq_false_iff]; intro h'; exact absurd ((flush0_12 _).mp h') (by show ¬ (0 % 17 = 16); decide)
    have hi : cfg0.idle 12 (cfg0.grid.coords ⟨0, h⟩) = false := by
      rw [Bool.eq_false_iff]; intro h'; exact (idle_iff_12 ⟨0, h⟩).mp h' rfl
    rw [hf, hi]; rfl
  | n + 1, hn => by
    have h : n + 1 < cfg0.N := lt_of_lt_of_eq (by omega : n + 1 < 17) (show (17 : ℕ) = cfg0.N from N_0.symm)
    rw [Pipeline.Cfg.fresh_succ cfg0 12 (n + 1) h, fresh_12 n (by omega)]
    have hf : (cfg0.win 12).flush ⟨n + 1, h⟩ = false := by
      rw [Bool.eq_false_iff]; intro h'
      have := (flush0_12 _).mp h'
      simp only at this; omega
    rw [hf, Bool.and_false]; rfl

theorem before_12 (c : Dev nD) (t : Fin cfg0.N) (ht : t.val ≠ 0) (d) : (dats m 0 c).before 12 t d = (inAt m c t0).vn := by
  have hN : t.val < 17 := lt_of_lt_of_eq t.isLt (show cfg0.N = 17 from N_0)
  rw [(dats m 0 c).before_out_traj 12 rfl (fun _ _ => rfl) (fun _ _ _ _ => rfl) t.val t rfl d]
  have hf : cfg0.fresh 12 t.val = false := by
    obtain ⟨k, hk⟩ := Nat.exists_eq_succ_of_ne_zero ht
    rw [hk]; exact fresh_12 k (by omega)
  rw [hf, if_neg Bool.false_ne_true, after_12]

/-! ## The body's obligation -/

/-- The scratch row block. -/
abbrev scM : Memref sig .tc .vmem S512x1024 .f32 := Memref.whole cc0_scratch0

/-- The invariant owns the scratch row block at some contents. -/
theorem inv_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Each window's current staging buffer at point `t`. -/
abbrev ms_0 (t : Fin cfg0.N) : Memref sig .tc .vmem S1024x1024 .f32 := win0_0.stage (cfg0.slots t 0)
abbrev ms_1 (t : Fin cfg0.N) : Memref sig .tc .vmem S512x1024 .f32 := win0_1.stage (cfg0.slots t 1)
abbrev ms_2 (t : Fin cfg0.N) : Memref sig .tc .vmem S1x1024 .f32 := win0_2.stage (cfg0.slots t 2)
abbrev ms_3 (t : Fin cfg0.N) : Memref sig .tc .vmem S1024x2048 .f32 := win0_3.stage (cfg0.slots t 3)
abbrev ms_4 (t : Fin cfg0.N) : Memref sig .tc .vmem S1x1024 .f32 := win0_4.stage (cfg0.slots t 4)
abbrev ms_5 (t : Fin cfg0.N) : Memref sig .tc .vmem S8x128x128 .f32 := win0_5.stage (cfg0.slots t 5)
abbrev ms_6 (t : Fin cfg0.N) : Memref sig .tc .vmem S8x128x128 .f32 := win0_6.stage (cfg0.slots t 6)
abbrev ms_7 (t : Fin cfg0.N) : Memref sig .tc .vmem S128x1024 .f32 := win0_7.stage (cfg0.slots t 7)
abbrev ms_8 (t : Fin cfg0.N) : Memref sig .tc .vmem S128x1024 .f32 := win0_8.stage (cfg0.slots t 8)
abbrev ms_9 (t : Fin cfg0.N) : Memref sig .tc .vmem S1024x1024 .f32 := win0_9.stage (cfg0.slots t 9)
abbrev ms_10 (t : Fin cfg0.N) : Memref sig .tc .vmem S1024x1024 .f32 := win0_10.stage (cfg0.slots t 10)
abbrev ms_11 (t : Fin cfg0.N) : Memref sig .tc .vmem S512x1024 .f32 := win0_11.stage (cfg0.slots t 11)
abbrev ms_12 (t : Fin cfg0.N) : Memref sig .tc .vmem S512x1024 .f32 := win0_12.stage (cfg0.slots t 12)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- The sample rows' buffer at the first point's contents is what any later point hands back. -/
theorem leaves_11 (c : Dev nD) (t : Fin cfg0.N) :
    owns (c : Thread nD τ) (ms_11 t) fullShare ((inAt m c t0).first) ⊢ (dats m 0 c).leavesExact 11 t := by
  unfold Dat.leavesExact
  rw [after_11]
  cases hi : cfg0.idle 11 (cfg0.grid.coords t) with
  | false => exact .rfl
  | true =>
    cases hf : (cfg0.win 11).flush t with
    | true => exact .rfl
    | false =>
      have ht := (idle_iff_11 t).mp hi
      simp only [before_11 m c t ht]
      iintro H
      iexists (fun _ => Classical.arbitrary _)
      iexact H

/-- The sample rows' buffer at the first point's contents is what any later point hands back. -/
theorem leaves_12 (c : Dev nD) (t : Fin cfg0.N) :
    owns (c : Thread nD τ) (ms_12 t) fullShare ((inAt m c t0).vn) ⊢ (dats m 0 c).leavesExact 12 t := by
  unfold Dat.leavesExact
  rw [after_12]
  cases hi : cfg0.idle 12 (cfg0.grid.coords t) with
  | false => exact .rfl
  | true =>
    cases hf : (cfg0.win 12).flush t with
    | true => exact .rfl
    | false =>
      have ht := (idle_iff_12 t).mp hi
      simp only [before_12 m c t ht]
      iintro H
      iexists (fun _ => Classical.arbitrary _)
      iexact H

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  rw [show (dats m 0 c).leavesExact 0 t = owns (c : Thread nD τ) (ms_0 t) fullShare (iblk m c 0 t) from rfl,
    show (dats m 0 c).leavesExact 1 t = owns (c : Thread nD τ) (ms_1 t) fullShare (iblk m c 1 t) from rfl,
    show (dats m 0 c).leavesExact 2 t = owns (c : Thread nD τ) (ms_2 t) fullShare (iblk m c 2 t) from rfl,
    show (dats m 0 c).leavesExact 3 t = owns (c : Thread nD τ) (ms_3 t) fullShare (iblk m c 3 t) from rfl,
    show (dats m 0 c).leavesExact 4 t = owns (c : Thread nD τ) (ms_4 t) fullShare (iblk m c 4 t) from rfl,
    show (dats m 0 c).leavesExact 5 t = owns (c : Thread nD τ) (ms_5 t) fullShare (iblk m c 5 t) from rfl,
    show (dats m 0 c).leavesExact 6 t = owns (c : Thread nD τ) (ms_6 t) fullShare (iblk m c 6 t) from rfl,
    show (dats m 0 c).leavesExact 7 t = owns (c : Thread nD τ) (ms_7 t) fullShare (iblk m c 7 t) from rfl,
    show (dats m 0 c).leavesExact 8 t = owns (c : Thread nD τ) (ms_8 t) fullShare (iblk m c 8 t) from rfl,
    show (dats m 0 c).leavesExact 9 t = owns (c : Thread nD τ) (ms_9 t) fullShare (iblk m c 9 t) from rfl,
    show (dats m 0 c).leavesExact 10 t = owns (c : Thread nD τ) (ms_10 t) fullShare ((inAt m c t).yp) from rfl]
  by_cases h0 : t.val = 0
  · obtain rfl : t = t0 := Fin.ext h0
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_A c (grid0.coords t0) (iblk m c 0 t0) (iblk m c 1 t0) (iblk m c 2 t0) (iblk m c 3 t0) (iblk m c 4 t0) (iblk m c 5 t0) (iblk m c 6 t0) (iblk m c 7 t0) (iblk m c 8 t0) (iblk m c 9 t0) _ _ _ _ _ _ _ _ _ _ _ _ _ _ _ _ _ _ _ _ _ _ _ _ _ _ _ _ ((cond_iff t0).mpr rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 m c t0); iexact H11
    iapply (leaves_12 m c t0); iexact H12
  · simp only [before_11 m c t h0, before_12 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_B c (grid0.coords t) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ _ _ _ _ _ _ _ _ _ _ _ _ _ _ _ _ _ _ _ _ (fun h => h0 ((cond_iff t).mp h)) (inAt m c t0).first (inAt m c t0).vn Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves_11 m c t); iexact H11
    iapply (leaves_12 m c t); iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Gmlp

end
-- ==== Proof.GmlpHeads.lean ====
/-
  The spatial mixing of the gMLP call, head by head: each of the eight heads of either half tile is, at a row of a block of 128
  and a lane, the product of the head's weight row with the block's column, plus the bias.
-/
module

public import proofs.«01_k».proof.Proof.GmlpVals
public import Idealize.ShloMosaic.Lib.Pipeline.ValueKit

@[expose] public section

set_option maxRecDepth 16384

noncomputable section

namespace Cert.KernelIdeal.Gmlp

open Idealize.ShloMosaic Idealize.ShloMosaic.TcCoe
open Cert.KernelIdeal.Gen
open scoped BigOperators

/-- The mixing product of one head at an element. -/
def mixAt (s : BitVec 1) (w : FVec Ideal S128x128 .bf16) (vb : FVec Ideal S512x1024 .bf16) (bs bp : Vec Ideal S128x128 .f32)
    (o : ℕ) (ho : o + 128 ≤ 1024) (ch : Fin 4) (q c : Fin 128) : EReal :=
  (∑ k : Fin 128, w (ix2 q k) * vb (ix2 ⟨128 * ch.val + k.val, by omega⟩ ⟨o + c.val, by omega⟩))
    + Scalar.select s (bs (ix2 q c)) (bp (ix2 q c))

theorem v238_apply (I : In Ideal) (ch : Fin 4) (q c : Fin 128) :
    I.v238 (ix2 ⟨128 * ch.val + q.val, by omega⟩ c) = mixAt I.v0 I.v116 I.v220 I.v221 I.v223 0 (by omega) ch q c := by
  unfold In.v238 In.v225 In.v228 In.v231 In.v232 In.v220 mixAt k0_pay35 k0_pay32 k0_pay33 k0_pay34
  generalize k0_pay30 I.v24 I.v189 I.cst_94 I.v213 = vb
  generalize I.v0 = s
  generalize I.v116 = w
  generalize I.v221 = bs
  generalize I.v223 = bp
  have h2 : 256 + q.val - 128 - 128 = q.val := by omega
  have h3 : 384 + q.val - 128 - 128 - 128 = q.val := by omega
  fin_cases ch <;> pointwise [k0_pay31]
  · rw [dif_neg (by omega), dif_neg (by omega), dif_pos (by omega)]
    simp only [h2]
  · rw [dif_neg (by omega), dif_neg (by omega), dif_neg (by omega)]
    simp only [h3]

theorem v490_apply (I : In Ideal) (ch : Fin 4) (q c : Fin 128) :
    I.v490 (ix2 ⟨128 * ch.val + q.val, by omega⟩ c) = mixAt I.v0 I.v116 I.v472 I.v473 I.v475 0 (by omega) ch q c := by
  unfold In.v490 In.v480 In.v483 In.v486 In.v489 In.v472 mixAt k0_pay58 k0_pay54 k0_pay55 k0_pay56 k0_pay57
  generalize k0_pay52 I.v49 I.v444 I.v445 I.v468 = vb
  generalize I.v0 = s
  generalize I.v116 = w
  generalize I.v473 = bs
  generalize I.v475 = bp
  have h2 : 256 + q.val - 128 - 128 = q.val := by omega
  have h3 : 384 + q.val - 128 - 128 - 128 = q.val := by omega
  fin_cases ch <;> pointwise [k0_pay53]
  · rw [dif_neg (by omega), dif_neg (by omega), dif_pos (by omega)]
    simp only [h2]
  · rw [dif_neg (by omega), dif_neg (by omega), dif_neg (by omega)]
    simp only [h3]

theorem v256_apply (I : In Ideal) (ch : Fin 4) (q c : Fin 128) :
    I.v256 (ix2 ⟨128 * ch.val + q.val, by omega⟩ c) = mixAt I.v0 I.v126 I.v220 I.v239 I.v241 128 (by omega) ch q c := by
  unfold In.v256 mixAt
  generalize I.v0 = s
  generalize I.v126 = w
  generalize I.v220 = vb
  generalize I.v239 = bs
  generalize I.v241 = bp
  have h2 : 256 + q.val - 128 - 128 = q.val := by omega
  have h3 : 384 + q.val - 128 - 128 - 128 = q.val := by omega
  fin_cases ch <;> pointwise [k0_pay36]
  · rw [dif_neg (by omega), dif_neg (by omega), dif_pos (by omega)]
    simp only [h2]
  · rw [dif_neg (by omega), dif_neg (by omega), dif_neg (by omega)]
    simp only [h3]

theorem v274_apply (I : In Ideal) (ch : Fin 4) (q c : Fin 128) :
    I.v274 (ix2 ⟨128 * ch.val + q.val, by omega⟩ c) = mixAt I.v0 I.v136 I.v220 I.v257 I.v259 256 (by omega) ch q c := by
  unfold In.v274 mixAt
  generalize I.v0 = s
  generalize I.v136 = w
  generalize I.v220 = vb
  generalize I.v257 = bs
  generalize I.v259 = bp
  have h2 : 256 + q.val - 128 - 128 = q.val := by omega
  have h3 : 384 + q.val - 128 - 128 - 128 = q.val := by omega
  fin_cases ch <;> pointwise [k0_pay37]
  · rw [dif_neg (by omega), dif_neg (by omega), dif_pos (by omega)]
    simp only [h2]
  · rw [dif_neg (by omega), dif_neg (by omega), dif_neg (by omega)]
    simp only [h3]

theorem v292_apply (I : In Ideal) (ch : Fin 4) (q c : Fin 128) :
    I.v292 (ix2 ⟨128 * ch.val + q.val, by omega⟩ c) = mixAt I.v0 I.v146 I.v220 I.v275 I.v277 384 (by omega) ch q c := by
  unfold In.v292 mixAt
  generalize I.v0 = s
  generalize I.v146 = w
  generalize I.v220 = vb
  generalize I.v275 = bs
  generalize I.v277 = bp
  have h2 : 256 + q.val - 128 - 128 = q.val := by omega
  have h3 : 384 + q.val - 128 - 128 - 128 = q.val := by omega
  fin_cases ch <;> pointwise [k0_pay38]
  · rw [dif_neg (by omega), dif_neg (by omega), dif_pos (by omega)]
    simp only [h2]
  · rw [dif_neg (by omega), dif_neg (by omega), dif_neg (by omega)]
    simp only [h3]

theorem v310_apply (I : In Ideal) (ch : Fin 4) (q c : Fin 128) :
    I.v310 (ix2 ⟨128 * ch.val + q.val, by omega⟩ c) = mixAt I.v0 I.v156 I.v220 I.v293 I.v295 512 (by omega) ch q c := by
  unfold In.v310 mixAt
  generalize I.v0 = s
  generalize I.v156 = w
  generalize I.v220 = vb
  generalize I.v293 = bs
  generalize I.v295 = bp
  have h2 : 256 + q.val - 128 - 128 = q.val := by omega
  have h3 : 384 + q.val - 128 - 128 - 128 = q.val := by omega
  fin_cases ch <;> pointwise [k0_pay39]
  · rw [dif_neg (by omega), dif_neg (by omega), dif_pos (by omega)]
    simp only [h2]
  · rw [dif_neg (by omega), dif_neg (by omega), dif_neg (by omega)]
    simp only [h3]

theorem v328_apply (I : In Ideal) (ch : Fin 4) (q c : Fin 128) :
    I.v328 (ix2 ⟨128 * ch.val + q.val, by omega⟩ c) = mixAt I.v0 I.v166 I.v220 I.v311 I.v313 640 (by omega) ch q c := by
  unfold In.v328 In.v312 In.v314 mixAt
  generalize I.v0 = s
  generalize I.v166 = w
  generalize I.v220 = vb
  generalize I.v311 = bs
  generalize I.v313 = bp
  have h2 : 256 + q.val - 128 - 128 = q.val := by omega
  have h3 : 384 + q.val - 128 - 128 - 128 = q.val := by omega
  fin_cases ch <;> pointwise [k0_pay42, k0_pay40, k0_pay41]
  · rw [dif_neg (by omega), dif_neg (by omega), dif_pos (by omega)]
    simp only [h2]
  · rw [dif_neg (by omega), dif_neg (by omega), dif_neg (by omega)]
    simp only [h3]

theorem v346_apply (I : In Ideal) (ch : Fin 4) (q c : Fin 128) :
    I.v346 (ix2 ⟨128 * ch.val + q.val, by omega⟩ c) = mixAt I.v0 I.v176 I.v220 I.v329 I.v331 768 (by omega) ch q c := by
  unfold In.v346 mixAt
  generalize I.v0 = s
  generalize I.v176 = w
  generalize I.v220 = vb
  generalize I.v329 = bs
  generalize I.v331 = bp
  have h2 : 256 + q.val - 128 - 128 = q.val := by omega
  have h3 : 384 + q.val - 128 - 128 - 128 = q.val := by omega
  fin_cases ch <;> pointwise [k0_pay43]
  · rw [dif_neg (by omega), dif_neg (by omega), dif_pos (by omega)]
    simp only [h2]
  · rw [dif_neg (by omega), dif_neg (by omega), dif_neg (by omega)]
    simp only [h3]

theorem v364_apply (I : In Ideal) (ch : Fin 4) (q c : Fin 128) :
    I.v364 (ix2 ⟨128 * ch.val + q.val, by omega⟩ c) = mixAt I.v0 I.v186 I.v220 I.v347 I.v349 896 (by omega) ch q c := by
  unfold In.v364 In.v351 In.v354 In.v356 mixAt
  generalize I.v0 = s
  generalize I.v186 = w
  generalize I.v220 = vb
  generalize I.v347 = bs
  generalize I.v349 = bp
  have h2 : 256 + q.val - 128 - 128 = q.val := by omega
  have h3 : 384 + q.val - 128 - 128 - 128 = q.val := by omega
  fin_cases ch <;> pointwise [k0_pay47, k0_pay44, k0_pay45, k0_pay46]
  · rw [dif_neg (by omega), dif_neg (by omega), dif_pos (by omega)]
    simp only [h2]
  · rw [dif_neg (by omega), dif_neg (by omega), dif_neg (by omega)]
    simp only [h3]

theorem v508_apply (I : In Ideal) (ch : Fin 4) (q c : Fin 128) :
    I.v508 (ix2 ⟨128 * ch.val + q.val, by omega⟩ c) = mixAt I.v0 I.v126 I.v472 I.v491 I.v493 128 (by omega) ch q c := by
  unfold In.v508 mixAt
  generalize I.v0 = s
  generalize I.v126 = w
  generalize I.v472 = vb
  generalize I.v491 = bs
  generalize I.v493 = bp
  have h2 : 256 + q.val - 128 - 128 = q.val := by omega
  have h3 : 384 + q.val - 128 - 128 - 128 = q.val := by omega
  fin_cases ch <;> pointwise [k0_pay59]
  · rw [dif_neg (by omega), dif_neg (by omega), dif_pos (by omega)]
    simp only [h2]
  · rw [dif_neg (by omega), dif_neg (by omega), dif_neg (by omega)]
    simp only [h3]

theorem v526_apply (I : In Ideal) (ch : Fin 4) (q c : Fin 128) :
    I.v526 (ix2 ⟨128 * ch.val + q.val, by omega⟩ c) = mixAt I.v0 I.v136 I.v472 I.v509 I.v511 256 (by omega) ch q c := by
  unfold In.v526 mixAt
  generalize I.v0 = s
  generalize I.v136 = w
  generalize I.v472 = vb
  generalize I.v509 = bs
  generalize I.v511 = bp
  have h2 : 256 + q.val - 128 - 128 = q.val := by omega
  have h3 : 384 + q.val - 128 - 128 - 128 = q.val := by omega
  fin_cases ch <;> pointwise [k0_pay60]
  · rw [dif_neg (by omega), dif_neg (by omega), dif_pos (by omega)]
    simp only [h2]
  · rw [dif_neg (by omega), dif_neg (by omega), dif_neg (by omega)]
    simp only [h3]

theorem v544_apply (I : In Ideal) (ch : Fin 4) (q c : Fin 128) :
    I.v544 (ix2 ⟨128 * ch.val + q.val, by omega⟩ c) = mixAt I.v0 I.v146 I.v472 I.v527 I.v529 384 (by omega) ch q c := by
  unfold In.v544 In.v528 mixAt
  generalize I.v0 = s
  generalize I.v146 = w
  generalize I.v472 = vb
  generalize I.v527 = bs
  generalize I.v529 = bp
  have h2 : 256 + q.val - 128 - 128 = q.val := by omega
  have h3 : 384 + q.val - 128 - 128 - 128 = q.val := by omega
  fin_cases ch <;> pointwise [k0_pay62, k0_pay61]
  · rw [dif_neg (by omega), dif_neg (by omega), dif_pos (by omega)]
    simp only [h2]
  · rw [dif_neg (by omega), dif_neg (by omega), dif_neg (by omega)]
    simp only [h3]

theorem v562_apply (I : In Ideal) (ch : Fin 4) (q c : Fin 128) :
    I.v562 (ix2 ⟨128 * ch.val + q.val, by omega⟩ c) = mixAt I.v0 I.v156 I.v472 I.v545 I.v547 512 (by omega) ch q c := by
  unfold In.v562 mixAt
  generalize I.v0 = s
  generalize I.v156 = w
  generalize I.v472 = vb
  generalize I.v545 = bs
  generalize I.v547 = bp
  have h2 : 256 + q.val - 128 - 128 = q.val := by omega
  have h3 : 384 + q.val - 128 - 128 - 128 = q.val := by omega
  fin_cases ch <;> pointwise [k0_pay63]
  · rw [dif_neg (by omega), dif_neg (by omega), dif_pos (by omega)]
    simp only [h2]
  · rw [dif_neg (by omega), dif_neg (by omega), dif_neg (by omega)]
    simp only [h3]

theorem v580_apply (I : In Ideal) (ch : Fin 4) (q c : Fin 128) :
    I.v580 (ix2 ⟨128 * ch.val + q.val, by omega⟩ c) = mixAt I.v0 I.v166 I.v472 I.v563 I.v565 640 (by omega) ch q c := by
  unfold In.v580 In.cst_244 In.v567 In.v570 In.v571 mixAt
  generalize I.v0 = s
  generalize I.v166 = w
  generalize I.v472 = vb
  generalize I.v563 = bs
  generalize I.v565 = bp
  have h2 : 256 + q.val - 128 - 128 = q.val := by omega
  have h3 : 384 + q.val - 128 - 128 - 128 = q.val := by omega
  fin_cases ch <;> pointwise [k0_pay67, k0_pay64, k0_pay65, k0_pay66]
  · rw [dif_neg (by omega), dif_neg (by omega), dif_pos (by omega)]
    simp only [h2]
  · rw [dif_neg (by omega), dif_neg (by omega), dif_neg (by omega)]
    simp only [h3]

theorem v598_apply (I : In Ideal) (ch : Fin 4) (q c : Fin 128) :
    I.v598 (ix2 ⟨128 * ch.val + q.val, by omega⟩ c) = mixAt I.v0 I.v176 I.v472 I.v581 I.v583 768 (by omega) ch q c := by
  unfold In.v598 mixAt
  generalize I.v0 = s
  generalize I.v176 = w
  generalize I.v472 = vb
  generalize I.v581 = bs
  generalize I.v583 = bp
  have h2 : 256 + q.val - 128 - 128 = q.val := by omega
  have h3 : 384 + q.val - 128 - 128 - 128 = q.val := by omega
  fin_cases ch <;> pointwise [k0_pay68]
  · rw [dif_neg (by omega), dif_neg (by omega), dif_pos (by omega)]
    simp only [h2]
  · rw [dif_neg (by omega), dif_neg (by omega), dif_neg (by omega)]
    simp only [h3]

theorem v616_apply (I : In Ideal) (ch : Fin 4) (q c : Fin 128) :
    I.v616 (ix2 ⟨128 * ch.val + q.val, by omega⟩ c) = mixAt I.v0 I.v186 I.v472 I.v599 I.v601 896 (by omega) ch q c := by
  unfold In.v616 In.cst_262 In.v603 In.v606 In.v609 In.v612 In.v613 mixAt
  generalize I.v0 = s
  generalize I.v186 = w
  generalize I.v472 = vb
  generalize I.v599 = bs
  generalize I.v601 = bp
  have h2 : 256 + q.val - 128 - 128 = q.val := by omega
  have h3 : 384 + q.val - 128 - 128 - 128 = q.val := by omega
  fin_cases ch <;> pointwise [k0_pay74, k0_pay69, k0_pay70, k0_pay71, k0_pay72, k0_pay73]
  · rw [dif_neg (by omega), dif_neg (by omega), dif_pos (by omega)]
    simp only [h2]
  · rw [dif_neg (by omega), dif_neg (by omega), dif_neg (by omega)]
    simp only [h3]

end Cert.KernelIdeal.Gmlp

end
-- ==== Proof.GmlpMask.lean ====
/-
  The masked weights of the gMLP call: a prompt tile takes the lower triangle of a head's weight, the sample tile the lower
  triangle within each sixteen rows.
-/
module

public import proofs.«01_k».proof.Proof.GmlpVals
public import Idealize.ShloMosaic.Lib.Pipeline.ValueKit

@[expose] public section

set_option maxRecDepth 16384

noncomputable section

namespace Cert.KernelIdeal.Gmlp

open Idealize.ShloMosaic Idealize.ShloMosaic.TcCoe
open Cert.KernelIdeal.Gen
open scoped BigOperators

/-- The number of a row's block of sixteen, as the body computes it. -/
theorem row_block : ∀ q : Fin 128, (k0_pay14 : IVec S128x128 32) (ix2 q 0) = BitVec.ofNat 32 (q.val / 16) := by
  decide +kernel

/-- The number of a lane's block of sixteen, as the body computes it. -/
def laneBlock : IVec S128x128 32 :=
  let v55 := iota .tc S128x128 32 [1] iota_S128x128_d1_w32
  let v82 := divsi v55 (broadcast S128x128 16#32)
  select (andi (cmpi .ne (subi (extui 32 (cmpi .sgt v55 (broadcast S128x128 0#32)) natLt_1_32)
      (extui 32 (cmpi .slt v55 (broadcast S128x128 0#32)) natLt_1_32))
      (broadcast S128x128 (Scalar.subi (Scalar.extui (Scalar.cmpi .sgt 16#32 0#32)) (Scalar.extui (Scalar.cmpi .slt 16#32 0#32)))))
    (cmpi .ne (remsi v55 (broadcast S128x128 16#32)) (broadcast S128x128 0#32))) (subi v82 (broadcast S128x128 1#32)) v82

theorem lane_block : ∀ k : Fin 128, laneBlock (ix2 0 k) = BitVec.ofNat 32 (k.val / 16) := by
  decide +kernel

theorem le_word : ∀ q k : Fin 128, IntOp.cmpi .sle (BitVec.ofNat 32 k.val) (BitVec.ofNat 32 q.val) = if k.val ≤ q.val then 1#1 else 0#1 := by
  decide +kernel

theorem eq_word : ∀ a b : Fin 8, Scalar.cmpi .eq (BitVec.ofNat 32 a.val) (BitVec.ofNat 32 b.val) = if a.val = b.val then 1#1 else 0#1 := by
  decide +kernel

theorem v56_apply (I : In Ideal) (q k : Fin 128) : I.v56 (ix2 q k) = if k.val ≤ q.val then 1#1 else 0#1 := by
  unfold In.v56
  pointwise [k0_pay13]
  exact le_word q k

theorem v106_apply (I : In Ideal) (q k : Fin 128) :
    I.v106 (ix2 q k) = if k.val ≤ q.val ∧ q.val / 16 = k.val / 16 then 1#1 else 0#1 := by
  have e : I.v106 (ix2 q k) = Scalar.andi (Scalar.cmpi .eq (k0_pay14 (ix2 q 0)) (laneBlock (ix2 0 k))) (I.v56 (ix2 q k)) := rfl
  have h : Scalar.cmpi .eq (BitVec.ofNat 32 (q.val / 16)) (BitVec.ofNat 32 (k.val / 16)) = if q.val / 16 = k.val / 16 then 1#1 else 0#1 :=
    eq_word ⟨q.val / 16, by omega⟩ ⟨k.val / 16, by omega⟩
  rw [e, row_block, lane_block, v56_apply, h]
  by_cases h1 : k.val ≤ q.val <;> by_cases h2 : q.val / 16 = k.val / 16
  · rw [if_pos h1, if_pos h2, if_pos ⟨h1, h2⟩]; rfl
  · rw [if_pos h1, if_neg h2, if_neg (fun h => h2 h.2)]; rfl
  · rw [if_neg h1, if_pos h2, if_neg (fun h => h1 h.1)]; rfl
  · rw [if_neg h1, if_neg h2, if_neg (fun h => h1 h.1)]; rfl

/-- A head's masked weight at a row and a column: the sample's when `s` is set, the prompt's when not. -/
def wAt (s : BitVec 1) (xs xp : Vec Ideal S1x128x128 .f32) (q k : Fin 128) : EReal :=
  Scalar.select s (if k.val ≤ q.val ∧ q.val / 16 = k.val / 16 then xs (ix3 0 q k) else 0) (if k.val ≤ q.val then xp (ix3 0 q k) else 0)

theorem sel (P : Prop) [Decidable P] (a b : EReal) : Scalar.select (if P then 1#1 else 0#1) a b = if P then a else b := by
  by_cases h : P
  · rw [if_pos h, if_pos h]; rfl
  · rw [if_neg h, if_neg h]; rfl

theorem v116_apply (I : In Ideal) (q k : Fin 128) : I.v116 (ix2 q k) = wAt I.v0 I.v107 I.v111 q k := by
  have e1 := v56_apply I q k
  have e2 := v106_apply I q k
  unfold In.v116 k0_pay17 wAt
  unfold In.v106 at e2
  generalize k0_pay16 I.v55 I.v56 I.v80 I.c16_i32_29 I.v81 = m at e2 ⊢
  generalize I.v56 = l at e1 ⊢
  pointwise
  rw [e1, e2, sel, sel]

theorem v126_apply (I : In Ideal) (q k : Fin 128) : I.v126 (ix2 q k) = wAt I.v0 I.v117 I.v121 q k := by
  have e1 := v56_apply I q k
  have e2 := v106_apply I q k
  unfold In.v126 In.v120 k0_pay19 k0_pay18 wAt
  unfold In.v106 at e2
  generalize k0_pay16 I.v55 I.v56 I.v80 I.c16_i32_29 I.v81 = m at e2 ⊢
  generalize I.v56 = l at e1 ⊢
  pointwise
  rw [e1, e2, sel, sel]

theorem v136_apply (I : In Ideal) (q k : Fin 128) : I.v136 (ix2 q k) = wAt I.v0 I.v127 I.v131 q k := by
  have e1 := v56_apply I q k
  have e2 := v106_apply I q k
  unfold In.v136 k0_pay20 wAt
  generalize I.v106 = m at e2 ⊢
  generalize I.v56 = l at e1 ⊢
  pointwise
  rw [e1, e2, sel, sel]

theorem v146_apply (I : In Ideal) (q k : Fin 128) : I.v146 (ix2 q k) = wAt I.v0 I.v137 I.v141 q k := by
  have e1 := v56_apply I q k
  have e2 := v106_apply I q k
  unfold In.v146 k0_pay21 wAt
  generalize I.v106 = m at e2 ⊢
  generalize I.v56 = l at e1 ⊢
  pointwise
  rw [e1, e2, sel, sel]

theorem v156_apply (I : In Ideal) (q k : Fin 128) : I.v156 (ix2 q k) = wAt I.v0 I.v147 I.v151 q k := by
  have e1 := v56_apply I q k
  have e2 := v106_apply I q k
  unfold In.v156 In.v155 k0_pay23 k0_pay22 wAt
  generalize I.v106 = m at e2 ⊢
  generalize I.v56 = l at e1 ⊢
  pointwise
  rw [e1, e2, sel, sel]

theorem v166_apply (I : In Ideal) (q k : Fin 128) : I.v166 (ix2 q k) = wAt I.v0 I.v157 I.v161 q k := by
  have e1 := v56_apply I q k
  have e2 := v106_apply I q k
  unfold In.v166 k0_pay24 wAt
  generalize I.v106 = m at e2 ⊢
  generalize I.v56 = l at e1 ⊢
  pointwise
  rw [e1, e2, sel, sel]

theorem v176_apply (I : In Ideal) (q k : Fin 128) : I.v176 (ix2 q k) = wAt I.v0 I.v167 I.v171 q k := by
  have e1 := v56_apply I q k
  have e2 := v106_apply I q k
  unfold In.v176 k0_pay25 wAt
  generalize I.v106 = m at e2 ⊢
  generalize I.v56 = l at e1 ⊢
  pointwise
  rw [e1, e2, sel, sel]

theorem v186_apply (I : In Ideal) (q k : Fin 128) : I.v186 (ix2 q k) = wAt I.v0 I.v177 I.v181 q k := by
  have e1 := v56_apply I q k
  have e2 := v106_apply I q k
  unfold In.v186 k0_pay26 wAt
  generalize I.v106 = m at e2 ⊢
  generalize I.v56 = l at e1 ⊢
  pointwise
  rw [e1, e2, sel, sel]

end Cert.KernelIdeal.Gmlp

end
-- ==== Proof.GmlpRows.lean ====
/-
  A row of the gMLP layer: its norm, its two branches, the mixing of a block's rows, and the two forms of the gelu, the
  kernel's folded quotient and the reference's with the hyperbolic tangent, which agree everywhere.
-/
module

public import proofs.«01_k».proof.Proof.Rows

@[expose] public section

set_option maxRecDepth 16384

noncomputable section

namespace Cert.Gmlp

open Idealize.ShloMosaic
open scoped BigOperators

/-- The reference's gelu. -/
def rgelu (z : EReal) : EReal :=
  z * (Ideal.ofBits .f32 0x3F000000#32
    * (1 + Ideal.tanh (Ideal.ofBits .f32 0x3F4C422A#32 * (z + Ideal.ofBits .f32 0x3D372713#32 * (z * z * z)))))

/-- The kernel's gelu, over its two folded constants. -/
def kgelu (k kc z : EReal) : EReal := Ideal.div z (1 + Ideal.exp2 (z * (k + kc * (z * z))))

theorem chalf : Ideal.ofBits .f32 0x3F000000#32 = ((1 / 2 : ℝ) : EReal) := by
  simp [Ideal.ofBits, Ideal.ieee]; rw [← EReal.coe_mul]; norm_num
theorem cC : Ideal.ofBits .f32 0x3F4C422A#32 = ((6693141 / 8388608 : ℝ) : EReal) := by
  simp [Ideal.ofBits, Ideal.ieee]; rw [← EReal.coe_mul]; norm_num
theorem cA : Ideal.ofBits .f32 0x3D372713#32 = ((12003091 / 268435456 : ℝ) : EReal) := by
  simp [Ideal.ofBits, Ideal.ieee]; rw [← EReal.coe_mul]; norm_num

/-- The two forms at a real number. -/
theorem gelu_real (c a : ℝ) (x : ℝ) :
    x / (1 + (2 : ℝ) ^ (x * (-2 * c * (Real.log 2)⁻¹ + -2 * c * (Real.log 2)⁻¹ * a * (x * x))))
      = x * (1 / 2 * (1 + Real.tanh (c * (x + a * (x * x * x))))) := by
  have hl : Real.log 2 ≠ 0 := (Real.log_pos (by norm_num)).ne'
  rw [Real.rpow_def_of_pos (by norm_num)]
  rw [show Real.log 2 * (x * (-2 * c * (Real.log 2)⁻¹ + -2 * c * (Real.log 2)⁻¹ * a * (x * x)))
      = -(2 * (c * (x + a * (x * x * x)))) by field_simp; ring]
  generalize c * (x + a * (x * x * x)) = u
  rw [Real.tanh_eq_sinh_div_cosh, Real.sinh_eq, Real.cosh_eq, two_mul, neg_add, Real.exp_add, Real.exp_neg]
  have h := Real.exp_pos u
  have h2 : 1 + (Real.exp u)⁻¹ * (Real.exp u)⁻¹ ≠ 0 := by positivity
  have h3 : Real.exp u + (Real.exp u)⁻¹ ≠ 0 := by positivity
  field_simp
  ring

theorem exp2_coe (x : ℝ) : Ideal.exp2 (x : EReal) = ((2 : ℝ) ^ x : ℝ) := rfl
theorem tanh_coe (x : ℝ) : Ideal.tanh (x : EReal) = (Real.tanh x : ℝ) := rfl

/-- The kernel's gelu with the constants it folds is the reference's, at every extended real. -/
theorem kgelu_eq (z : EReal) :
    kgelu ((-2 * (6693141 / 8388608) * (Real.log 2)⁻¹ : ℝ) : EReal)
      ((-2 * (6693141 / 8388608) * (Real.log 2)⁻¹ * (12003091 / 268435456) : ℝ) : EReal) z = rgelu z := by
  have hl : 0 < Real.log 2 := Real.log_pos (by norm_num)
  unfold kgelu rgelu
  rw [chalf, cC, cA]
  have hkc : -2 * (6693141 / 8388608) * (Real.log 2)⁻¹ * (12003091 / 268435456) < (0 : ℝ) := by
    have : 0 < (Real.log 2)⁻¹ := inv_pos.mpr hl
    nlinarith
  induction z with
  | bot =>
    rw [EReal.bot_mul_bot, EReal.coe_mul_top_of_neg hkc, EReal.add_bot, EReal.bot_mul_bot, EReal.top_mul_bot,
      EReal.coe_mul_bot_of_pos (by norm_num), EReal.bot_add, EReal.coe_mul_bot_of_pos (by norm_num)]
    rw [show Ideal.exp2 ⊤ = ⊤ from rfl, show Ideal.tanh ⊥ = ((-1 : ℝ) : EReal) from rfl, ← EReal.coe_one, EReal.coe_add_top,
      ← EReal.coe_add, ← EReal.coe_mul]
    norm_num [Ideal.div]
  | top =>
    rw [EReal.top_mul_top, EReal.coe_mul_top_of_neg hkc, EReal.add_bot, EReal.top_mul_bot, EReal.top_mul_top,
      EReal.coe_mul_top_of_pos (by norm_num), EReal.top_add_top, EReal.coe_mul_top_of_pos (by norm_num)]
    rw [show Ideal.exp2 ⊥ = 0 from rfl, show Ideal.tanh ⊤ = ((1 : ℝ) : EReal) from rfl, add_zero, ← EReal.coe_one,
      ← EReal.coe_add, ← EReal.coe_mul]
    norm_num [Ideal.div]
  | coe x =>
    have e := gelu_real (6693141 / 8388608) (12003091 / 268435456) x
    have h2 : 1 + (2 : ℝ) ^ (x * (-2 * (6693141 / 8388608) * (Real.log 2)⁻¹ + -2 * (6693141 / 8388608) * (Real.log 2)⁻¹ * (12003091 / 268435456) * (x * x))) ≠ 0 := by
      positivity
    simp only [← EReal.coe_mul, ← EReal.coe_add]
    rw [exp2_coe, tanh_coe, ← EReal.coe_one]
    simp only [← EReal.coe_mul, ← EReal.coe_add]
    unfold Ideal.div
    rw [if_neg (by exact_mod_cast h2), ← EReal.coe_inv, ← EReal.coe_mul, ← div_eq_mul_inv, e]

/-- The norm's row. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- A lane of the first product. -/
def proj (x g : Fin 1024 → EReal) (w : Fin 1024 → Fin 2048 → EReal) (f : Fin 2048) : EReal := ∑ k, rms x g k * w k f

/-- The layer norm of a row of the value branch. -/
def nrm (z vg : Fin 1024 → EReal) (j : Fin 1024) : EReal :=
  (z j - Ideal.div (∑ l, z l) (Ideal.ofBits .f32 0x44800000#32))
    * Ideal.rsqrt (Ideal.div (∑ k, (z k - Ideal.div (∑ l, z l) (Ideal.ofBits .f32 0x44800000#32))
        * (z k - Ideal.div (∑ l, z l) (Ideal.ofBits .f32 0x44800000#32))) (Ideal.ofBits .f32 0x44800000#32) + Ideal.ofBits .f32 0x358637BD#32)
    * vg j

/-- The value branch of a row. -/
def val (x g : Fin 1024 → EReal) (w : Fin 1024 → Fin 2048 → EReal) (vg : Fin 1024 → EReal) : Fin 1024 → EReal :=
  nrm (fun j => rgelu (proj x g w ⟨1024 + j.val, by omega⟩)) vg

/-- The gate of a row. -/
def gate (x g : Fin 1024 → EReal) (w : Fin 1024 → Fin 2048 → EReal) (f : Fin 1024) : EReal := rgelu (proj x g w ⟨f.val, by omega⟩)

/-- A row of the layer: the residual, plus the gated mixed row times the output weight. -/
def row (x g : Fin 1024 → EReal) (w : Fin 1024 → Fin 2048 → EReal) (mixed : Fin 1024 → EReal) (wout : Fin 1024 → Fin 1024 → EReal)
    (j : Fin 1024) : EReal :=
  x j + ∑ f, gate x g w f * mixed f * wout f j

/-- A sum over the lanes, head by head. -/
theorem sum_heads (a : EReal) (f : Fin 1024 → EReal) :
    a + (∑ k : Fin 128, f ⟨k.val, by omega⟩ + ∑ k : Fin 128, f ⟨128 + k.val, by omega⟩)
      + (∑ k : Fin 128, f ⟨256 + k.val, by omega⟩ + ∑ k : Fin 128, f ⟨384 + k.val, by omega⟩)
      + (∑ k : Fin 128, f ⟨512 + k.val, by omega⟩ + ∑ k : Fin 128, f ⟨640 + k.val, by omega⟩)
      + (∑ k : Fin 128, f ⟨768 + k.val, by omega⟩ + ∑ k : Fin 128, f ⟨896 + k.val, by omega⟩) = a + ∑ k, f k := by
  rw [show (∑ k, f k) = ∑ k : Fin (128 + 128 + 128 + 128 + 128 + 128 + 128 + 128), f ⟨k.val, by omega⟩ from rfl]
  rw [Fin.sum_univ_add, Fin.sum_univ_add, Fin.sum_univ_add, Fin.sum_univ_add, Fin.sum_univ_add, Fin.sum_univ_add, Fin.sum_univ_add]
  simp only [← add_assoc]
  rfl

/-- A sum over a block's 128 rows of which only those of a row's sixteen, up to that row, count. -/
theorem sum_sixteen (q : Fin 128) (w : Fin 128 → EReal) (v : Fin 128 → EReal) :
    ∑ k : Fin 128, (if k.val ≤ q.val ∧ q.val / 16 = k.val / 16 then w k else 0) * v k
      = ∑ k : Fin 16, (if k.val ≤ q.val % 16 then w ⟨16 * (q.val / 16) + k.val, by omega⟩ else 0) * v ⟨16 * (q.val / 16) + k.val, by omega⟩ := by
  symm
  refine Finset.sum_of_injOn (fun k : Fin 16 => (⟨16 * (q.val / 16) + k.val, by omega⟩ : Fin 128)) ?_ (fun _ _ => Finset.mem_coe.2 (Finset.mem_univ _)) ?_ ?_
  · intro a _ b _ h
    have := congrArg Fin.val h
    simp only at this
    exact Fin.ext (by omega)
  · intro k _ hk
    rw [if_neg, zero_mul]
    rintro ⟨h1, h2⟩
    refine hk ⟨⟨k.val % 16, by omega⟩, by simp, Fin.ext ?_⟩
    simp only
    omega
  · intro k _
    have : (k.val ≤ q.val % 16) ↔ (16 * (q.val / 16) + k.val ≤ q.val ∧ q.val / 16 = (16 * (q.val / 16) + k.val) / 16) := by omega
    simp only [this]

end Cert.Gmlp

end
-- ==== Proof.GmlpTile.lean ====
/-
  The half tiles of the gMLP call at an element, read down to the blocks: both branches, the mixed rows and the output.
-/
module

public import proofs.«01_k».proof.Proof.GmlpHeads
public import proofs.«01_k».proof.Proof.GmlpMask
public import proofs.«01_k».proof.Proof.GmlpRows
public import Idealize.ShloMosaic.Lib.Pipeline.ValueKit

@[expose] public section

set_option maxRecDepth 16384

noncomputable section

namespace Cert.KernelIdeal.Gmlp

open Idealize.ShloMosaic Idealize.ShloMosaic.TcCoe
open Cert.KernelIdeal.Gen
open Cert.Gmlp (rgelu kgelu rms proj nrm val gate row)
open scoped BigOperators

theorem named_k : (Named.named κ "gelu_k" 0xC0135761#32 : Ideal .f32) = ((-2 * (6693141 / 8388608) * (Real.log 2)⁻¹ : ℝ) : EReal) :=
  IdealRules.named_const.ideal_named_scalar _ _ _ _ rfl
theorem named_kc : (Named.named κ "gelu_kc" 0xBDD2D3E8#32 : Ideal .f32)
    = ((-2 * (6693141 / 8388608) * (Real.log 2)⁻¹ * (12003091 / 268435456) : ℝ) : EReal) :=
  IdealRules.named_const.ideal_named_scalar _ _ _ _ rfl

/-- The body's gelu over its two named constants is the reference's. -/
theorem gel_eq (z : Ideal .f32) :
    Ideal.div z (1 + FloatOps.exp2 (z * (Named.named κ "gelu_k" 0xC0135761#32 + Named.named κ "gelu_kc" 0xBDD2D3E8#32 * (z * z)))) = rgelu z := by
  rw [named_k, named_kc]
  exact Cert.Gmlp.kgelu_eq z

/-- The first half tile's rows, and the second's. -/
def In.xa (I : In Ideal) (r : Fin 512) (k : Fin 1024) : EReal := I.v5 (ix2 r k)
def In.xb (I : In Ideal) (r : Fin 512) (k : Fin 1024) : EReal := I.x1 (ix2 ⟨512 + r.val, by omega⟩ k)
def In.g (I : In Ideal) (k : Fin 1024) : EReal := I.x3 (ix2 0 k)
def In.win (I : In Ideal) (k : Fin 1024) (f : Fin 2048) : EReal := I.x4 (ix2 k f)
def In.vg (I : In Ideal) (k : Fin 1024) : EReal := I.x5 (ix2 0 k)
def In.wo (I : In Ideal) (f j : Fin 1024) : EReal := I.x10 (ix2 f j)

theorem v24_apply (I : In Ideal) (r : Fin 512) (c : Fin 1024) : I.v24 (ix2 r c) = proj (I.xa r) I.g I.win ⟨1024 + c.val, by omega⟩ := by
  unfold In.v24 k0_pay4 k0_pay3 proj rms In.xa In.g In.win In.v6 In.v21
  rw [show k0_pay2 I.i I.v1 I.v3 = I.v5 from rfl]
  generalize I.v5 = x
  pointwise

theorem v28_apply (I : In Ideal) (r : Fin 512) (c : Fin 1024) : I.v28 (ix2 r c) = proj (I.xa r) I.g I.win ⟨c.val, by omega⟩ := by
  unfold In.v28 k0_pay5 k0_pay3 proj rms In.xa In.g In.win In.v6 In.v25
  rw [show k0_pay2 I.i I.v1 I.v3 = I.v5 from rfl]
  generalize I.v5 = x
  pointwise

theorem v49_apply (I : In Ideal) (r : Fin 512) (c : Fin 1024) : I.v49 (ix2 r c) = proj (I.xb r) I.g I.win ⟨1024 + c.val, by omega⟩ := by
  unfold In.v49 In.v35 In.v36 In.v30 In.v32 k0_pay11 k0_pay10 proj rms In.xb In.g In.win In.v29 In.v31 In.v46
  pointwise [k0_pay6, k0_pay7, k0_pay8, k0_pay9]

theorem v53_apply (I : In Ideal) (r : Fin 512) (c : Fin 1024) : I.v53 (ix2 r c) = proj (I.xb r) I.g I.win ⟨c.val, by omega⟩ := by
  unfold In.v53 In.v35 In.v36 In.v30 In.v32 k0_pay12 k0_pay10 proj rms In.xb In.g In.win In.v29 In.v31 In.v50
  pointwise [k0_pay6, k0_pay7, k0_pay8, k0_pay9]

theorem v220_apply (I : In Ideal) (r : Fin 512) (c : Fin 1024) : I.v220 (ix2 r c) = val (I.xa r) I.g I.win I.vg c := by
  have e := fun c => v24_apply I r c
  unfold In.v220 In.v189 In.cst_94 val In.vg In.v213
  generalize I.v24 = x at e ⊢
  pointwise [k0_pay30, k0_pay28, k0_pay27]
  simp only [gel_eq, e]
  rfl

theorem vn_apply (I : In Ideal) (r : Fin 512) (c : Fin 1024) : I.vn (ix2 r c) = val (I.xa r) I.g I.win I.vg c := by
  have e := fun c => v24_apply I r c
  unfold In.vn In.v189 In.cst_94 val In.vg In.v213
  generalize I.v24 = x at e ⊢
  pointwise [k0_pay29, k0_pay28, k0_pay27]
  simp only [gel_eq, e]
  rfl

theorem v472_apply (I : In Ideal) (r : Fin 512) (c : Fin 1024) : I.v472 (ix2 r c) = val (I.xb r) I.g I.win I.vg c := by
  have e := fun c => v49_apply I r c
  unfold In.v472 In.v444 In.v445 val In.vg In.v468
  generalize I.v49 = x at e ⊢
  pointwise [k0_pay52, k0_pay50, k0_pay51]
  simp only [gel_eq, e]
  rfl

/-- The weight and the bias of a row of a block, lane by lane. -/
def In.wk (I : In Ideal) (q : Fin 128) (f : Fin 1024) (k : Fin 128) : EReal :=
  Scalar.select I.v0 (if k.val ≤ q.val ∧ q.val / 16 = k.val / 16 then I.x7 (ix3 ⟨f.val / 128, by omega⟩ q k) else 0)
    (if k.val ≤ q.val then I.x6 (ix3 ⟨f.val / 128, by omega⟩ q k) else 0)
def In.bk (I : In Ideal) (q : Fin 128) (f : Fin 1024) : EReal := Scalar.select I.v0 (I.x9 (ix2 q f)) (I.x8 (ix2 q f))

/-- The mixed row of a block, over the block's value rows. -/
def In.mixed (I : In Ideal) (x : Fin 512 → Fin 1024 → EReal) (ch : Fin 4) (q : Fin 128) (f : Fin 1024) : EReal :=
  (∑ k : Fin 128, I.wk q f k * val (x ⟨128 * ch.val + k.val, by omega⟩) I.g I.win I.vg f) + I.bk q f

theorem h238 (I : In Ideal) (ch : Fin 4) (q c : Fin 128) :
    I.v238 (ix2 ⟨128 * ch.val + q.val, by omega⟩ c) = I.mixed I.xa ch q ⟨c.val, by omega⟩ := by
  have e : c.val / 128 = 0 := by omega
  rw [v238_apply]
  unfold mixAt In.mixed In.wk In.bk
  simp only [v116_apply, v220_apply, e, Nat.zero_add]
  unfold wAt In.v107 In.v111 In.v221 In.v223
  pointwise

theorem h256 (I : In Ideal) (ch : Fin 4) (q c : Fin 128) :
    I.v256 (ix2 ⟨128 * ch.val + q.val, by omega⟩ c) = I.mixed I.xa ch q ⟨128 + c.val, by omega⟩ := by
  have e : (128 + c.val) / 128 = 1 := by omega
  rw [v256_apply]
  unfold mixAt In.mixed In.wk In.bk
  simp only [v126_apply, v220_apply, e, Nat.zero_add]
  unfold wAt In.v117 In.v121 In.v239 In.v241
  pointwise

theorem h274 (I : In Ideal) (ch : Fin 4) (q c : Fin 128) :
    I.v274 (ix2 ⟨128 * ch.val + q.val, by omega⟩ c) = I.mixed I.xa ch q ⟨256 + c.val, by omega⟩ := by
  have e : (256 + c.val) / 128 = 2 := by omega
  rw [v274_apply]
  unfold mixAt In.mixed In.wk In.bk
  simp only [v136_apply, v220_apply, e, Nat.zero_add]
  unfold wAt In.v127 In.v131 In.v257 In.v259
  pointwise

theorem h292 (I : In Ideal) (ch : Fin 4) (q c : Fin 128) :
    I.v292 (ix2 ⟨128 * ch.val + q.val, by omega⟩ c) = I.mixed I.xa ch q ⟨384 + c.val, by omega⟩ := by
  have e : (384 + c.val) / 128 = 3 := by omega
  rw [v292_apply]
  unfold mixAt In.mixed In.wk In.bk
  simp only [v146_apply, v220_apply, e, Nat.zero_add]
  unfold wAt In.v137 In.v141 In.v275 In.v277
  pointwise

theorem h310 (I : In Ideal) (ch : Fin 4) (q c : Fin 128) :
    I.v310 (ix2 ⟨128 * ch.val + q.val, by omega⟩ c) = I.mixed I.xa ch q ⟨512 + c.val, by omega⟩ := by
  have e : (512 + c.val) / 128 = 4 := by omega
  rw [v310_apply]
  unfold mixAt In.mixed In.wk In.bk
  simp only [v156_apply, v220_apply, e, Nat.zero_add]
  unfold wAt In.v147 In.v151 In.v293 In.v295
  pointwise

theorem h328 (I : In Ideal) (ch : Fin 4) (q c : Fin 128) :
    I.v328 (ix2 ⟨128 * ch.val + q.val, by omega⟩ c) = I.mixed I.xa ch q ⟨640 + c.val, by omega⟩ := by
  have e : (640 + c.val) / 128 = 5 := by omega
  rw [v328_apply]
  unfold mixAt In.mixed In.wk In.bk
  simp only [v166_apply, v220_apply, e, Nat.zero_add]
  unfold wAt In.v157 In.v161 In.v311 In.v313
  pointwise

theorem h346 (I : In Ideal) (ch : Fin 4) (q c : Fin 128) :
    I.v346 (ix2 ⟨128 * ch.val + q.val, by omega⟩ c) = I.mixed I.xa ch q ⟨768 + c.val, by omega⟩ := by
  have e : (768 + c.val) / 128 = 6 := by omega
  rw [v346_apply]
  unfold mixAt In.mixed In.wk In.bk
  simp only [v176_apply, v220_apply, e, Nat.zero_add]
  unfold wAt In.v167 In.v171 In.v329 In.v331
  pointwise

theorem h364 (I : In Ideal) (ch : Fin 4) (q c : Fin 128) :
    I.v364 (ix2 ⟨128 * ch.val + q.val, by omega⟩ c) = I.mixed I.xa ch q ⟨896 + c.val, by omega⟩ := by
  have e : (896 + c.val) / 128 = 7 := by omega
  rw [v364_apply]
  unfold mixAt In.mixed In.wk In.bk
  simp only [v186_apply, v220_apply, e, Nat.zero_add]
  unfold wAt In.v177 In.v181 In.v347 In.v349
  pointwise

theorem h490 (I : In Ideal) (ch : Fin 4) (q c : Fin 128) :
    I.v490 (ix2 ⟨128 * ch.val + q.val, by omega⟩ c) = I.mixed I.xb ch q ⟨c.val, by omega⟩ := by
  have e : c.val / 128 = 0 := by omega
  rw [v490_apply]
  unfold mixAt In.mixed In.wk In.bk
  simp only [v116_apply, v472_apply, e, Nat.zero_add]
  unfold wAt In.v107 In.v111 In.v473 In.v475
  pointwise

theorem h508 (I : In Ideal) (ch : Fin 4) (q c : Fin 128) :
    I.v508 (ix2 ⟨128 * ch.val + q.val, by omega⟩ c) = I.mixed I.xb ch q ⟨128 + c.val, by omega⟩ := by
  have e : (128 + c.val) / 128 = 1 := by omega
  rw [v508_apply]
  unfold mixAt In.mixed In.wk In.bk
  simp only [v126_apply, v472_apply, e, Nat.zero_add]
  unfold wAt In.v117 In.v121 In.v491 In.v493
  pointwise

theorem h526 (I : In Ideal) (ch : Fin 4) (q c : Fin 128) :
    I.v526 (ix2 ⟨128 * ch.val + q.val, by omega⟩ c) = I.mixed I.xb ch q ⟨256 + c.val, by omega⟩ := by
  have e : (256 + c.val) / 128 = 2 := by omega
  rw [v526_apply]
  unfold mixAt In.mixed In.wk In.bk
  simp only [v136_apply, v472_apply, e, Nat.zero_add]
  unfold wAt In.v127 In.v131 In.v509 In.v511
  pointwise

theorem h544 (I : In Ideal) (ch : Fin 4) (q c : Fin 128) :
    I.v544 (ix2 ⟨128 * ch.val + q.val, by omega⟩ c) = I.mixed I.xb ch q ⟨384 + c.val, by omega⟩ := by
  have e : (384 + c.val) / 128 = 3 := by omega
  rw [v544_apply]
  unfold mixAt In.mixed In.wk In.bk
  simp only [v146_apply, v472_apply, e, Nat.zero_add]
  unfold wAt In.v137 In.v141 In.v527 In.v529
  pointwise

theorem h562 (I : In Ideal) (ch : Fin 4) (q c : Fin 128) :
    I.v562 (ix2 ⟨128 * ch.val + q.val, by omega⟩ c) = I.mixed I.xb ch q ⟨512 + c.val, by omega⟩ := by
  have e : (512 + c.val) / 128 = 4 := by omega
  rw [v562_apply]
  unfold mixAt In.mixed In.wk In.bk
  simp only [v156_apply, v472_apply, e, Nat.zero_add]
  unfold wAt In.v147 In.v151 In.v545 In.v547
  pointwise

theorem h580 (I : In Ideal) (ch : Fin 4) (q c : Fin 128) :
    I.v580 (ix2 ⟨128 * ch.val + q.val, by omega⟩ c) = I.mixed I.xb ch q ⟨640 + c.val, by omega⟩ := by
  have e : (640 + c.val) / 128 = 5 := by omega
  rw [v580_apply]
  unfold mixAt In.mixed In.wk In.bk
  simp only [v166_apply, v472_apply, e, Nat.zero_add]
  unfold wAt In.v157 In.v161 In.v563 In.v565
  pointwise

theorem h598 (I : In Ideal) (ch : Fin 4) (q c : Fin 128) :
    I.v598 (ix2 ⟨128 * ch.val + q.val, by omega⟩ c) = I.mixed I.xb ch q ⟨768 + c.val, by omega⟩ := by
  have e : (768 + c.val) / 128 = 6 := by omega
  rw [v598_apply]
  unfold mixAt In.mixed In.wk In.bk
  simp only [v176_apply, v472_apply, e, Nat.zero_add]
  unfold wAt In.v167 In.v171 In.v581 In.v583
  pointwise

theorem h616 (I : In Ideal) (ch : Fin 4) (q c : Fin 128) :
    I.v616 (ix2 ⟨128 * ch.val + q.val, by omega⟩ c) = I.mixed I.xb ch q ⟨896 + c.val, by omega⟩ := by
  have e : (896 + c.val) / 128 = 7 := by omega
  rw [v616_apply]
  unfold mixAt In.mixed In.wk In.bk
  simp only [v186_apply, v472_apply, e, Nat.zero_add]
  unfold wAt In.v177 In.v181 In.v599 In.v601
  pointwise

/-- The first half of the tile's output at an element. -/
theorem first_apply (I : In Ideal) (ch : Fin 4) (q : Fin 128) (j : Fin 1024) :
    I.first (ix2 ⟨128 * ch.val + q.val, by omega⟩ j) = row (I.xa ⟨128 * ch.val + q.val, by omega⟩) I.g I.win (I.mixed I.xa ch q) I.wo j := by
  have e := fun c => v28_apply I ⟨128 * ch.val + q.val, by omega⟩ c
  unfold In.first In.v402 row gate In.xa In.wo In.v379 In.v398 In.v417 In.v436
  generalize I.v28 = y at e ⊢
  have e238 := h238 I ch q
  generalize I.v238 = y238 at e238 ⊢
  have e256 := h256 I ch q
  generalize I.v256 = y256 at e256 ⊢
  have e274 := h274 I ch q
  generalize I.v274 = y274 at e274 ⊢
  have e292 := h292 I ch q
  generalize I.v292 = y292 at e292 ⊢
  have e310 := h310 I ch q
  generalize I.v310 = y310 at e310 ⊢
  have e328 := h328 I ch q
  generalize I.v328 = y328 at e328 ⊢
  have e346 := h346 I ch q
  generalize I.v346 = y346 at e346 ⊢
  have e364 := h364 I ch q
  generalize I.v364 = y364 at e364 ⊢
  pointwise [k0_pay48, k0_pay49]
  simp only [gel_eq, e, e238, e256, e274, e292, e310, e328, e346, e364]
  simp only [← Nat.add_assoc, Nat.reduceAdd]
  exact Cert.Gmlp.sum_heads _ (fun f => rgelu (proj (I.xa ⟨128 * ch.val + q.val, by omega⟩) I.g I.win ⟨f.val, by omega⟩) * I.mixed I.xa ch q f * I.x10 (ix2 f j))

/-- The second half of the tile's output at an element. -/
theorem second_apply (I : In Ideal) (ch : Fin 4) (q : Fin 128) (j : Fin 1024) :
    I.second (ix2 ⟨128 * ch.val + q.val, by omega⟩ j) = row (I.xb ⟨128 * ch.val + q.val, by omega⟩) I.g I.win (I.mixed I.xb ch q) I.wo j := by
  have hx : I.xb ⟨128 * ch.val + q.val, by omega⟩ j = I.x1 (ix2 ⟨512 + 128 * ch.val + q.val, by omega⟩ j) := by
    unfold In.xb
    simp only [← Nat.add_assoc]
  have e := fun c => v53_apply I ⟨128 * ch.val + q.val, by omega⟩ c
  unfold In.second In.v692 In.v654 In.v655 In.v658 In.v659 row gate In.wo In.v631 In.v650 In.v669 In.v688 In.v30 In.v29
  generalize I.v53 = y at e ⊢
  have e490 := h490 I ch q
  generalize I.v490 = y490 at e490 ⊢
  have e508 := h508 I ch q
  generalize I.v508 = y508 at e508 ⊢
  have e526 := h526 I ch q
  generalize I.v526 = y526 at e526 ⊢
  have e544 := h544 I ch q
  generalize I.v544 = y544 at e544 ⊢
  have e562 := h562 I ch q
  generalize I.v562 = y562 at e562 ⊢
  have e580 := h580 I ch q
  generalize I.v580 = y580 at e580 ⊢
  have e598 := h598 I ch q
  generalize I.v598 = y598 at e598 ⊢
  have e616 := h616 I ch q
  generalize I.v616 = y616 at e616 ⊢
  pointwise [k0_pay75, k0_pay76, k0_pay77, k0_pay78, k0_pay79, k0_pay6]
  simp only [gel_eq, e, e490, e508, e526, e544, e562, e580, e598, e616]
  simp only [← Nat.add_assoc, Nat.reduceAdd]
  rw [← hx]
  exact Cert.Gmlp.sum_heads _ (fun f => rgelu (proj (I.xb ⟨128 * ch.val + q.val, by omega⟩) I.g I.win ⟨f.val, by omega⟩) * I.mixed I.xb ch q f * I.x10 (ix2 f j))

end Cert.KernelIdeal.Gmlp

end
-- ==== Proof.GmlpRef.lean ====
/-
  The reference's gMLP layer, read at an element of each of its three results.
-/
module

public import proofs.«01_k».proof.Proof.GmlpRows
public import proofs.«01_k».proof.Proof.Gen.ReferenceIdeal.Read

@[expose] public section

set_option maxRecDepth 16384

noncomputable section

namespace Cert.ReferenceIdeal.Gmlp

open Idealize.ShloMosaic Idealize.ShloMosaic.TcCoe Idealize.SL.Sem
open Cert.ReferenceIdeal.Gen Cert.ReferenceIdeal.Read
open Cert.Gmlp (rgelu rms proj nrm val gate row)
open scoped BigOperators

variable (x0 : FVec Ideal S2x8192x1024 .f32) (x1 : FVec Ideal S32x16x1024 .f32) (x2 : FVec Ideal S1x1024 .f32)
  (x3 : FVec Ideal S1x1024x2048 .f32) (x4 : FVec Ideal S1x1024 .f32) (x5 : FVec Ideal S1x8x128x128 .f32)
  (x6 : FVec Ideal S1x8x128 .f32) (x7 : FVec Ideal S1x1024x1024 .f32)

/-- The first product. -/
theorem prompt_proj (s : Fin 2) (t : Fin 8192) (f : Fin 2048) :
    val_main_v19 (F := Ideal) x0 x2 x3 (ix3 s t f)
      = proj (fun k => x0 (ix3 s t k)) (fun k => x2 (ix2 0 k)) (fun k f => x3 (ix3 0 k f)) f := by
  unfold proj rms
  pointwise [val_main_v0, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19]

theorem prompt_gelu (s : Fin 2) (t : Fin 8192) (f : Fin 2048) :
    val_main_v32 (F := Ideal) x0 x2 x3 (ix3 s t f)
      = rgelu (proj (fun k => x0 (ix3 s t k)) (fun k => x2 (ix2 0 k)) (fun k f => x3 (ix3 0 k f)) f) := by
  rw [← prompt_proj]
  unfold rgelu
  pointwise [val_main_v20, val_main_v21, val_main_cst_2, val_main_v22, val_main_v23, val_main_v24, val_main_cst_3, val_main_v25, val_main_v26, val_main_v27, val_main_cst_4, val_main_v28, val_main_v29, val_main_cst_5, val_main_v30, val_main_v31, val_main_v32]

/-- The value branch. -/
theorem prompt_val (s : Fin 2) (t : Fin 8192) (j : Fin 1024) :
    val_main_v53 (F := Ideal) x0 x2 x3 x4 (ix3 s t j)
      = val (fun k => x0 (ix3 s t k)) (fun k => x2 (ix2 0 k)) (fun k f => x3 (ix3 0 k f)) (fun k => x4 (ix2 0 k)) j := by
  unfold val nrm
  simp only [← prompt_gelu]
  pointwise [val_main_v1, val_main_v34, val_main_cst_6, val_main_v35, val_main_v36, val_main_cst_7, val_main_v37, val_main_v38, val_main_v39, val_main_v40, val_main_v41, val_main_cst_8, val_main_v42, val_main_v43, val_main_cst_9, val_main_v44, val_main_v45, val_main_cst_10, val_main_v46, val_main_v47, val_main_v48, val_main_v49, val_main_v50, val_main_v51, val_main_v52, val_main_v53]

/-- The gate. -/
theorem prompt_gate (s : Fin 2) (t : Fin 8192) (j : Fin 1024) :
    val_main_v33 (F := Ideal) x0 x2 x3 (ix3 s t j)
      = gate (fun k => x0 (ix3 s t k)) (fun k => x2 (ix2 0 k)) (fun k f => x3 (ix3 0 k f)) j := by
  unfold gate
  rw [← prompt_gelu]
  pointwise [val_main_v33]

/-- The first product. -/
theorem sample_proj (s : Fin 32) (t : Fin 16) (f : Fin 2048) :
    val_main_v82 (F := Ideal) x1 x2 x3 (ix3 s t f)
      = proj (fun k => x1 (ix3 s t k)) (fun k => x2 (ix2 0 k)) (fun k f => x3 (ix3 0 k f)) f := by
  unfold proj rms
  pointwise [val_main_v0, val_main_v5, val_main_v68, val_main_v69, val_main_cst_12, val_main_v70, val_main_v71, val_main_cst_13, val_main_v72, val_main_v73, val_main_cst_14, val_main_v74, val_main_v75, val_main_v76, val_main_v77, val_main_v78, val_main_v79, val_main_v80, val_main_v81, val_main_v82]

theorem sample_gelu (s : Fin 32) (t : Fin 16) (f : Fin 2048) :
    val_main_v95 (F := Ideal) x1 x2 x3 (ix3 s t f)
      = rgelu (proj (fun k => x1 (ix3 s t k)) (fun k => x2 (ix2 0 k)) (fun k f => x3 (ix3 0 k f)) f) := by
  rw [← sample_proj]
  unfold rgelu
  pointwise [val_main_v83, val_main_v84, val_main_cst_15, val_main_v85, val_main_v86, val_main_v87, val_main_cst_16, val_main_v88, val_main_v89, val_main_v90, val_main_cst_17, val_main_v91, val_main_v92, val_main_cst_18, val_main_v93, val_main_v94, val_main_v95]

/-- The value branch. -/
theorem sample_val (s : Fin 32) (t : Fin 16) (j : Fin 1024) :
    val_main_v116 (F := Ideal) x1 x2 x3 x4 (ix3 s t j)
      = val (fun k => x1 (ix3 s t k)) (fun k => x2 (ix2 0 k)) (fun k f => x3 (ix3 0 k f)) (fun k => x4 (ix2 0 k)) j := by
  unfold val nrm
  simp only [← sample_gelu]
  pointwise [val_main_v1, val_main_v97, val_main_cst_19, val_main_v98, val_main_v99, val_main_cst_20, val_main_v100, val_main_v101, val_main_v102, val_main_v103, val_main_v104, val_main_cst_21, val_main_v105, val_main_v106, val_main_cst_22, val_main_v107, val_main_v108, val_main_cst_23, val_main_v109, val_main_v110, val_main_v111, val_main_v112, val_main_v113, val_main_v114, val_main_v115, val_main_v116]

/-- The gate. -/
theorem sample_gate (s : Fin 32) (t : Fin 16) (j : Fin 1024) :
    val_main_v96 (F := Ideal) x1 x2 x3 (ix3 s t j)
      = gate (fun k => x1 (ix3 s t k)) (fun k => x2 (ix2 0 k)) (fun k f => x3 (ix3 0 k f)) j := by
  unfold gate
  rw [← sample_gelu]
  pointwise [val_main_v96]

theorem le_word : ∀ q k : Fin 128,
    (Scalar.select (IntOp.cmpi .sge (IntOp.addi (BitVec.ofNat 32 q.val) 0#32) (BitVec.ofNat 32 k.val)) 1#1 0#1 : BitVec 1) = if k.val ≤ q.val then 1#1 else 0#1 := by
  decide +kernel

/-- The triangle's choice at a row and a column. -/
theorem sel_le (q k : Fin 128) (a b : EReal) :
    Scalar.select (Scalar.select (IntOp.cmpi .sge (IntOp.addi (BitVec.ofNat 32 q.val) 0#32) (BitVec.ofNat 32 k.val)) 1#1 0#1) a b
      = if k.val ≤ q.val then a else b := by
  rw [le_word]
  by_cases h : k.val ≤ q.val
  · rw [if_pos h, if_pos h]; rfl
  · rw [if_neg h, if_neg h]; rfl

theorem zero_const : id (constant S_ FTy.f32 0#32 : FVec Ideal S_ .f32) ix0 = 0 := by
  change Ideal.ofBits .f32 0#32 = 0
  simp [Ideal.ofBits, Ideal.ieee]

/-- The mixed row of the prompt's part: over the row's block of 128. -/
def pmix (s : Fin 2) (t : Fin 8192) (f : Fin 1024) : EReal :=
  (∑ k : Fin 128, (if k.val ≤ t.val % 128 then x5 (ix4 0 ⟨f.val / 128, by omega⟩ ⟨t.val % 128, by omega⟩ k) else 0)
    * val (fun l => x0 (ix3 s ⟨t.val / 128 * 128 + k.val, by omega⟩ l)) (fun k => x2 (ix2 0 k)) (fun k f => x3 (ix3 0 k f)) (fun k => x4 (ix2 0 k)) f)
    + x6 (ix3 0 ⟨f.val / 128, by omega⟩ ⟨t.val % 128, by omega⟩)

/-- The mixed row of a sample: over its sixteen rows. -/
def smix (s : Fin 32) (t : Fin 16) (f : Fin 1024) : EReal :=
  (∑ k : Fin 16, (if k.val ≤ t.val then x5 (ix4 0 ⟨f.val / 128, by omega⟩ ⟨t.val, by omega⟩ ⟨k.val, by omega⟩) else 0)
    * val (fun l => x1 (ix3 s k l)) (fun k => x2 (ix2 0 k)) (fun k f => x3 (ix3 0 k f)) (fun k => x4 (ix2 0 k)) f)
    + x6 (ix3 0 ⟨f.val / 128, by omega⟩ ⟨t.val, by omega⟩)

theorem prompt_mixed (s : Fin 2) (t : Fin 8192) (f : Fin 1024) :
    val_main_v65 (F := Ideal) x0 x2 x3 x4 x5 x6 (ix3 s t f) = pmix x0 x2 x3 x4 x5 x6 s t f := by
  unfold pmix
  pointwise [val_main_v2, val_main_v3, val_main_c, val_main_v54, val_main_call0_v0, val_main_call0_c, val_main_call0_v1, val_main_call0_v2, val_main_call0_v3, val_main_call0_v4, val_main_call0_c_0, val_main_call0_v5, val_main_v55, val_main_v56, val_main_cst_11, val_main_call1_v0, val_main_call1_v1, val_main_call1_v2, val_main_v57, val_main_v58, val_main_v59, val_main_v60, val_main_v61, val_main_v62, val_main_v63, val_main_v64, val_main_v65]
  congr 1
  refine Finset.sum_congr rfl fun k _ => ?_
  rw [prompt_val, sel_le ⟨t.val % 128, by omega⟩ k, zero_const, mul_comm]

theorem sample_mixed (s : Fin 32) (t : Fin 16) (f : Fin 1024) :
    val_main_v130 (F := Ideal) x1 x2 x3 x4 x5 x6 (ix3 s t f) = smix x1 x2 x3 x4 x5 x6 s t f := by
  unfold smix
  pointwise [val_main_v2, val_main_v3, val_main_c_24, val_main_v117, val_main_call2_v0, val_main_call2_c, val_main_call2_v1, val_main_call2_v2, val_main_call2_v3, val_main_call2_v4, val_main_call2_c_0, val_main_call2_v5, val_main_v118, val_main_v119, val_main_v120, val_main_cst_25, val_main_call3_v0, val_main_call3_v1, val_main_call3_v2, val_main_v121, val_main_v122, val_main_v123, val_main_v124, val_main_v125, val_main_v126, val_main_v127, val_main_v128, val_main_v129, val_main_v130]
  congr 1
  refine Finset.sum_congr rfl fun k _ => ?_
  rw [sample_val, sel_le ⟨t.val, by omega⟩ ⟨k.val, by omega⟩, zero_const, mul_comm]

/-- The prompt rows' result. -/
theorem prompt_apply (R : Fin 16384) (j : Fin 1024) :
    val_main_v134 (F := Ideal) x0 x2 x3 x4 x5 x6 x7 (ix2 R j)
      = row (fun k => x0 (ix3 ⟨R.val / 8192, by omega⟩ ⟨R.val % 8192, by omega⟩ k)) (fun k => x2 (ix2 0 k)) (fun k f => x3 (ix3 0 k f))
          (pmix x0 x2 x3 x4 x5 x6 ⟨R.val / 8192, by omega⟩ ⟨R.val % 8192, by omega⟩) (fun f j => x7 (ix3 0 f j)) j := by
  unfold row
  simp only [← prompt_gate, ← prompt_mixed]
  pointwise [val_main_v4, val_main_v66, val_main_v67, val_main_v133, val_main_v134]

/-- The sample rows' result. -/
theorem sample_apply (R : Fin 512) (j : Fin 1024) :
    val_main_v136 (F := Ideal) x1 x2 x3 x4 x5 x6 x7 (ix2 R j)
      = row (fun k => x1 (ix3 ⟨R.val / 16, by omega⟩ ⟨R.val % 16, by omega⟩ k)) (fun k => x2 (ix2 0 k)) (fun k f => x3 (ix3 0 k f))
          (smix x1 x2 x3 x4 x5 x6 ⟨R.val / 16, by omega⟩ ⟨R.val % 16, by omega⟩) (fun f j => x7 (ix3 0 f j)) j := by
  unfold row
  simp only [← sample_gate, ← sample_mixed]
  pointwise [val_main_v4, val_main_v131, val_main_v132, val_main_v135, val_main_v136]

/-- The sample rows' value branch. -/
theorem gv_apply (R : Fin 512) (j : Fin 1024) :
    val_main_v137 (F := Ideal) x1 x2 x3 x4 (ix2 R j)
      = val (fun k => x1 (ix3 ⟨R.val / 16, by omega⟩ ⟨R.val % 16, by omega⟩ k)) (fun k => x2 (ix2 0 k)) (fun k f => x3 (ix3 0 k f))
          (fun k => x4 (ix2 0 k)) j := by
  rw [← sample_val]
  pointwise [val_main_v137]

end Cert.ReferenceIdeal.Gmlp

end
-- ==== Proof.GmlpValue.lean ====
/-
  The value of the gMLP call: what the body stores at an element is the reference's layer there.
-/
module

public import proofs.«01_k».proof.Proof.GmlpRun
public import proofs.«01_k».proof.Proof.GmlpTile
public import proofs.«01_k».proof.Proof.GmlpRef
public import Idealize.ShloMosaic.Lib.Pipeline.ValueKit

@[expose] public section

set_option maxRecDepth 16384

noncomputable section

namespace Cert.KernelIdeal.Gmlp

open Idealize.ShloMosaic Idealize.ShloMosaic.TcCoe Idealize.SL.Sem
open Idealize.ShloMosaic.Pipeline (Dat)
open Cert.KernelIdeal.Gen
open Cert.Gmlp (rgelu rms proj nrm val gate row)
open Cert.ReferenceIdeal.Gmlp (pmix smix)
open scoped BigOperators

variable (m : (ℓ : Loc nD τ sig) → Buf (Elt Ideal) ℓ)

/-- The windows' block indices. -/
theorem idx : ∀ t : Fin cfg0.N, win0_0.index t = ![(t.val - 1), 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0] ∧ win0_9.index t = ![0, 0] ∧ win0_10.index t = ![t.val - 1, 0]
    ∧ win0_11.index t = ![0, 0] ∧ win0_12.index t = ![0, 0] ∧ (grid0.coords t 0).val = t.val :=
  (by decide +kernel : ∀ t : Fin grid0.N, _)

/-- The first output is written back at every point but the first. -/
theorem flush_10 : ∀ t : Fin cfg0.N, (cfg0.win 10).flush t = true → t.val ≠ 0 :=
  (by decide +kernel : ∀ t : Fin grid0.N, (cfg0.win 10).flush t = true → t.val ≠ 0)

theorem first_point (c : Dev nD) (t : Fin cfg0.N) (h : t.val = 0) : (inAt m c t).v0 = 1#1 := by
  have e := (idx t).2.2.2.2.2.2.2.2.2.2.2.2.2
  unfold In.v0 inAt
  simp only
  rw [e, h]
  rfl

theorem other_point (c : Dev nD) (t : Fin cfg0.N) (h : t.val ≠ 0) : (inAt m c t).v0 = 0#1 := by
  have ht : t.val < 17 := Nat.lt_of_lt_of_eq t.isLt N_0
  have e := (idx t).2.2.2.2.2.2.2.2.2.2.2.2.2
  unfold In.v0 inAt
  simp only
  rw [e]
  simp only [Scalar.cmpi]
  word_cmp

/-- The blocks the body reads, down to the arrays. -/
theorem blk_xp (c : Dev nD) (t : Fin cfg0.N) (h : t.val ≠ 0) (r : Fin 1024) (k : Fin 1024) (R : Fin 16384) (hR : R.val = 1024 * (t.val - 1) + r.val) :
    iblk m c 0 t (ix2 r k) = m ((c : Thread nD τ).loc main_arg0) (ix3 ⟨R.val / 8192, by omega⟩ ⟨R.val % 8192, by omega⟩ k) := by
  have ht : t.val < 17 := Nat.lt_of_lt_of_eq t.isLt N_0
  blk_point [iblk, V, idx t]

theorem blk_xs (c : Dev nD) (t : Fin cfg0.N) (r : Fin 512) (k : Fin 1024) :
    iblk m c 1 t (ix2 r k) = m ((c : Thread nD τ).loc main_arg1) (ix3 ⟨r.val / 16, by omega⟩ ⟨r.val % 16, by omega⟩ k) := by
  blk_point [iblk, V, idx t]

theorem blk_g (c : Dev nD) (t : Fin cfg0.N) (k : Fin 1024) :
    iblk m c 2 t (ix2 0 k) = m ((c : Thread nD τ).loc main_arg2) (ix2 0 k) := by
  blk_point [iblk, V, idx t]

theorem blk_win (c : Dev nD) (t : Fin cfg0.N) (k : Fin 1024) (f : Fin 2048) :
    iblk m c 3 t (ix2 k f) = m ((c : Thread nD τ).loc main_arg3) (ix3 0 k f) := by
  blk_point [iblk, V, idx t]

theorem blk_vg (c : Dev nD) (t : Fin cfg0.N) (k : Fin 1024) :
    iblk m c 4 t (ix2 0 k) = m ((c : Thread nD τ).loc main_arg4) (ix2 0 k) := by
  blk_point [iblk, V, idx t]

theorem blk_wp (c : Dev nD) (t : Fin cfg0.N) (g : Fin 8) (q k : Fin 128) :
    iblk m c 5 t (ix3 g q k) = m ((c : Thread nD τ).loc main_arg5) (ix4 0 g q k) := by
  blk_point [iblk, V, idx t]

theorem blk_ws (c : Dev nD) (t : Fin cfg0.N) (g : Fin 8) (q k : Fin 128) :
    iblk m c 6 t (ix3 g q k) = m ((c : Thread nD τ).loc main_arg5) (ix4 0 g ⟨q.val % 16, by omega⟩ ⟨k.val % 16, by omega⟩) := by
  blk_point [iblk, V, idx t]

theorem blk_bp (c : Dev nD) (t : Fin cfg0.N) (q : Fin 128) (f : Fin 1024) :
    iblk m c 7 t (ix2 q f) = m ((c : Thread nD τ).loc main_arg6) (ix3 0 ⟨f.val / 128, by omega⟩ q) := by
  blk_point [iblk, V, idx t]

theorem blk_bs (c : Dev nD) (t : Fin cfg0.N) (q : Fin 128) (f : Fin 1024) :
    iblk m c 8 t (ix2 q f) = m ((c : Thread nD τ).loc main_arg6) (ix3 0 ⟨f.val / 128, by omega⟩ ⟨q.val % 16, by omega⟩) := by
  blk_point [iblk, V, idx t]

theorem blk_wo (c : Dev nD) (t : Fin cfg0.N) (f j : Fin 1024) :
    iblk m c 9 t (ix2 f j) = m ((c : Thread nD τ).loc main_arg7) (ix3 0 f j) := by
  blk_point [iblk, V, idx t]

theorem g_eq (c : Dev nD) (t : Fin cfg0.N) : (inAt m c t).g = fun k => m ((c : Thread nD τ).loc main_arg2) (ix2 0 k) :=
  funext fun k => blk_g m c t k
theorem win_eq (c : Dev nD) (t : Fin cfg0.N) : (inAt m c t).win = fun k f => m ((c : Thread nD τ).loc main_arg3) (ix3 0 k f) :=
  funext fun k => funext fun f => blk_win m c t k f
theorem vg_eq (c : Dev nD) (t : Fin cfg0.N) : (inAt m c t).vg = fun k => m ((c : Thread nD τ).loc main_arg4) (ix2 0 k) :=
  funext fun k => blk_vg m c t k
theorem wo_eq (c : Dev nD) (t : Fin cfg0.N) : (inAt m c t).wo = fun f j => m ((c : Thread nD τ).loc main_arg7) (ix3 0 f j) :=
  funext fun f => funext fun j => blk_wo m c t f j

/-- The first half tile's rows: the sample's at the first point, the prompt's at every other. -/
theorem xa_first (c : Dev nD) (t : Fin cfg0.N) (h : t.val = 0) (r : Fin 512) :
    (inAt m c t).xa r = fun k => m ((c : Thread nD τ).loc main_arg1) (ix3 ⟨r.val / 16, by omega⟩ ⟨r.val % 16, by omega⟩ k) := by
  funext k
  have e : (inAt m c t).xa r k = Scalar.select (inAt m c t).v0 ((inAt m c t).v1 (ix2 r k)) ((inAt m c t).v3 (ix2 r k)) := by
    unfold In.xa In.v5
    pointwise [k0_pay2]
    rfl
  rw [e, first_point m c t h, ← blk_xs m c t r k]
  unfold In.v1
  pointwise
  rfl

theorem xa_rest (c : Dev nD) (t : Fin cfg0.N) (h : t.val ≠ 0) (r : Fin 512) (R : Fin 16384) (hR : R.val = 1024 * (t.val - 1) + r.val) :
    (inAt m c t).xa r = fun k => m ((c : Thread nD τ).loc main_arg0) (ix3 ⟨R.val / 8192, by omega⟩ ⟨R.val % 8192, by omega⟩ k) := by
  funext k
  have e : (inAt m c t).xa r k = Scalar.select (inAt m c t).v0 ((inAt m c t).v1 (ix2 r k)) ((inAt m c t).v3 (ix2 r k)) := by
    unfold In.xa In.v5
    pointwise [k0_pay2]
    rfl
  rw [e, other_point m c t h, ← blk_xp m c t h ⟨r.val, by omega⟩ k R hR]
  unfold In.v3
  pointwise
  rfl

theorem xb_rest (c : Dev nD) (t : Fin cfg0.N) (h : t.val ≠ 0) (r : Fin 512) (R : Fin 16384) (hR : R.val = 1024 * (t.val - 1) + 512 + r.val) :
    (inAt m c t).xb r = fun k => m ((c : Thread nD τ).loc main_arg0) (ix3 ⟨R.val / 8192, by omega⟩ ⟨R.val % 8192, by omega⟩ k) := by
  funext k
  exact blk_xp m c t h ⟨512 + r.val, by omega⟩ k R (by simp only; omega)

theorem wk_first (c : Dev nD) (t : Fin cfg0.N) (h : t.val = 0) (q : Fin 128) (f : Fin 1024) (k : Fin 128) :
    (inAt m c t).wk q f k = if k.val ≤ q.val ∧ q.val / 16 = k.val / 16
      then m ((c : Thread nD τ).loc main_arg5) (ix4 0 ⟨f.val / 128, by omega⟩ ⟨q.val % 16, by omega⟩ ⟨k.val % 16, by omega⟩) else (0 : EReal) := by
  unfold In.wk
  rw [first_point m c t h, ← blk_ws m c t ⟨f.val / 128, by omega⟩ q k]
  rfl

theorem wk_rest (c : Dev nD) (t : Fin cfg0.N) (h : t.val ≠ 0) (q : Fin 128) (f : Fin 1024) (k : Fin 128) :
    (inAt m c t).wk q f k = if k.val ≤ q.val
      then m ((c : Thread nD τ).loc main_arg5) (ix4 0 ⟨f.val / 128, by omega⟩ q k) else (0 : EReal) := by
  unfold In.wk
  rw [other_point m c t h, ← blk_wp m c t ⟨f.val / 128, by omega⟩ q k]
  rfl

theorem bk_first (c : Dev nD) (t : Fin cfg0.N) (h : t.val = 0) (q : Fin 128) (f : Fin 1024) :
    (inAt m c t).bk q f = m ((c : Thread nD τ).loc main_arg6) (ix3 0 ⟨f.val / 128, by omega⟩ ⟨q.val % 16, by omega⟩) := by
  unfold In.bk
  rw [first_point m c t h, ← blk_bs m c t q f]
  rfl

theorem bk_rest (c : Dev nD) (t : Fin cfg0.N) (h : t.val ≠ 0) (q : Fin 128) (f : Fin 1024) :
    (inAt m c t).bk q f = m ((c : Thread nD τ).loc main_arg6) (ix3 0 ⟨f.val / 128, by omega⟩ q) := by
  unfold In.bk
  rw [other_point m c t h, ← blk_bp m c t q f]
  rfl

/-- A mixed row of a prompt tile, over rows `x` that start at the array's row `512 * b`. -/
theorem mixed_rest (c : Dev nD) (t : Fin cfg0.N) (h : t.val ≠ 0) (x : Fin 512 → Fin 1024 → EReal) (b : ℕ) (hb : b < 32)
    (hx : ∀ (r : Fin 512) (R : Fin 16384), R.val = 512 * b + r.val →
      x r = fun k => m ((c : Thread nD τ).loc main_arg0) (ix3 ⟨R.val / 8192, by omega⟩ ⟨R.val % 8192, by omega⟩ k))
    (ch : Fin 4) (q : Fin 128) (R : Fin 16384) (hR : R.val = 512 * b + (128 * ch.val + q.val)) :
    (inAt m c t).mixed x ch q = pmix (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      ⟨R.val / 8192, by omega⟩ ⟨R.val % 8192, by omega⟩ := by
  funext f
  unfold In.mixed pmix
  have hq : R.val % 8192 % 128 = q.val := by omega
  rw [bk_rest m c t h]
  simp only [hq, wk_rest m c t h, g_eq, win_eq, vg_eq]
  congr 1
  refine Finset.sum_congr rfl fun k _ => ?_
  have h1 : (512 * b + (128 * ch.val + k.val)) / 8192 = R.val / 8192 := by omega
  have h2 : (512 * b + (128 * ch.val + k.val)) % 8192 = R.val % 8192 / 128 * 128 + k.val := by omega
  rw [hx ⟨128 * ch.val + k.val, by omega⟩ ⟨512 * b + (128 * ch.val + k.val), by omega⟩ rfl]
  simp only [h1, h2]

/-- A mixed row of the sample tile. -/
theorem mixed_first (c : Dev nD) (t : Fin cfg0.N) (h : t.val = 0) (ch : Fin 4) (q : Fin 128) (R : Fin 512) (hR : R.val = 128 * ch.val + q.val) :
    (inAt m c t).mixed (inAt m c t).xa ch q = smix (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      ⟨R.val / 16, by omega⟩ ⟨R.val % 16, by omega⟩ := by
  funext f
  unfold In.mixed smix
  have hq : R.val % 16 = q.val % 16 := by omega
  rw [bk_first m c t h]
  simp only [hq, wk_first m c t h, g_eq, win_eq, vg_eq, xa_first m c t h]
  congr 1
  rw [Cert.Gmlp.sum_sixteen]
  refine Finset.sum_congr rfl fun k _ => ?_
  have h1 : (128 * ch.val + (16 * (q.val / 16) + k.val)) / 16 = R.val / 16 := by omega
  have h2 : (128 * ch.val + (16 * (q.val / 16) + k.val)) % 16 = k.val := by omega
  have h3 : (16 * (q.val / 16) + k.val) % 16 = k.val := by omega
  simp only [h1, h2, h3]

abbrev refP (c : Dev nD) := Cert.ReferenceIdeal.Read.val_main_v134 (F := Ideal) (m ((c : Thread nD τ).loc main_arg0)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))
abbrev refS (c : Dev nD) := Cert.ReferenceIdeal.Read.val_main_v136 (F := Ideal) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))
abbrev refV (c : Dev nD) := Cert.ReferenceIdeal.Read.val_main_v137 (F := Ideal) (m ((c : Thread nD τ).loc main_arg1)) (m ((c : Thread nD τ).loc main_arg2))
  (m ((c : Thread nD τ).loc main_arg3)) (m ((c : Thread nD τ).loc main_arg4))

/-- The two halves of a prompt tile's output. -/
theorem first_rest (c : Dev nD) (t : Fin cfg0.N) (h : t.val ≠ 0) (r : Fin 512) (j : Fin 1024) (R : Fin 16384)
    (hR : R.val = 1024 * (t.val - 1) + r.val) : (inAt m c t).first (ix2 r j) = refP m c (ix2 R j) := by
  have ht : t.val < 17 := Nat.lt_of_lt_of_eq t.isLt N_0
  have e : 128 * (r.val / 128) + r.val % 128 = r.val := by omega
  have e1 := first_apply (inAt m c t) ⟨r.val / 128, by omega⟩ ⟨r.val % 128, by omega⟩ j
  simp only [e] at e1
  unfold refP
  rw [e1, Cert.ReferenceIdeal.Gmlp.prompt_apply, xa_rest m c t h r R hR, g_eq, win_eq, wo_eq,
    mixed_rest m c t h _ (2 * (t.val - 1)) (by omega) (fun r R hR => xa_rest m c t h r R (by omega)) _ _ R (by simp only; omega)]

theorem second_rest (c : Dev nD) (t : Fin cfg0.N) (h : t.val ≠ 0) (r : Fin 512) (j : Fin 1024) (R : Fin 16384)
    (hR : R.val = 1024 * (t.val - 1) + 512 + r.val) : (inAt m c t).second (ix2 r j) = refP m c (ix2 R j) := by
  have ht : t.val < 17 := Nat.lt_of_lt_of_eq t.isLt N_0
  have e : 128 * (r.val / 128) + r.val % 128 = r.val := by omega
  have e1 := second_apply (inAt m c t) ⟨r.val / 128, by omega⟩ ⟨r.val % 128, by omega⟩ j
  simp only [e] at e1
  unfold refP
  rw [e1, Cert.ReferenceIdeal.Gmlp.prompt_apply, xb_rest m c t h r R hR, g_eq, win_eq, wo_eq,
    mixed_rest m c t h _ (2 * (t.val - 1) + 1) (by omega) (fun r R hR => xb_rest m c t h r R (by omega)) _ _ R (by simp only; omega)]

/-- The sample rows' output, which the first point stores. -/
theorem first_first (c : Dev nD) (r : Fin 512) (j : Fin 1024) : (inAt m c t0).first (ix2 r j) = refS m c (ix2 r j) := by
  have h : (t0 : Fin cfg0.N).val = 0 := rfl
  have e : 128 * (r.val / 128) + r.val % 128 = r.val := by omega
  have e1 := first_apply (inAt m c t0) ⟨r.val / 128, by omega⟩ ⟨r.val % 128, by omega⟩ j
  simp only [e] at e1
  unfold refS
  rw [e1, Cert.ReferenceIdeal.Gmlp.sample_apply, mixed_first m c t0 h _ _ r (by simp only; omega), xa_first m c t0 h r, g_eq, win_eq, wo_eq]

/-- The sample rows' value branch. -/
theorem vn_first (c : Dev nD) (r : Fin 512) (j : Fin 1024) : (inAt m c t0).vn (ix2 r j) = refV m c (ix2 r j) := by
  unfold refV
  rw [vn_apply, Cert.ReferenceIdeal.Gmlp.gv_apply, xa_first m c t0 rfl r, g_eq, win_eq, vg_eq]

/-- The reference's rows of a prompt tile. -/
def tileRef (c : Dev nD) (t : Fin cfg0.N) (y : S1024x1024.Idx) : EReal :=
  refP m c (ix2 ⟨1024 * (t.val - 1) + (y 0).val, by
    have ht : t.val < 17 := Nat.lt_of_lt_of_eq t.isLt N_0
    have h0 : (y 0).val < 1024 := (y 0).isLt
    omega⟩ (y 1))

theorem piece_first (c : Dev nD) (t : Fin cfg0.N) (h : t.val ≠ 0) (x : S512x1024.Idx) :
    (inAt m c t).first x = tileRef m c t ((Rect.unit (s := S1024x1024) ![0, 0] S512x1024.size inb_S1024x1024_S512x1024_0_0).emb x) := by
  have hx : x = (ix2 (x 0) (x 1) : S512x1024.Idx) := eq_ix2 (n0 := 512) (n1 := 1024) x
  have e0 := ValueKit.rect_emb_unit_val (s := S1024x1024) ![0, 0] S512x1024.size inb_S1024x1024_S512x1024_0_0 x 0
  have e1 := ValueKit.rect_emb_unit_val (s := S1024x1024) ![0, 0] S512x1024.size inb_S1024x1024_S512x1024_0_0 x 1
  have f0 : (![0, 0] : Fin 2 → ℕ) 0 = 0 := rfl
  have f1 : (![0, 0] : Fin 2 → ℕ) 1 = 0 := rfl
  unfold tileRef
  refine (congrArg (inAt m c t).first hx).trans ((first_rest m c t h (x 0) (x 1) _ ?_).trans
    (congrArg (fun z => refP m c (ix2 _ z)) (Fin.ext ?_)))
  · simp only; rw [e0]; omega
  · rw [e1]; omega

theorem piece_second (c : Dev nD) (t : Fin cfg0.N) (h : t.val ≠ 0) (x : S512x1024.Idx) :
    (inAt m c t).second x = tileRef m c t ((Rect.unit (s := S1024x1024) ![512, 0] S512x1024.size inb_S1024x1024_S512x1024_512_0).emb x) := by
  have hx : x = (ix2 (x 0) (x 1) : S512x1024.Idx) := eq_ix2 (n0 := 512) (n1 := 1024) x
  have e0 := ValueKit.rect_emb_unit_val (s := S1024x1024) ![512, 0] S512x1024.size inb_S1024x1024_S512x1024_512_0 x 0
  have e1 := ValueKit.rect_emb_unit_val (s := S1024x1024) ![512, 0] S512x1024.size inb_S1024x1024_S512x1024_512_0 x 1
  have f0 : (![512, 0] : Fin 2 → ℕ) 0 = 512 := rfl
  have f1 : (![512, 0] : Fin 2 → ℕ) 1 = 0 := rfl
  unfold tileRef
  refine (congrArg (inAt m c t).second hx).trans ((second_rest m c t h (x 0) (x 1) _ ?_).trans
    (congrArg (fun z => refP m c (ix2 _ z)) (Fin.ext ?_)))
  · simp only; rw [e0]; omega
  · rw [e1]; omega

/-- The two halves cover the tile. -/
theorem halves_cover (a b : Vec Ideal S512x1024 .f32) : ∀ y : S1024x1024.Idx,
    ∃ p ∈ ([⟨Rect.unit (s := S1024x1024) ![512, 0] S512x1024.size inb_S1024x1024_S512x1024_512_0, a⟩,
      ⟨Rect.unit (s := S1024x1024) ![0, 0] S512x1024.size inb_S1024x1024_S512x1024_0_0, b⟩] : List (View.Piece (Elt Ideal) S1024x1024 .f32)),
      y ∈ p.1.set :=
  View.cover_of_tiled _ S512x1024.size rfl

/-- A prompt tile's output, at a row of either half. -/
theorem yp_rest (c : Dev nD) (t : Fin cfg0.N) (h : t.val ≠ 0) (y : S1024x1024.Idx) : (inAt m c t).yp y = tileRef m c t y := by
  unfold In.yp
  refine View.canon_apply_of_pieces (tileRef m c t) _ ?_ y (halves_cover _ _ y)
  intro p hp x
  rcases List.mem_cons.1 hp with rfl | hp
  · exact piece_second m c t h x
  · rcases List.mem_singleton.1 hp with rfl
    exact piece_first m c t h x

/-- The first result array after the run. -/
theorem final_10 (c : Dev nD) : (dats m 0 c).arrAt 10 (cfgs 0).N = refP m c := by
  refine (dats m 0 c).arrAt_eq_of_covers 10 _ (by decide +kernel) fun t hf y => ?_
  have h0 := flush_10 t hf
  have ht : t.val < 17 := Nat.lt_of_lt_of_eq t.isLt N_0
  blk_simp
  rw [after_10]
  refine (yp_rest m c t h0 y).trans ?_
  unfold tileRef
  refine congrArg _ ?_
  blk_ext [idx t]

/-- The second result array after the run. -/
theorem final_11 (c : Dev nD) : (dats m 0 c).arrAt 11 (cfgs 0).N = refS m c := by
  refine (dats m 0 c).arrAt_eq_of_covers 11 _ (by decide +kernel) fun t hf y => ?_
  blk_simp
  rw [after_11]
  have hy : y = (ix2 (y 0) (y 1) : S512x1024.Idx) := eq_ix2 (n0 := 512) (n1 := 1024) y
  refine (congrArg (inAt m c t0).first hy).trans ((first_first m c (y 0) (y 1)).trans ?_)
  refine congrArg _ ?_
  blk_ext [idx t]

/-- The third result array after the run. -/
theorem final_12 (c : Dev nD) : (dats m 0 c).arrAt 12 (cfgs 0).N = refV m c := by
  refine (dats m 0 c).arrAt_eq_of_covers 12 _ (by decide +kernel) fun t hf y => ?_
  blk_simp
  rw [after_12]
  have hy : y = (ix2 (y 0) (y 1) : S512x1024.Idx) := eq_ix2 (n0 := 512) (n1 := 1024) y
  refine (congrArg (inAt m c t0).vn hy).trans ((vn_first m c (y 0) (y 1)).trans ?_)
  refine congrArg _ ?_
  blk_ext [idx t]

end Cert.KernelIdeal.Gmlp

end
-- ==== Proof.GmlpClaim.lean ====
/-
  The gMLP claims: the two frames from the one run, the named constants, and that the two programs'
  three results are equal.
-/
module

public import proofs.«01_k».proof.Defs
public import proofs.«01_k».proof.Proof.GmlpValue
public import proofs.«01_k».proof.Proof.Gen.Kernel
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- At the chip's formats a named constant is the pattern the kernel writes. -/
@[reducible] def bitsNamed : Named Bits := ⟨fun _ _ {φ} bits => (Scalar.ofBits φ bits : Bits φ)⟩

/-- The kernel at the chip's formats leaves its arguments as they were. The program read over the
reals has the same text but for the two named constants, so its run over any number format is the run of this one. -/
theorem gmlp_frame_bits : quiescent_Kernel :=
  fun m g _ => by
    letI : Named Bits := bitsNamed
    refine Eq.mpr ?_ (Cert.KernelIdeal.Gmlp.frame (F := Bits) m g)
    sl_kernel_rfl

/-- The kernel over the reals leaves its arguments as they were. -/
theorem gmlp_frame : quiescent_KernelIdeal :=
  fun m g _ => Cert.KernelIdeal.Gmlp.frame (F := Ideal) m g

/-- The two gelu constants of the kernel are the roundings of the named reals. -/
theorem gmlp_preserves : preserves_Kernel_KernelIdeal :=
  ⟨IdealRules.named_const.statement Cert.KernelIdeal.κ "gelu_kc" .f32 0xBDD2D3E8#32 _ rfl,
   IdealRules.named_const.statement Cert.KernelIdeal.κ "gelu_k" .f32 0xC0135761#32 _ rfl⟩

section
open Cert.ReferenceIdeal

/-- The reference's run, its results named stage by stage. -/
theorem gmlp_reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v134) = (Read.val_main_v134 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v136) = (Read.val_main_v136 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v137) = (Read.val_main_v137 (F := Ideal) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans (Read.val_main_v134_eq (StableHlo.launchContents m c)),
     (h c).2.1.trans (Read.val_main_v136_eq (StableHlo.launchContents m c)),
     (h c).2.2.1.trans (Read.val_main_v137_eq (StableHlo.launchContents m c)), (h c).2.2.2⟩) (Value.run m g)

end

set_option maxHeartbeats 2000000 in
/-- Over the reals the gMLP call computes what the reference computes: the mixed rows of the
prompts, those of the samples, and the values that go into the cache. -/
theorem gmlp_algebraic : algebraic_KernelIdeal_ReferenceIdeal := by
  pair_intro
  · run_from Cert.KernelIdeal.Gmlp.run_main m g
  · run_from gmlp_reference_run m' g'
    · exact (Cert.KernelIdeal.Gmlp.final_10 m c).symm
    · exact (Cert.KernelIdeal.Gmlp.final_11 m c).symm
    · exact (Cert.KernelIdeal.Gmlp.final_12 m c).symm

end Cert.Proof

end
-- ==== Proof.lean ====
/-
  The proof of `Cert.Claim`: the frames of the three kernels and their references, the named constants of the gMLP call, and
  that over the reals each kernel computes what its reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.EvenClaim
public import proofs.«01_k».proof.Proof.FfnClaim
public import proofs.«01_k».proof.Proof.GmlpClaim
public import Idealize.ShloMosaic.Adequacy
public import Idealize.ShloMosaic.Init

@[expose] public section

noncomputable section

namespace Cert.Proof

open Idealize.ShloMosaic Idealize.SL.Sem

theorem reference_frame : quiescent_Reference := by
  intro m g _
  exact (θ_run Cert.Reference.defs _ _).mono
    (fun r h => ⟨fun c => (h c).2.2.2, sem_eq_zero_of_no_sems (by decide) r.2⟩) (Cert.Reference.Value.run m g)

theorem reference_ideal_frame : quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

theorem reference2_ideal_frame : quiescent_Reference2Ideal := by
  intro m g _
  exact (θ_run Cert.Reference2Ideal.defs _ _).mono
    (fun r h => ⟨fun c => (h c).2.2, sem_eq_zero_of_no_sems (by decide) r.2⟩) (Cert.Reference2Ideal.Value.run m g)

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  gmlp_frame_bits, gmlp_frame, reference_ideal_frame, reference_frame, ffn_frame_bits, ffn_frame, reference2_ideal_frame,
  even_frame_bits, even_frame, even_frame_ref,
  gmlp_preserves, trivial, gmlp_algebraic, trivial, ffn_algebraic, trivial, even_algebraic⟩

end Cert.Proof

end
